-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_ok : Cert.Pre_tables_ok.Facts] (m : (ℓ : Loc Cert.Kernel2.nD Cert.Kernel2.τ Cert.Kernel2.sig) → Buf (Elt Bits) ℓ) : Prop :=
  ∀ c : Dev Cert.Kernel2.nD,
    (Cert.Pre_tables_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_ok : Cert.Pre_tables_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_ok [hPre_tables_ok : Cert.Pre_tables_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables_ok : Cert.Pre_tables_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_ok : Cert.Pre_tables_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_ok [hReference2Ideal : Cert.Reference2Ideal.Facts] [hPre_tables_ok : Cert.Pre_tables_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables_ok : Cert.Pre_tables_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v36)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_ok : Cert.Pre_tables_ok.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_ok := hPre_tables_ok)
    ∧ quiescent_Kernel2Ideal (hKernel2Ideal := hKernel2Ideal) (hPre_tables_ok := hPre_tables_ok)
    ∧ quiescent_Reference2Ideal (hReference2Ideal := hReference2Ideal)
    ∧ quiescent_Reference2Ideal_pre_tables_ok (hReference2Ideal := hReference2Ideal) (hPre_tables_ok := hPre_tables_ok)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_ok := hPre_tables_ok)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_tables_ok.lean ====
abbrev S32 : Shape := ⟨1, ![32]⟩
abbrev S1 : Shape := ⟨1, ![1]⟩
abbrev S23040x2048 : Shape := ⟨2, ![23040, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  shapeCasts_S1_S_ : S1.ShapeCasts S_

variable [Facts]

def fn {F : FTy → Type} [FloatOps F] (main_arg0 : IVec S32 32) (main_arg1 : IVec S1 32) (main_arg2 : FVec F S23040x2048 .f32) (main_arg3 : FVec F S8x2048x5632 .bf16) (main_arg4 : FVec F S8x2048x5632 .bf16) (main_arg5 : FVec F S8x5632x2048 .bf16) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 8#32
  let main_v2 : IVec S32 32 := broadcastInDim S32 ![] bcast_S_S32 main_c_0
  let main_v3 : IVec S32 1 := cmpi .slt main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S8192x6144 : Shape := ⟨2, ![8192, 6144]⟩
abbrev S1x2048 : Shape := ⟨2, ![1, 2048]⟩
abbrev S5632x2048 : Shape := ⟨2, ![5632, 2048]⟩
abbrev S8192x640 : Shape := ⟨2, ![8192, 640]⟩
abbrev S512x128 : Shape := ⟨2, ![512, 128]⟩
abbrev S4096x128 : Shape := ⟨2, ![4096, 128]⟩
abbrev S1x128 : Shape := ⟨2, ![1, 128]⟩
abbrev S128x2048 : Shape := ⟨2, ![128, 2048]⟩
abbrev S512x256 : Shape := ⟨2, ![512, 256]⟩
abbrev S256x256 : Shape := ⟨2, ![256, 256]⟩
abbrev S512x1 : Shape := ⟨2, ![512, 1]⟩
abbrev S512x512 : Shape := ⟨2, ![512, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S8192x6144, .bf16⟩
  | .hbm, ⟨1, _⟩ => ⟨S1x2048, .f32⟩
  | .hbm, ⟨2, _⟩ => ⟨S5632x2048, .f32⟩
  | .hbm, ⟨3, _⟩ => ⟨S8192x640, .bf16⟩
  | .hbm, ⟨4, _⟩ => ⟨S5632x2048, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128, .f32⟩
  | .local _ .vmem, ⟨7, _⟩ => ⟨S1x128, .f32⟩
  | .local _ .vmem, ⟨8, _⟩ => ⟨S128x2048, .f32⟩
  | .local _ .vmem, ⟨9, _⟩ => ⟨S128x2048, .f32⟩
  | .local _ .vmem, ⟨10, _⟩ => ⟨S512x128, .bf16⟩
  | .local _ .vmem, ⟨11, _⟩ => ⟨S512x128, .bf16⟩
  | .local _ .vmem, ⟨12, _⟩ => ⟨S128x2048, .bf16⟩
  | .local _ .vmem, ⟨13, _⟩ => ⟨S128x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 5, 8], ![false, false, false]⟩

def k0_mult1 (i : grid0.Coords) : BitVec 32 :=
  let arg2 : BitVec 32 := BitVec.ofNat 32 (i 2).val
  let c2_i32 : BitVec 32 := 2#32
  let v14 : BitVec 32 := Scalar.muli arg2 c2_i32
  let c256_i32 : BitVec 32 := 256#32
  let v15 : BitVec 32 := Scalar.muli v14 c256_i32
  v15
def k0_off1 (i : grid0.Coords) : Fin 2 → Nat :=
  let arg2 : BitVec 32 := BitVec.ofNat 32 (i 2).val
  let c2_i32 : BitVec 32 := 2#32
  let v14 : BitVec 32 := Scalar.muli arg2 c2_i32
  let c256_i32 : BitVec 32 := 256#32
  let v15 : BitVec 32 := Scalar.muli v14 c256_i32
  let v16 : BitVec 32 := v15
  let v17 : Index := Scalar.indexCast v16
  let c0_5 : Index := 0#32
  ![v17.toNat, 0]
def k0_mult2 (i : grid0.Coords) : BitVec 32 :=
  let arg2 : BitVec 32 := BitVec.ofNat 32 (i 2).val
  let c2_i32_26 : BitVec 32 := 2#32
  let v85 : BitVec 32 := Scalar.muli arg2 c2_i32_26
  let c256_i32_27 : BitVec 32 := 256#32
  let v86 : BitVec 32 := Scalar.muli v85 c256_i32_27
  v86
def k0_cond1 (i : grid0.Coords) : BitVec 1 :=
  let arg2 : BitVec 32 := BitVec.ofNat 32 (i 2).val
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let c1_i32_35 : BitVec 32 := 1#32
  let v101 : BitVec 1 := Scalar.cmpi .eq v100 c1_i32_35
  let v102 : BitVec 32 := Scalar.extui v101
  let c0_i32_36 : BitVec 32 := 0#32
  let v103 : BitVec 1 := Scalar.cmpi .ne v102 c0_i32_36
  v103

def k0_mult3 (i : grid0.Coords) : BitVec 32 :=
  let arg2 : BitVec 32 := BitVec.ofNat 32 (i 2).val
  let c1_i32_55 : BitVec 32 := 1#32
  let v144 : BitVec 32 := Scalar.subi arg2 c1_i32_55
  let c2_i32_56 : BitVec 32 := 2#32
  let v145 : BitVec 32 := Scalar.muli v144 c2_i32_56
  let c256_i32_57 : BitVec 32 := 256#32
  let v146 : BitVec 32 := Scalar.muli v145 c256_i32_57
  v146
def k0_off2 (i : grid0.Coords) : Fin 2 → Nat :=
  let arg2 : BitVec 32 := BitVec.ofNat 32 (i 2).val
  let c1_i32_55 : BitVec 32 := 1#32
  let v144 : BitVec 32 := Scalar.subi arg2 c1_i32_55
  let c2_i32_56 : BitVec 32 := 2#32
  let v145 : BitVec 32 := Scalar.muli v144 c2_i32_56
  let c256_i32_57 : BitVec 32 := 256#32
  let v146 : BitVec 32 := Scalar.muli v145 c256_i32_57
  let v147 : BitVec 32 := v146
  let v148 : Index := Scalar.indexCast v147
  let c0_58 : Index := 0#32
  ![v148.toNat, 0]
def k0_mult4 (i : grid0.Coords) : BitVec 32 :=
  let arg2 : BitVec 32 := BitVec.ofNat 32 (i 2).val
  let c1_i32_55 : BitVec 32 := 1#32
  let v144 : BitVec 32 := Scalar.subi arg2 c1_i32_55
  let c2_i32_74 : BitVec 32 := 2#32
  let v204 : BitVec 32 := Scalar.muli v144 c2_i32_74
  let c256_i32_75 : BitVec 32 := 256#32
  let v205 : BitVec 32 := Scalar.muli v204 c256_i32_75
  v205
@[reducible] def k0_t1_loop (i : grid0.Coords) : Scf.Loop 32 :=
  let c0_i32_44 : BitVec 32 := 0#32
  let arg2 : BitVec 32 := BitVec.ofNat 32 (i 2).val
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_46 : BitVec 32 := 1#32
  ⟨c0_i32_44, v126, c1_i32_46⟩
def k0_mult5 (i : grid0.Coords) (k0_t1 : Fin (k0_t1_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c1_i32_46 : BitVec 32 := 1#32
  let arg10 : BitVec 32 := Scf.iv c0_i32_44 c1_i32_46 k0_t1
  let v146 : BitVec 32 := Scalar.muli c2_i32_56 arg10
  let v147 : BitVec 32 := Scalar.subi v145 v146
  let c2_i32_57 : BitVec 32 := 2#32
  let v148 : BitVec 32 := Scalar.muli v147 c2_i32_57
  let c256_i32_58 : BitVec 32 := 256#32
  let v149 : BitVec 32 := Scalar.muli v148 c256_i32_58
  v149
def k0_off3 (i : grid0.Coords) (k0_t1 : Fin (k0_t1_loop i).trips) : Fin 2 → Nat :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c1_i32_46 : BitVec 32 := 1#32
  let arg10 : BitVec 32 := Scf.iv c0_i32_44 c1_i32_46 k0_t1
  let v146 : BitVec 32 := Scalar.muli c2_i32_56 arg10
  let v147 : BitVec 32 := Scalar.subi v145 v146
  let c2_i32_57 : BitVec 32 := 2#32
  let v148 : BitVec 32 := Scalar.muli v147 c2_i32_57
  let c256_i32_58 : BitVec 32 := 256#32
  let v149 : BitVec 32 := Scalar.muli v148 c256_i32_58
  let v150 : BitVec 32 := v149
  let v151 : Index := Scalar.indexCast v150
  let c0_59 : Index := 0#32
  ![v151.toNat, 0]
def k0_mult6 (i : grid0.Coords) (k0_t1 : Fin (k0_t1_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c1_i32_46 : BitVec 32 := 1#32
  let arg10 : BitVec 32 := Scf.iv c0_i32_44 c1_i32_46 k0_t1
  let v146 : BitVec 32 := Scalar.muli c2_i32_56 arg10
  let v147 : BitVec 32 := Scalar.subi v145 v146
  let c2_i32_75 : BitVec 32 := 2#32
  let v207 : BitVec 32 := Scalar.muli v147 c2_i32_75
  let c256_i32_76 : BitVec 32 := 256#32
  let v208 : BitVec 32 := Scalar.muli v207 c256_i32_76
  v208
def k0_mult7 (i : grid0.Coords) (k0_t1 : Fin (k0_t1_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c1_i32_46 : BitVec 32 := 1#32
  let arg10 : BitVec 32 := Scf.iv c0_i32_44 c1_i32_46 k0_t1
  let v146 : BitVec 32 := Scalar.muli c2_i32_56 arg10
  let v147 : BitVec 32 := Scalar.subi v145 v146
  let c1_i32_79 : BitVec 32 := 1#32
  let v213 : BitVec 32 := Scalar.subi v147 c1_i32_79
  let c2_i32_80 : BitVec 32 := 2#32
  let v214 : BitVec 32 := Scalar.muli v213 c2_i32_80
  let c256_i32_81 : BitVec 32 := 256#32
  let v215 : BitVec 32 := Scalar.muli v214 c256_i32_81
  v215
def k0_off4 (i : grid0.Coords) (k0_t1 : Fin (k0_t1_loop i).trips) : Fin 2 → Nat :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c1_i32_46 : BitVec 32 := 1#32
  let arg10 : BitVec 32 := Scf.iv c0_i32_44 c1_i32_46 k0_t1
  let v146 : BitVec 32 := Scalar.muli c2_i32_56 arg10
  let v147 : BitVec 32 := Scalar.subi v145 v146
  let c1_i32_79 : BitVec 32 := 1#32
  let v213 : BitVec 32 := Scalar.subi v147 c1_i32_79
  let c2_i32_80 : BitVec 32 := 2#32
  let v214 : BitVec 32 := Scalar.muli v213 c2_i32_80
  let c256_i32_81 : BitVec 32 := 256#32
  let v215 : BitVec 32 := Scalar.muli v214 c256_i32_81
  let v216 : BitVec 32 := v215
  let v217 : Index := Scalar.indexCast v216
  let c0_82 : Index := 0#32
  ![v217.toNat, 0]
def k0_mult8 (i : grid0.Coords) (k0_t1 : Fin (k0_t1_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c1_i32_46 : BitVec 32 := 1#32
  let arg10 : BitVec 32 := Scf.iv c0_i32_44 c1_i32_46 k0_t1
  let v146 : BitVec 32 := Scalar.muli c2_i32_56 arg10
  let v147 : BitVec 32 := Scalar.subi v145 v146
  let c1_i32_79 : BitVec 32 := 1#32
  let v213 : BitVec 32 := Scalar.subi v147 c1_i32_79
  let c2_i32_98 : BitVec 32 := 2#32
  let v273 : BitVec 32 := Scalar.muli v213 c2_i32_98
  let c256_i32_99 : BitVec 32 := 256#32
  let v274 : BitVec 32 := Scalar.muli v273 c256_i32_99
  v274
@[reducible] def k0_t2_loop (i : grid0.Coords) : Scf.Loop 32 :=
  let c0_i32_44 : BitVec 32 := 0#32
  let arg2 : BitVec 32 := BitVec.ofNat 32 (i 2).val
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let v123 : BitVec 32 := Scalar.addi c0_i32_44 v122
  let c1_i32_47 : BitVec 32 := 1#32
  ⟨v126, v123, c1_i32_47⟩
def k0_mult9 (i : grid0.Coords) (k0_t2 : Fin (k0_t2_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_47 : BitVec 32 := 1#32
  let arg10 : BitVec 32 := Scf.iv v126 c1_i32_47 k0_t2
  let v146 : BitVec 32 := Scalar.muli c2_i32_56 arg10
  let v147 : BitVec 32 := Scalar.subi v145 v146
  let c2_i32_57 : BitVec 32 := 2#32
  let v148 : BitVec 32 := Scalar.muli v147 c2_i32_57
  let c256_i32_58 : BitVec 32 := 256#32
  let v149 : BitVec 32 := Scalar.muli v148 c256_i32_58
  v149
def k0_off5 (i : grid0.Coords) (k0_t2 : Fin (k0_t2_loop i).trips) : Fin 2 → Nat :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_47 : BitVec 32 := 1#32
  let arg10 : BitVec 32 := Scf.iv v126 c1_i32_47 k0_t2
  let v146 : BitVec 32 := Scalar.muli c2_i32_56 arg10
  let v147 : BitVec 32 := Scalar.subi v145 v146
  let c2_i32_57 : BitVec 32 := 2#32
  let v148 : BitVec 32 := Scalar.muli v147 c2_i32_57
  let c256_i32_58 : BitVec 32 := 256#32
  let v149 : BitVec 32 := Scalar.muli v148 c256_i32_58
  let v150 : BitVec 32 := v149
  let v151 : Index := Scalar.indexCast v150
  let c0_59 : Index := 0#32
  ![v151.toNat, 0]
def k0_mult10 (i : grid0.Coords) (k0_t2 : Fin (k0_t2_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_47 : BitVec 32 := 1#32
  let arg10 : BitVec 32 := Scf.iv v126 c1_i32_47 k0_t2
  let v146 : BitVec 32 := Scalar.muli c2_i32_56 arg10
  let v147 : BitVec 32 := Scalar.subi v145 v146
  let c2_i32_75 : BitVec 32 := 2#32
  let v207 : BitVec 32 := Scalar.muli v147 c2_i32_75
  let c256_i32_76 : BitVec 32 := 256#32
  let v208 : BitVec 32 := Scalar.muli v207 c256_i32_76
  v208
def k0_mult11 (i : grid0.Coords) (k0_t2 : Fin (k0_t2_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_47 : BitVec 32 := 1#32
  let arg10 : BitVec 32 := Scf.iv v126 c1_i32_47 k0_t2
  let v146 : BitVec 32 := Scalar.muli c2_i32_56 arg10
  let v147 : BitVec 32 := Scalar.subi v145 v146
  let c1_i32_79 : BitVec 32 := 1#32
  let v213 : BitVec 32 := Scalar.subi v147 c1_i32_79
  let c2_i32_80 : BitVec 32 := 2#32
  let v214 : BitVec 32 := Scalar.muli v213 c2_i32_80
  let c256_i32_81 : BitVec 32 := 256#32
  let v215 : BitVec 32 := Scalar.muli v214 c256_i32_81
  v215
def k0_off6 (i : grid0.Coords) (k0_t2 : Fin (k0_t2_loop i).trips) : Fin 2 → Nat :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_47 : BitVec 32 := 1#32
  let arg10 : BitVec 32 := Scf.iv v126 c1_i32_47 k0_t2
  let v146 : BitVec 32 := Scalar.muli c2_i32_56 arg10
  let v147 : BitVec 32 := Scalar.subi v145 v146
  let c1_i32_79 : BitVec 32 := 1#32
  let v213 : BitVec 32 := Scalar.subi v147 c1_i32_79
  let c2_i32_80 : BitVec 32 := 2#32
  let v214 : BitVec 32 := Scalar.muli v213 c2_i32_80
  let c256_i32_81 : BitVec 32 := 256#32
  let v215 : BitVec 32 := Scalar.muli v214 c256_i32_81
  let v216 : BitVec 32 := v215
  let v217 : Index := Scalar.indexCast v216
  let c0_82 : Index := 0#32
  ![v217.toNat, 0]
def k0_mult12 (i : grid0.Coords) (k0_t2 : Fin (k0_t2_loop i).trips) : BitVec 32 :=
  let arg2 : BitVec 32 := BitVec.ofNat 32 (i 2).val
  let c1_i32_55 : BitVec 32 := 1#32
  let v144 : BitVec 32 := Scalar.subi arg2 c1_i32_55
  let c2_i32_30 : BitVec 32 := 2#32
  let c0_i32_31 : BitVec 32 := 0#32
  let v91 : BitVec 1 := Scalar.cmpi .eq c2_i32_30 c0_i32_31
  let c1_i32 : BitVec 32 := 1#32
  let v92 : BitVec 32 := Scalar.select v91 c1_i32 c2_i32_30
  let v93 : BitVec 32 := Scalar.remsi arg2 v92
  let c0_i32_33 : BitVec 32 := 0#32
  let v95 : BitVec 1 := Scalar.cmpi .slt v93 c0_i32_33
  let c0_i32_34 : BitVec 32 := 0#32
  let v96 : BitVec 1 := Scalar.cmpi .slt v92 c0_i32_34
  let v97 : BitVec 1 := Scalar.xori v95 v96
  let c0_i32_32 : BitVec 32 := 0#32
  let v94 : BitVec 1 := Scalar.cmpi .ne v93 c0_i32_32
  let v98 : BitVec 1 := Scalar.andi v97 v94
  let v99 : BitVec 32 := Scalar.addi v93 v92
  let v100 : BitVec 32 := Scalar.select v98 v99 v93
  let v145 : BitVec 32 := Scalar.subi v144 v100
  let c2_i32_56 : BitVec 32 := 2#32
  let c0_i32_44 : BitVec 32 := 0#32
  let c0_i32_38 : BitVec 32 := 0#32
  let v106 : BitVec 1 := Scalar.cmpi .sgt arg2 c0_i32_38
  let v107 : BitVec 32 := Scalar.extui v106
  let c0_i32_39 : BitVec 32 := 0#32
  let v108 : BitVec 1 := Scalar.cmpi .slt arg2 c0_i32_39
  let v109 : BitVec 32 := Scalar.extui v108
  let v110 : BitVec 32 := Scalar.subi v107 v109
  let c2_i32_37 : BitVec 32 := 2#32
  let c0_i32_40 : BitVec 32 := 0#32
  let v111 : BitVec 1 := Scalar.cmpi .sgt c2_i32_37 c0_i32_40
  let v112 : BitVec 32 := Scalar.extui v111
  let c0_i32_41 : BitVec 32 := 0#32
  let v113 : BitVec 1 := Scalar.cmpi .slt c2_i32_37 c0_i32_41
  let v114 : BitVec 32 := Scalar.extui v113
  let v115 : BitVec 32 := Scalar.subi v112 v114
  let v116 : BitVec 1 := Scalar.cmpi .ne v110 v115
  let v117 : BitVec 32 := Scalar.remsi arg2 c2_i32_37
  let c0_i32_42 : BitVec 32 := 0#32
  let v118 : BitVec 1 := Scalar.cmpi .ne v117 c0_i32_42
  let v119 : BitVec 1 := Scalar.andi v116 v118
  let v105 : BitVec 32 := Scalar.divsi arg2 c2_i32_37
  let c1_i32_43 : BitVec 32 := 1#32
  let v120 : BitVec 32 := Scalar.subi v105 c1_i32_43
  let v121 : BitVec 32 := Scalar.select v119 v120 v105
  let v122 : BitVec 32 := Scalar.subi v121 c0_i32_44
  let c1_i32_45 : BitVec 32 := 1#32
  let v124 : BitVec 32 := Scalar.divsi v122 c1_i32_45
  let v125 : BitVec 32 := Scalar.muli v124 c1_i32_45
  let v126 : BitVec 32 := Scalar.addi c0_i32_44 v125
  let c1_i32_47 : BitVec 32 := 1#32
  let arg10 : BitVec 32 := Scf.iv v126 c1_i32_47 k0_t2
  let v146 : BitVec 32 := Scalar.muli c2_i32_56 arg10
  let v147 : BitVec 32 := Scalar.subi v145 v146
  let c1_i32_79 : BitVec 32 := 1#32
  let v213 : BitVec 32 := Scalar.subi v147 c1_i32_79
  let c2_i32_98 : BitVec 32 := 2#32
  let v273 : BitVec 32 := Scalar.muli v213 c2_i32_98
  let c256_i32_99 : BitVec 32 := 256#32
  let v274 : BitVec 32 := Scalar.muli v273 c256_i32_99
  v274
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c11_i32 : BitVec 32 := 11#32
  let v2 : BitVec 32 := Scalar.addi c11_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c27_i32 : BitVec 32 := 27#32
  let v0 : BitVec 32 := Scalar.addi c27_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg1
  let c8_i32 : BitVec 32 := 8#32
  let v2 : BitVec 32 := Scalar.muli v1 c8_i32
  let v3 : BitVec 32 := Scalar.addi v2 arg2
  let c43_i32 : BitVec 32 := 43#32
  let v4 : BitVec 32 := Scalar.minsi v3 c43_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg1
  let c8_i32 : BitVec 32 := 8#32
  let v2 : BitVec 32 := Scalar.muli v1 c8_i32
  let v3 : BitVec 32 := Scalar.addi v2 arg2
  let c43_i32 : BitVec 32 := 43#32
  let v4 : BitVec 32 := Scalar.minsi v3 c43_i32
  let c0_i32 : BitVec 32 := 0#32
  let c0_i32_0 : BitVec 32 := 0#32
  ![v4.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x6144 : Shape := ⟨2, ![8192, 6144]⟩
abbrev S1x2048 : Shape := ⟨2, ![1, 2048]⟩
abbrev S5632x2048 : Shape := ⟨2, ![5632, 2048]⟩
abbrev S_ : Shape := ⟨0, ![]⟩
abbrev S2x4096x3x16x128 : Shape := ⟨5, ![2, 4096, 3, 16, 128]⟩
abbrev S3x2x16x4096x128 : Shape := ⟨5, ![3, 2, 16, 4096, 128]⟩
abbrev S3x2x5x4096x128 : Shape := ⟨5, ![3, 2, 5, 4096, 128]⟩
abbrev S1x2x5x4096x128 : Shape := ⟨5, ![1, 2, 5, 4096, 128]⟩
abbrev S2x5x4096x128 : Shape := ⟨4, ![2, 5, 4096, 128]⟩
abbrev S2x5x4096x4096 : Shape := ⟨4, ![2, 5, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x5x4096 : Shape := ⟨3, ![2, 5, 4096]⟩
abbrev S2x5x4096x1 : Shape := ⟨4, ![2, 5, 4096, 1]⟩
abbrev S16x1x128 : Shape := ⟨3, ![16, 1, 128]⟩
abbrev S5x1x128 : Shape := ⟨3, ![5, 1, 128]⟩
abbrev S1x5x1x128 : Shape := ⟨4, ![1, 5, 1, 128]⟩
abbrev S2x4096x5x128 : Shape := ⟨4, ![2, 4096, 5, 128]⟩
abbrev S8192x640 : Shape := ⟨2, ![8192, 640]⟩

abbrev nBuf : Space → Nat
  | .hbm => 103
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1x2048, .f32⟩
  | .hbm, ⟨2, _⟩ => ⟨S5632x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x6144, .f32⟩
  | .hbm, ⟨8, _⟩ => ⟨S2x4096x3x16x128, .f32⟩
  | .hbm, ⟨9, _⟩ => ⟨S3x2x16x4096x128, .f32⟩
  | .hbm, ⟨10, _⟩ => ⟨S3x2x5x4096x128, .f32⟩
  | .hbm, ⟨11, _⟩ => ⟨S1x2x5x4096x128, .f32⟩
  | .hbm, ⟨12, _⟩ => ⟨S2x5x4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x5x4096x128, .f32⟩
  | .hbm, ⟨17, _⟩ => ⟨S2x5x4096x128, .f32⟩
  | .hbm, ⟨18, _⟩ => ⟨S1x2x5x4096x128, .f32⟩
  | .hbm, ⟨19, _⟩ => ⟨S2x5x4096x128, .f32⟩
  | .hbm, ⟨20, _⟩ => ⟨S1x2x5x4096x128, .f32⟩
  | .hbm, ⟨21, _⟩ => ⟨S2x5x4096x128, .f32⟩
  | .hbm, ⟨22, _⟩ => ⟨S2x5x4096x4096, .f32⟩
  | .hbm, ⟨23, _⟩ => ⟨S2x5x4096x4096, .f32⟩
  | .hbm, ⟨24, _⟩ => ⟨S2x5x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S2x5x4096x4096, .f32⟩
  | .hbm, ⟨32, _⟩ => ⟨S2x5x4096x4096, .f32⟩
  | .hbm, ⟨33, _⟩ => ⟨S_, .f32⟩
  | .hbm, ⟨34, _⟩ => ⟨S2x5x4096x4096, .f32⟩
  | .hbm, ⟨35, _⟩ => ⟨S2x5x4096x4096, .f32⟩
  | .hbm, ⟨36, _⟩ => ⟨S2x5x4096x4096, .f32⟩
  | .hbm, ⟨37, _⟩ => ⟨S2x5x4096x4096, .f32⟩
  | .hbm, ⟨38, _⟩ => ⟨S2x5x4096x4096, .i1⟩
  | .hbm, ⟨39, _⟩ => ⟨S2x5x4096x4096, .f32⟩
  | .hbm, ⟨40, _⟩ => ⟨S2x5x4096x4096, .f32⟩
  | .hbm, ⟨41, _⟩ => ⟨S2x5x4096x4096, .f32⟩
  | .hbm, ⟨42, _⟩ => ⟨S2x5x4096x4096, .f32⟩
  | .hbm, ⟨43, _⟩ => ⟨S2x5x4096x4096, .f32⟩
  | .hbm, ⟨44, _⟩ => ⟨S2x5x4096x4096, .f32⟩
  | .hbm, ⟨45, _⟩ => ⟨S2x5x4096x4096, .f32⟩
  | .hbm, ⟨46, _⟩ => ⟨S2x5x4096x4096, .f32⟩
  | .hbm, ⟨47, _⟩ => ⟨S2x5x4096x4096, .f32⟩
  | .hbm, ⟨48, _⟩ => ⟨S_, .f32⟩
  | .hbm, ⟨49, _⟩ => ⟨S_, .f32⟩
  | .hbm, ⟨50, _⟩ => ⟨S2x5x4096x4096, .i1⟩
  | .hbm, ⟨51, _⟩ => ⟨S2x5x4096x4096, .f32⟩
  | .hbm, ⟨52, _⟩ => ⟨S2x5x4096x4096, .f32⟩
  | .hbm, ⟨53, _⟩ => ⟨S_, .f32⟩
  | .hbm, ⟨54, _⟩ => ⟨S_, .f32⟩
  | .hbm, ⟨55, _⟩ => ⟨S2x5x4096x4096, .f32⟩
  | .hbm, ⟨56, _⟩ => ⟨S2x5x4096x4096, .f32⟩
  | .hbm, ⟨57, _⟩ => ⟨S2x5x4096x4096, .f32⟩
  | .hbm, ⟨58, _⟩ => ⟨S_, .f32⟩
  | .hbm, ⟨59, _⟩ => ⟨S2x5x4096x4096, .f32⟩
  | .hbm, ⟨60, _⟩ => ⟨S2x5x4096x4096, .f32⟩
  | .hbm, ⟨61, _⟩ => ⟨S2x5x4096x4096, .f32⟩
  | .hbm, ⟨62, _⟩ => ⟨S2x5x4096x4096, .f32⟩
  | .hbm, ⟨63, _⟩ => ⟨S2x5x4096x4096, .i1⟩
  | .hbm, ⟨64, _⟩ => ⟨S2x5x4096x4096, .f32⟩
  | .hbm, ⟨65, _⟩ => ⟨S2x5x4096x4096, .f32⟩
  | .hbm, ⟨66, _⟩ => ⟨S2x5x4096x4096, .f32⟩
  | .hbm, ⟨67, _⟩ => ⟨S2x5x4096x4096, .f32⟩
  | .hbm, ⟨68, _⟩ => ⟨S2x5x4096x4096, .f32⟩
  | .hbm, ⟨69, _⟩ => ⟨S2x5x4096x4096, .f32⟩
  | .hbm, ⟨70, _⟩ => ⟨S2x5x4096x4096, .f32⟩
  | .hbm, ⟨71, _⟩ => ⟨S2x5x4096x4096, .f32⟩
  | .hbm, ⟨72, _⟩ => ⟨S2x5x4096x4096, .f32⟩
  | .hbm, ⟨73, _⟩ => ⟨S2x5x4096x4096, .f32⟩
  | .hbm, ⟨74, _⟩ => ⟨S2x5x4096x4096, .f32⟩
  | .hbm, ⟨75, _⟩ => ⟨S_, .f32⟩
  | .hbm, ⟨76, _⟩ => ⟨S_, .f32⟩
  | .hbm, ⟨77, _⟩ => ⟨S2x5x4096x4096, .i1⟩
  | .hbm, ⟨78, _⟩ => ⟨S2x5x4096x4096, .f32⟩
  | .hbm, ⟨79, _⟩ => ⟨S2x5x4096x4096, .f32⟩
  | .hbm, ⟨80, _⟩ => ⟨S2x5x4096x128, .f32⟩
  | .hbm, ⟨81, _⟩ => ⟨S2x5x4096x128, .f32⟩
  | .hbm, ⟨82, _⟩ => ⟨S_, .f32⟩
  | .hbm, ⟨83, _⟩ => ⟨S2x5x4096, .f32⟩
  | .hbm, ⟨84, _⟩ => ⟨S2x5x4096x1, .f32⟩
  | .hbm, ⟨85, _⟩ => ⟨S_, .f32⟩
  | .hbm, ⟨86, _⟩ => ⟨S2x5x4096x1, .f32⟩
  | .hbm, ⟨87, _⟩ => ⟨S2x5x4096x1, .f32⟩
  | .hbm, ⟨88, _⟩ => ⟨S16x1x128, .f32⟩
  | .hbm, ⟨89, _⟩ => ⟨S5x1x128, .f32⟩
  | .hbm, ⟨90, _⟩ => ⟨S_, .f32⟩
  | .hbm, ⟨91, _⟩ => ⟨S2x5x4096x1, .f32⟩
  | .hbm, ⟨92, _⟩ => ⟨S2x5x4096x1, .f32⟩
  | .hbm, ⟨93, _⟩ => ⟨S2x5x4096x1, .f32⟩
  | .hbm, ⟨94, _⟩ => ⟨S2x5x4096x128, .f32⟩
  | .hbm, ⟨95, _⟩ => ⟨S2x5x4096x128, .f32⟩
  | .hbm, ⟨96, _⟩ => ⟨S1x5x1x128, .f32⟩
  | .hbm, ⟨97, _⟩ => ⟨S2x5x4096x128, .f32⟩
  | .hbm, ⟨98, _⟩ => ⟨S2x5x4096x128, .f32⟩
  | .hbm, ⟨99, _⟩ => ⟨S2x4096x5x128, .f32⟩
  | .hbm, ⟨100, _⟩ => ⟨S8192x640, .f32⟩
  | .hbm, ⟨101, _⟩ => ⟨S8192x640, .bf16⟩
  | .hbm, ⟨102, _⟩ => ⟨S5632x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v26 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_call2_cst : Ref sig .tc := ⟨.hbm, 53, rfl⟩
abbrev main_call2_v0 : Ref sig .tc := ⟨.hbm, 54, rfl⟩
abbrev main_v28 : Ref sig .tc := ⟨.hbm, 55, rfl⟩
abbrev main_v29 : Ref sig .tc := ⟨.hbm, 56, rfl⟩
abbrev main_call3_v0 : Ref sig .tc := ⟨.hbm, 57, rfl⟩
abbrev main_call3_call0_cst : Ref sig .tc := ⟨.hbm, 58, rfl⟩
abbrev main_call3_call0_v0 : Ref sig .tc := ⟨.hbm, 59, rfl⟩
abbrev main_call3_call0_v1 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_v8 : Ref sig .tc := ⟨.hbm, 67, rfl⟩
abbrev main_call3_call0_v9 : Ref sig .tc := ⟨.hbm, 68, rfl⟩
abbrev main_call3_call0_v10 : Ref sig .tc := ⟨.hbm, 69, rfl⟩
abbrev main_call3_call0_v11 : Ref sig .tc := ⟨.hbm, 70, rfl⟩
abbrev main_call3_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_3 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_4 : Ref sig .tc := ⟨.hbm, 82, rfl⟩
abbrev main_v36 : Ref sig .tc := ⟨.hbm, 83, rfl⟩
abbrev main_v37 : Ref sig .tc := ⟨.hbm, 84, rfl⟩
abbrev main_cst_5 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_6 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩

abbrev nD : Nat := 1
abbrev τ : Topo := Topo.v7x

variable {F : FTy → Type} [FloatOps F]
-- ==== Kernel2.lean ====
abbrev S32 : Shape := ⟨1, ![32]⟩
abbrev S1 : Shape := ⟨1, ![1]⟩
abbrev S23040x2048 : Shape := ⟨2, ![23040, 2048]⟩
abbrev S8x2048x5632 : Shape := ⟨3, ![8, 2048, 5632]⟩
abbrev S8x5632x2048 : Shape := ⟨3, ![8, 5632, 2048]⟩
abbrev S720x2048 : Shape := ⟨2, ![720, 2048]⟩
abbrev S1x2048x512 : Shape := ⟨3, ![1, 2048, 512]⟩
abbrev S1x512x2048 : Shape := ⟨3, ![1, 512, 2048]⟩
abbrev S2048x512 : Shape := ⟨2, ![2048, 512]⟩
abbrev S720x512 : Shape := ⟨2, ![720, 512]⟩
abbrev S512x2048 : Shape := ⟨2, ![512, 2048]⟩

abbrev nBuf : Space → Nat
  | .hbm => 5
  | .vmem => 11
  | .smem => 2
  | _ => 0

abbrev bufTy : (tb : Table) → Fin (tcTables nBuf tb) → BufTy
  | .hbm, ⟨0, _⟩ => ⟨S23040x2048, .f32⟩
  | .hbm, ⟨1, _⟩ => ⟨S8x2048x5632, .bf16⟩
  | .hbm, ⟨2, _⟩ => ⟨S8x2048x5632, .bf16⟩
  | .hbm, ⟨3, _⟩ => ⟨S8x5632x2048, .bf16⟩
  | .hbm, ⟨4, _⟩ => ⟨S23040x2048, .f32⟩
  | .local _ .vmem, ⟨0, _⟩ => ⟨S720x2048, .f32⟩
  | .local _ .vmem, ⟨1, _⟩ => ⟨S720x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S720x2048, .f32⟩
  | .local _ .vmem, ⟨9, _⟩ => ⟨S720x2048, .f32⟩
  | .local _ .vmem, ⟨10, _⟩ => ⟨S720x2048, .bf16⟩
  | .local _ .smem, ⟨0, _⟩ => ⟨S32, .i32⟩
  | .local _ .smem, ⟨1, _⟩ => ⟨S1, .i32⟩
  | _, _ => ⟨S23040x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S720x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S720x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S32 : Shape := ⟨1, ![32]⟩
abbrev S1 : Shape := ⟨1, ![1]⟩
abbrev S23040x2048 : Shape := ⟨2, ![23040, 2048]⟩
abbrev S8x2048x5632 : Shape := ⟨3, ![8, 2048, 5632]⟩
abbrev S8x5632x2048 : Shape := ⟨3, ![8, 5632, 2048]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S8x5632x23040 : Shape := ⟨3, ![8, 5632, 23040]⟩
abbrev S8x23040x5632 : Shape := ⟨3, ![8, 23040, 5632]⟩
abbrev S8x23040x2048 : Shape := ⟨3, ![8, 23040, 2048]⟩
abbrev S8x32x720x2048 : Shape := ⟨4, ![8, 32, 720, 2048]⟩
abbrev S8x32 : Shape := ⟨2, ![8, 32]⟩
abbrev S8x32x1x1 : Shape := ⟨4, ![8, 32, 1, 1]⟩
abbrev S32x720x2048 : Shape := ⟨3, ![32, 720, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32, .i32⟩
  | .hbm, ⟨1, _⟩ => ⟨S1, .i32⟩
  | .hbm, ⟨2, _⟩ => ⟨S23040x2048, .f32⟩
  | .hbm, ⟨3, _⟩ => ⟨S8x2048x5632, .bf16⟩
  | .hbm, ⟨4, _⟩ => ⟨S8x2048x5632, .bf16⟩
  | .hbm, ⟨5, _⟩ => ⟨S8x5632x2048, .bf16⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S32x1, .i32⟩
  | .hbm, ⟨11, _⟩ => ⟨S8, .i32⟩
  | .hbm, ⟨12, _⟩ => ⟨S1x8, .i32⟩
  | .hbm, ⟨13, _⟩ => ⟨S32x8, .i32⟩
  | .hbm, ⟨14, _⟩ => ⟨S32x8, .i32⟩
  | .hbm, ⟨15, _⟩ => ⟨S32x8, .i1⟩
  | .hbm, ⟨16, _⟩ => ⟨S32x1, .i1⟩
  | .hbm, ⟨17, _⟩ => ⟨S32x8, .i1⟩
  | .hbm, ⟨18, _⟩ => ⟨S32x8, .i1⟩
  | .hbm, ⟨19, _⟩ => ⟨S8x2048x5632, .f32⟩
  | .hbm, ⟨20, _⟩ => ⟨S8x5632x23040, .f32⟩
  | .hbm, ⟨21, _⟩ => ⟨S8x23040x5632, .f32⟩
  | .hbm, ⟨22, _⟩ => ⟨S8x2048x5632, .f32⟩
  | .hbm, ⟨23, _⟩ => ⟨S8x5632x23040, .f32⟩
  | .hbm, ⟨24, _⟩ => ⟨S8x23040x5632, .f32⟩
  | .hbm, ⟨25, _⟩ => ⟨S8x23040x5632, .f32⟩
  | .hbm, ⟨26, _⟩ => ⟨S8x23040x5632, .f32⟩
  | .hbm, ⟨27, _⟩ => ⟨S_, .f32⟩
  | .hbm, ⟨28, _⟩ => ⟨S8x23040x5632, .f32⟩
  | .hbm, ⟨29, _⟩ => ⟨S8x23040x5632, .f32⟩
  | .hbm, ⟨30, _⟩ => ⟨S_, .f32⟩
  | .hbm, ⟨31, _⟩ => ⟨S8x23040x5632, .f32⟩
  | .hbm, ⟨32, _⟩ => ⟨S8x23040x5632, .f32⟩
  | .hbm, ⟨33, _⟩ => ⟨S8x23040x5632, .f32⟩
  | .hbm, ⟨34, _⟩ => ⟨S8x23040x5632, .f32⟩
  | .hbm, ⟨35, _⟩ => ⟨S8x5632x2048, .f32⟩
  | .hbm, ⟨36, _⟩ => ⟨S8x23040x2048, .f32⟩
  | .hbm, ⟨37, _⟩ => ⟨S8x32x720x2048, .f32⟩
  | .hbm, ⟨38, _⟩ => ⟨S8x32, .i1⟩
  | .hbm, ⟨39, _⟩ => ⟨S8x32x1x1, .i1⟩
  | .hbm, ⟨40, _⟩ => ⟨S_, .f32⟩
  | .hbm, ⟨41, _⟩ => ⟨S_, .f32⟩
  | .hbm, ⟨42, _⟩ => ⟨S8x32x720x2048, .i1⟩
  | .hbm, ⟨43, _⟩ => ⟨S8x32x720x2048, .f32⟩
  | .hbm, ⟨44, _⟩ => ⟨S8x32x720x2048, .f32⟩
  | .hbm, ⟨45, _⟩ => ⟨S_, .f32⟩
  | .hbm, ⟨46, _⟩ => ⟨S32x720x2048, .f32⟩
  | .hbm, ⟨47, _⟩ => ⟨S23040x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel3.lean ====
abbrev S8192x2048 : Shape := ⟨2, ![8192, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel4.lean ====
abbrev S8192x768 : Shape := ⟨2, ![8192, 768]⟩
abbrev S8192x640 : Shape := ⟨2, ![8192, 640]⟩
abbrev S2x2048x2048 : Shape := ⟨3, ![2, 2048, 2048]⟩
abbrev S8192x2048 : Shape := ⟨2, ![8192, 2048]⟩
abbrev S2048 : Shape := ⟨1, ![2048]⟩
abbrev S1x2048 : Shape := ⟨2, ![1, 2048]⟩
abbrev S512x768 : Shape := ⟨2, ![512, 768]⟩
abbrev S512x640 : Shape := ⟨2, ![512, 640]⟩
abbrev S1x2048x2048 : Shape := ⟨3, ![1, 2048, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x768, .bf16⟩
  | .hbm, ⟨1, _⟩ => ⟨S8192x640, .bf16⟩
  | .hbm, ⟨2, _⟩ => ⟨S8192x640, .bf16⟩
  | .hbm, ⟨3, _⟩ => ⟨S2x2048x2048, .bf16⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x768, .bf16⟩
  | .local _ .vmem, ⟨1, _⟩ => ⟨S512x768, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x768 : Shape := ⟨2, ![8192, 768]⟩
abbrev S8192x640 : Shape := ⟨2, ![8192, 640]⟩
abbrev S2x2048x2048 : Shape := ⟨3, ![2, 2048, 2048]⟩
abbrev S8192x2048 : Shape := ⟨2, ![8192, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x640, .bf16⟩
  | .hbm, ⟨2, _⟩ => ⟨S8192x640, .bf16⟩
  | .hbm, ⟨3, _⟩ => ⟨S2x2048x2048, .bf16⟩
  | .hbm, ⟨4, _⟩ => ⟨S8192x2048, .f32⟩
  | .hbm, ⟨5, _⟩ => ⟨S2048, .f32⟩
  | .hbm, ⟨6, _⟩ => ⟨S8192x2048, .bf16⟩
  | .hbm, ⟨7, _⟩ => ⟨S8192x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2x2048x6144 : Shape := ⟨3, ![2, 2048, 6144]⟩
abbrev S2x128 : Shape := ⟨2, ![2, 128]⟩
abbrev S_ : Shape := ⟨0, ![]⟩
abbrev S1408 : Shape := ⟨1, ![1408]⟩
abbrev S640 : Shape := ⟨1, ![640]⟩
abbrev S1x128 : Shape := ⟨2, ![1, 128]⟩
abbrev S128 : Shape := ⟨1, ![128]⟩
abbrev S6x128 : Shape := ⟨2, ![6, 128]⟩
abbrev S768 : Shape := ⟨1, ![768]⟩
abbrev S5x128 : Shape := ⟨2, ![5, 128]⟩
abbrev S6144 : Shape := ⟨1, ![6144]⟩
abbrev S1x6144 : Shape := ⟨2, ![1, 6144]⟩
abbrev S1x2048 : Shape := ⟨2, ![1, 2048]⟩
abbrev S8192x6144 : Shape := ⟨2, ![8192, 6144]⟩
abbrev S1024x2048 : Shape := ⟨2, ![1024, 2048]⟩
abbrev S1x2048x2048 : Shape := ⟨3, ![1, 2048, 2048]⟩
abbrev S1024 : Shape := ⟨1, ![1024]⟩
abbrev S1024x1 : Shape := ⟨2, ![1024, 1]⟩
abbrev S2048x2048 : Shape := ⟨2, ![2048, 2048]⟩
abbrev S1024x128 : Shape := ⟨2, ![1024, 128]⟩

abbrev nBuf : Space → Nat
  | .hbm => 49
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6144, .bf16⟩
  | .hbm, ⟨3, _⟩ => ⟨S2x128, .f32⟩
  | .hbm, ⟨4, _⟩ => ⟨S2x128, .f32⟩
  | .hbm, ⟨5, _⟩ => ⟨S_, .f32⟩
  | .hbm, ⟨6, _⟩ => ⟨S1408, .f32⟩
  | .hbm, ⟨7, _⟩ => ⟨S_, .f32⟩
  | .hbm, ⟨8, _⟩ => ⟨S640, .f32⟩
  | .hbm, ⟨9, _⟩ => ⟨S2048, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S6x128, .f32⟩
  | .hbm, ⟨14, _⟩ => ⟨S768, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S5x128, .f32⟩
  | .hbm, ⟨19, _⟩ => ⟨S640, .f32⟩
  | .hbm, ⟨20, _⟩ => ⟨S_, .f32⟩
  | .hbm, ⟨21, _⟩ => ⟨S640, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S6x128, .f32⟩
  | .hbm, ⟨30, _⟩ => ⟨S768, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S5x128, .f32⟩
  | .hbm, ⟨35, _⟩ => ⟨S640, .f32⟩
  | .hbm, ⟨36, _⟩ => ⟨S_, .f32⟩
  | .hbm, ⟨37, _⟩ => ⟨S640, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S6144, .f32⟩
  | .hbm, ⟨42, _⟩ => ⟨S_, .f32⟩
  | .hbm, ⟨43, _⟩ => ⟨S2048, .f32⟩
  | .hbm, ⟨44, _⟩ => ⟨S6144, .f32⟩
  | .hbm, ⟨45, _⟩ => ⟨S1x6144, .f32⟩
  | .hbm, ⟨46, _⟩ => ⟨S1x6144, .f32⟩
  | .hbm, ⟨47, _⟩ => ⟨S1x2048, .f32⟩
  | .hbm, ⟨48, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2048 : Shape := ⟨2, ![8192, 2048]⟩
abbrev S2048 : Shape := ⟨1, ![2048]⟩
abbrev S2x2048x6144 : Shape := ⟨3, ![2, 2048, 6144]⟩
abbrev S2x128 : Shape := ⟨2, ![2, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x6144 : Shape := ⟨3, ![1, 2048, 6144]⟩
abbrev S2048x6144 : Shape := ⟨2, ![2048, 6144]⟩
abbrev S8192x6144 : Shape := ⟨2, ![8192, 6144]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S8192x6x128 : Shape := ⟨3, ![8192, 6, 128]⟩
abbrev S1x128 : Shape := ⟨2, ![1, 128]⟩
abbrev S128 : Shape := ⟨1, ![128]⟩
abbrev S8192x6 : Shape := ⟨2, ![8192, 6]⟩
abbrev S8192x6x1 : Shape := ⟨3, ![8192, 6, 1]⟩
abbrev S1x1x128 : Shape := ⟨3, ![1, 1, 128]⟩
abbrev S8192x5x128 : Shape := ⟨3, ![8192, 5, 128]⟩
abbrev S8192x5 : Shape := ⟨2, ![8192, 5]⟩
abbrev S8192x5x1 : Shape := ⟨3, ![8192, 5, 1]⟩

abbrev nBuf : Space → Nat
  | .hbm => 121
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6144, .bf16⟩
  | .hbm, ⟨3, _⟩ => ⟨S2x128, .f32⟩
  | .hbm, ⟨4, _⟩ => ⟨S2x128, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6144, .bf16⟩
  | .hbm, ⟨22, _⟩ => ⟨S2048x6144, .bf16⟩
  | .hbm, ⟨23, _⟩ => ⟨S2048x6144, .f32⟩
  | .hbm, ⟨24, _⟩ => ⟨S8192x6144, .f32⟩
  | .hbm, ⟨25, _⟩ => ⟨S8192x3x16x128, .f32⟩
  | .hbm, ⟨26, _⟩ => ⟨S8192x1x16x128, .f32⟩
  | .hbm, ⟨27, _⟩ => ⟨S8192x16x128, .f32⟩
  | .hbm, ⟨28, _⟩ => ⟨S8192x6x128, .f32⟩
  | .hbm, ⟨29, _⟩ => ⟨S1x128, .f32⟩
  | .hbm, ⟨30, _⟩ => ⟨S128, .f32⟩
  | .hbm, ⟨31, _⟩ => ⟨S8192x6x128, .f32⟩
  | .hbm, ⟨32, _⟩ => ⟨S_, .f32⟩
  | .hbm, ⟨33, _⟩ => ⟨S8192x6, .f32⟩
  | .hbm, ⟨34, _⟩ => ⟨S8192x6x1, .f32⟩
  | .hbm, ⟨35, _⟩ => ⟨S_, .f32⟩
  | .hbm, ⟨36, _⟩ => ⟨S8192x6x1, .f32⟩
  | .hbm, ⟨37, _⟩ => ⟨S8192x6x1, .f32⟩
  | .hbm, ⟨38, _⟩ => ⟨S_, .f32⟩
  | .hbm, ⟨39, _⟩ => ⟨S8192x6x1, .f32⟩
  | .hbm, ⟨40, _⟩ => ⟨S8192x6x1, .f32⟩
  | .hbm, ⟨41, _⟩ => ⟨S8192x6x1, .f32⟩
  | .hbm, ⟨42, _⟩ => ⟨S8192x6x128, .f32⟩
  | .hbm, ⟨43, _⟩ => ⟨S8192x6x128, .f32⟩
  | .hbm, ⟨44, _⟩ => ⟨S1x1x128, .f32⟩
  | .hbm, ⟨45, _⟩ => ⟨S8192x6x128, .f32⟩
  | .hbm, ⟨46, _⟩ => ⟨S8192x6x128, .f32⟩
  | .hbm, ⟨47, _⟩ => ⟨S8192x5x128, .f32⟩
  | .hbm, ⟨48, _⟩ => ⟨S1x128, .f32⟩
  | .hbm, ⟨49, _⟩ => ⟨S128, .f32⟩
  | .hbm, ⟨50, _⟩ => ⟨S8192x5x128, .f32⟩
  | .hbm, ⟨51, _⟩ => ⟨S_, .f32⟩
  | .hbm, ⟨52, _⟩ => ⟨S8192x5, .f32⟩
  | .hbm, ⟨53, _⟩ => ⟨S8192x5x1, .f32⟩
  | .hbm, ⟨54, _⟩ => ⟨S_, .f32⟩
  | .hbm, ⟨55, _⟩ => ⟨S8192x5x1, .f32⟩
  | .hbm, ⟨56, _⟩ => ⟨S8192x5x1, .f32⟩
  | .hbm, ⟨57, _⟩ => ⟨S_, .f32⟩
  | .hbm, ⟨58, _⟩ => ⟨S8192x5x1, .f32⟩
  | .hbm, ⟨59, _⟩ => ⟨S8192x5x1, .f32⟩
  | .hbm, ⟨60, _⟩ => ⟨S8192x5x1, .f32⟩
  | .hbm, ⟨61, _⟩ => ⟨S8192x5x128, .f32⟩
  | .hbm, ⟨62, _⟩ => ⟨S8192x5x128, .f32⟩
  | .hbm, ⟨63, _⟩ => ⟨S1x1x128, .f32⟩
  | .hbm, ⟨64, _⟩ => ⟨S8192x5x128, .f32⟩
  | .hbm, ⟨65, _⟩ => ⟨S8192x5x128, .f32⟩
  | .hbm, ⟨66, _⟩ => ⟨S8192x5x128, .f32⟩
  | .hbm, ⟨67, _⟩ => ⟨S8192x16x128, .f32⟩
  | .hbm, ⟨68, _⟩ => ⟨S_, .f32⟩
  | .hbm, ⟨69, _⟩ => ⟨S8192x16x128, .f32⟩
  | .hbm, ⟨70, _⟩ => ⟨S8192x16x128, .f32⟩
  | .hbm, ⟨71, _⟩ => ⟨S8192x1x16x128, .f32⟩
  | .hbm, ⟨72, _⟩ => ⟨S8192x16x128, .f32⟩
  | .hbm, ⟨73, _⟩ => ⟨S8192x6x128, .f32⟩
  | .hbm, ⟨74, _⟩ => ⟨S1x128, .f32⟩
  | .hbm, ⟨75, _⟩ => ⟨S128, .f32⟩
  | .hbm, ⟨76, _⟩ => ⟨S8192x6x128, .f32⟩
  | .hbm, ⟨77, _⟩ => ⟨S_, .f32⟩
  | .hbm, ⟨78, _⟩ => ⟨S8192x6, .f32⟩
  | .hbm, ⟨79, _⟩ => ⟨S8192x6x1, .f32⟩
  | .hbm, ⟨80, _⟩ => ⟨S_, .f32⟩
  | .hbm, ⟨81, _⟩ => ⟨S8192x6x1, .f32⟩
  | .hbm, ⟨82, _⟩ => ⟨S8192x6x1, .f32⟩
  | .hbm, ⟨83, _⟩ => ⟨S_, .f32⟩
  | .hbm, ⟨84, _⟩ => ⟨S8192x6x1, .f32⟩
  | .hbm, ⟨85, _⟩ => ⟨S8192x6x1, .f32⟩
  | .hbm, ⟨86, _⟩ => ⟨S8192x6x1, .f32⟩
  | .hbm, ⟨87, _⟩ => ⟨S8192x6x128, .f32⟩
  | .hbm, ⟨88, _⟩ => ⟨S8192x6x128, .f32⟩
  | .hbm, ⟨89, _⟩ => ⟨S1x1x128, .f32⟩
  | .hbm, ⟨90, _⟩ => ⟨S8192x6x128, .f32⟩
  | .hbm, ⟨91, _⟩ => ⟨S8192x6x128, .f32⟩
  | .hbm, ⟨92, _⟩ => ⟨S8192x5x128, .f32⟩
  | .hbm, ⟨93, _⟩ => ⟨S1x128, .f32⟩
  | .hbm, ⟨94, _⟩ => ⟨S128, .f32⟩
  | .hbm, ⟨95, _⟩ => ⟨S8192x5x128, .f32⟩
  | .hbm, ⟨96, _⟩ => ⟨S_, .f32⟩
  | .hbm, ⟨97, _⟩ => ⟨S8192x5, .f32⟩
  | .hbm, ⟨98, _⟩ => ⟨S8192x5x1, .f32⟩
  | .hbm, ⟨99, _⟩ => ⟨S_, .f32⟩
  | .hbm, ⟨100, _⟩ => ⟨S8192x5x1, .f32⟩
  | .hbm, ⟨101, _⟩ => ⟨S8192x5x1, .f32⟩
  | .hbm, ⟨102, _⟩ => ⟨S_, .f32⟩
  | .hbm, ⟨103, _⟩ => ⟨S8192x5x1, .f32⟩
  | .hbm, ⟨104, _⟩ => ⟨S8192x5x1, .f32⟩
  | .hbm, ⟨105, _⟩ => ⟨S8192x5x1, .f32⟩
  | .hbm, ⟨106, _⟩ => ⟨S8192x5x128, .f32⟩
  | .hbm, ⟨107, _⟩ => ⟨S8192x5x128, .f32⟩
  | .hbm, ⟨108, _⟩ => ⟨S1x1x128, .f32⟩
  | .hbm, ⟨109, _⟩ => ⟨S8192x5x128, .f32⟩
  | .hbm, ⟨110, _⟩ => ⟨S8192x5x128, .f32⟩
  | .hbm, ⟨111, _⟩ => ⟨S8192x5x128, .f32⟩
  | .hbm, ⟨112, _⟩ => ⟨S8192x16x128, .f32⟩
  | .hbm, ⟨113, _⟩ => ⟨S8192x1x16x128, .f32⟩
  | .hbm, ⟨114, _⟩ => ⟨S8192x16x128, .f32⟩
  | .hbm, ⟨115, _⟩ => ⟨S8192x1x16x128, .f32⟩
  | .hbm, ⟨116, _⟩ => ⟨S8192x1x16x128, .f32⟩
  | .hbm, ⟨117, _⟩ => ⟨S8192x1x16x128, .f32⟩
  | .hbm, ⟨118, _⟩ => ⟨S8192x3x16x128, .f32⟩
  | .hbm, ⟨119, _⟩ => ⟨S8192x6144, .f32⟩
  | .hbm, ⟨120, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_v78 : Ref sig .tc := ⟨.hbm, 97, rfl⟩
abbrev main_v79 : Ref sig .tc := ⟨.hbm, 98, rfl⟩
abbrev main_cst_13 : Ref sig .tc := ⟨.hbm, 99, rfl⟩
abbrev main_v80 : Ref sig .tc := ⟨.hbm, 100, rfl⟩
abbrev main_v81 : Ref sig .tc := ⟨.hbm, 101, rfl⟩
abbrev main_cst_14 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩

abbrev nD : Nat := 1
abbrev τ : Topo := Topo.v7x

variable {F : FTy → Type} [FloatOps F]
-- ==== Proof.StickFrame.lean ====
/- The stick-breaking kernel as traced: it runs to completion from any memory, returns its arguments unchanged and
   leaves every semaphore at zero.  Nothing is said here of what it computes. -/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One grid point: on whole buffers the body runs through, whichever way its branch on the parity of the query
    block goes, and hands the five inputs back as they were. -/
theorem run_point (c : Dev nD) (i : grid0.Coords)
    (arg3 : Memref sig .tc .vmem S512x128 .bf16) (h3 : arg3.IsWhole) (arg4 : Memref sig .tc .vmem S4096x128 .bf16) (h4 : arg4.IsWhole)
    (arg5 : Memref sig .tc .vmem S4096x128 .bf16) (h5 : arg5.IsWhole) (arg6 : Memref sig .tc .vmem S1x128 .f32) (h6 : arg6.IsWhole)
    (arg7 : Memref sig .tc .vmem S128x2048 .f32) (h7 : arg7.IsWhole) (arg8 : Memref sig .tc .vmem S512x128 .bf16) (h8 : arg8.IsWhole)
    (arg9 : Memref sig .tc .vmem S128x2048 .bf16) (h9 : arg9.IsWhole)
    (x0 : Vec F S512x128 .bf16) (x1 : Vec F S4096x128 .bf16) (x2 : Vec F S4096x128 .bf16) (x3 : Vec F S1x128 .f32) (x4 : Vec F S128x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d)) -∗ K ⟨⟩))
      ⊢ wp frame (wpE (defs₀ (F := F)) Variants.none c none) E
          (cc0_stick_attn i arg3 h3 arg4 h4 arg5 h5 arg6 h6 arg7 h7 arg8 h8 arg9 h9) K := by
  by_cases hc : k0_cond1 i = 1#1
  all_goals
    simp only [cc0_stick_attn_eq_skeleton]; unfold cc0_stick_attn_skel
    simp only [k0_part8_eq_skeleton, k0_part9_eq_skeleton, k0_part10_eq_skeleton]
    unfold k0_part10_skel
    first | simp only [dif_pos hc, k0_part1_eq_skeleton] | simp only [dif_neg hc]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h3.eq_unread hf0; obtain rfl := h4.eq_unread hf1; obtain rfl := h5.eq_unread hf2
    obtain rfl := h6.eq_unread hf3; obtain rfl := h7.eq_unread hf4
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _, _; isplitr; swap; · iexact H5
      ipureintro; rfl
    iexists _, _; isplitr; swap; · iexact H6
    ipureintro; rfl

/-- The two results' windows, of whose contents nothing is said. -/
def forgets0 : Fin 7 → Bool := fun w => w.val == 5 || w.val == 6

/-- What the launch is run with: each array as it was at entry, each input's block left in place by the body, and the
    two results' blocks unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! The buffer each window's block is in at a point. -/

abbrev ms0_0 (t : Fin cfg0.N) : Memref sig .tc .vmem S512x128 .bf16 := win0_0.stage (cfg0.slots t 0)
abbrev ms0_1 (t : Fin cfg0.N) : Memref sig .tc .vmem S4096x128 .bf16 := win0_1.stage (cfg0.slots t 1)
abbrev ms0_2 (t : Fin cfg0.N) : Memref sig .tc .vmem S4096x128 .bf16 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S128x2048 .f32 := win0_4.stage (cfg0.slots t 4)
abbrev ms0_5 (t : Fin cfg0.N) : Memref sig .tc .vmem S512x128 .bf16 := win0_5.stage (cfg0.slots t 5)
abbrev ms0_6 (t : Fin cfg0.N) : Memref sig .tc .vmem S128x2048 .bf16 := win0_6.stage (cfg0.slots t 6)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 800000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_point c (grid0.coords t) _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends with its inputs unchanged, nothing said of its results, and every semaphore at zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: from any memory the program ends with its three arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 2 rfl).trans ((A_eq m c 2).trans (V_main_arg0 m c)),
        (Pipeline.RDat.FramePost.arr_in h.1 c 3 rfl).trans ((A_eq m c 3).trans (V_main_arg1 m c)),
        (Pipeline.RDat.FramePost.arr_in h.1 c 4 rfl).trans ((A_eq m c 4).trans (V_main_arg2 m c))⟩, h.2⟩)
    (run_main_quiescent m ρ)

end Cert.Kernel.Stick

end
-- ==== Proof.StickBody.lean ====
/- One query block of the stick-breaking kernel, written as a walk over groups of 512 keys from the block's own group
   down to the first one, and the proof that the kernel's body computes it: the group on the diagonal, the odd group
   and the loop over pairs of groups are the stages of one walk. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.WholeRead
public import Idealize.ShloMosaic.Lib.VecWindow
public import Idealize.ShloMosaic.Lib.ValueIdx

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F] [Named F]

local notation "𝕄" => MT nD τ sig Unit (Elt F) ℕ (UR sig nD τ) ℕ

/-- What the walk carries: for each of the 512 queries, the sum of the later log-probabilities of not stopping, and
    the weighted sum of the values so far. -/
abbrev Carry (F : FTy → Type) := FVec F S512x1 .f32 × FVec F S512x128 .f32

/-- The `g`-th group of 512 rows. -/
def rows (X : Vec F S4096x128 .bf16) (g : ℕ) : Vec F S512x128 .bf16 := fun j =>
  X (ValueIdx.ix2 ⟨(512 * g + (j 0).val) % 4096, Nat.mod_lt _ (by decide)⟩ (j 1))

/-- The weights of one group of keys that lies wholly before the queries. -/
def groupA (q kb : Vec F S512x128 .bf16) (c : FVec F S512x1 .f32) : FVec F S512x512 .bf16 :=
  k0_pay33 (k0_pay58 (F := F)) c (k0_pay25 q kb) (k0_pay26 q kb) (k0_pay27 q kb) (k0_pay28 q kb) (Scalar.ofBits .f32 0x3F800000#32)

/-- The carried sum after such a group. -/
def groupC (q kb : Vec F S512x128 .bf16) (c : FVec F S512x1 .f32) : FVec F S512x1 .f32 :=
  k0_pay32 c (k0_pay25 q kb) (k0_pay27 q kb) (k0_pay28 q kb) (Scalar.ofBits .f32 0x3F800000#32)

/-- One group of keys and values. -/
def step (q kb vb : Vec F S512x128 .bf16) (s : Carry F) : Carry F :=
  (groupC q kb s.1, addf s.2 (k0_pay71 (groupA q kb s.1) vb))

/-- The weights of the group on the diagonal, masked to the earlier keys. -/
def diagA (q kb : Vec F S512x128 .bf16) : FVec F S512x512 .bf16 :=
  k0_pay70 k0_pay57 (k0_pay58 (F := F)) (k0_pay59 (F := F)) (k0_pay61 q kb) (k0_pay62 q kb) (k0_pay63 q kb) k0_pay64 (Scalar.ofBits .f32 0x00000000#32)

/-- The carried sum after the group on the diagonal. -/
def diagC (q kb : Vec F S512x128 .bf16) : FVec F S512x1 .f32 :=
  k0_pay69 k0_pay57 (k0_pay59 (F := F)) (k0_pay61 q kb) (k0_pay63 q kb) k0_pay64 (Scalar.ofBits .f32 0x00000000#32)

/-- The walk from query block `b`: its own group, then `n` groups before it. -/
def walk (b : ℕ) (q : Vec F S512x128 .bf16) (X Y : Vec F S4096x128 .bf16) : ℕ → Carry F
  | 0 => (diagC q (rows X b), k0_pay71 (diagA q (rows X b)) (rows Y b))
  | n + 1 => step q (rows X (b - 1 - n)) (rows Y (b - 1 - n)) (walk b q X Y n)

/-- What the body leaves in the output block of query block `b`. -/
def bodyOut (b : ℕ) (q : Vec F S512x128 .bf16) (X Y : Vec F S4096x128 .bf16) (gain : Vec F S1x128 .f32) : FVec F S512x128 .bf16 :=
  k0_pay3 (walk b q X Y b).2 gain

/-! ## Where the body loads -/

theorem off1_eq : ∀ i : grid0.Coords, k0_off1 i = ![512 * (i 2).val, 0] := by decide +kernel
theorem off2_eq : ∀ i : grid0.Coords, k0_cond1 i = 1#1 → k0_off2 i = ![512 * ((i 2).val - 1), 0] := by decide +kernel
theorem off3_eq : ∀ (i : grid0.Coords) (t : Fin (k0_t1_loop i).trips),
    k0_off3 i t = ![512 * ((i 2).val - 1 - ((i 2).val % 2 + 2 * t.val)), 0] := by decide +kernel
theorem off4_eq : ∀ (i : grid0.Coords) (t : Fin (k0_t1_loop i).trips),
    k0_off4 i t = ![512 * ((i 2).val - 1 - ((i 2).val % 2 + 2 * t.val + 1)), 0] := by decide +kernel
theorem trips1_eq : ∀ i : grid0.Coords, (k0_t1_loop i).trips = (i 2).val / 2 := by decide +kernel
theorem trips2_eq (i : grid0.Coords) : (k0_t2_loop i).trips = 0 := Nat.le_zero.1 (k0_t2_abs i).2.1
theorem cond1_iff : ∀ i : grid0.Coords, k0_cond1 i = 1#1 ↔ (i 2).val % 2 = 1 := by decide +kernel

/-- A load of 512 rows of a whole buffer of 4096. -/
theorem readAt_rows {mr : Memref sig .tc .vmem S4096x128 .bf16} (h : mr.IsWhole) (X : Vec F S4096x128 .bf16) {off : Fin 2 → ℕ}
    (inb : ∀ a, off a + S512x128.size a ≤ S4096x128.size a) {g : ℕ} (hoff : off = ![512 * g, 0]) :
    View.readAt (Elt F) mr.view (Rect.unit (s := S4096x128) off S512x128.size inb).toLoadRect (h.unread X) = rows X g := by
  subst hoff
  funext x
  rw [h.readAt_unread]
  unfold rows
  have h0 : 512 * g + 512 ≤ 4096 := inb 0
  have hx : (x 0).val < 512 := (x 0).isLt
  refine congrArg X (funext fun a => ?_)
  match a with
  | ⟨0, _⟩ =>
    apply Fin.ext
    show 512 * g + 1 * (x 0).val = (512 * g + (x 0).val) % 4096
    omega
  | ⟨1, _⟩ =>
    apply Fin.ext
    show 0 + 1 * (x 1).val = (x 1).val
    omega

section Trip

variable (𝒱 : Variants) (c : Dev nD) (bd : Option 𝒱.V) (i : grid0.Coords)
  (arg3 : Memref sig .tc .vmem S512x128 .bf16) (h3 : arg3.IsWhole) (arg4 : Memref sig .tc .vmem S4096x128 .bf16) (h4 : arg4.IsWhole)
  (arg5 : Memref sig .tc .vmem S4096x128 .bf16) (h5 : arg5.IsWhole) (arg6 : Memref sig .tc .vmem S1x128 .f32) (h6 : arg6.IsWhole)
  (arg7 : Memref sig .tc .vmem S128x2048 .f32) (h7 : arg7.IsWhole) (arg8 : Memref sig .tc .vmem S512x128 .bf16) (h8 : arg8.IsWhole)
  (arg9 : Memref sig .tc .vmem S128x2048 .bf16) (h9 : arg9.IsWhole) (a2 v100 z44 : BitVec 32)
  (q : Vec F S512x128 .bf16) (X Y : Vec F S4096x128 .bf16)

/-- One trip of the loop over pairs of groups is two stages of the walk. -/
theorem trip_eq (t : Fin (k0_t1_loop i).trips) (s : Carry F) :
    tripR_k0_t1 𝒱 c bd i arg3 h3 arg4 h4 arg5 h5 arg6 h6 arg7 h7 arg8 h8 arg9 h9 a2 q (k0_pay58 (F := F)) v100 z44 (h4.unread X) (h5.unread Y) t s
      = step q (rows X ((i 2).val - 1 - ((i 2).val % 2 + 2 * t.val + 1))) (rows Y ((i 2).val - 1 - ((i 2).val % 2 + 2 * t.val + 1)))
          (step q (rows X ((i 2).val - 1 - ((i 2).val % 2 + 2 * t.val))) (rows Y ((i 2).val - 1 - ((i 2).val % 2 + 2 * t.val))) s) := by
  rw [← readAt_rows h4 X (k0_off3_inb i t) (off3_eq i t), ← readAt_rows h5 Y (k0_off3_inb i t) (off3_eq i t),
    ← readAt_rows h4 X (k0_off4_inb i t) (off4_eq i t), ← readAt_rows h5 Y (k0_off4_inb i t) (off4_eq i t)]
  unfold tripR_k0_t1 trip_k0_t1
  rfl

/-- So the loop's state after `n` trips is the walk, from where it stood. -/
theorem loop_eq (n : ℕ) (hn : n ≤ (k0_t1_loop i).trips) :
    st_k0_t1 𝒱 c bd i arg3 h3 arg4 h4 arg5 h5 arg6 h6 arg7 h7 arg8 h8 arg9 h9 a2 q (k0_pay58 (F := F)) v100 z44 (h4.unread X) (h5.unread Y)
      (walk (i 2).val q X Y ((i 2).val % 2)) n = walk (i 2).val q X Y ((i 2).val % 2 + 2 * n) := by
  induction n with
  | zero => rfl
  | succ n ih =>
    rw [st_k0_t1_succ (k := ⟨n, hn⟩), ih (Nat.le_of_succ_le hn), trip_eq]
    rfl

end Trip

end Cert.KernelIdeal.Stick

end
-- ==== Proof.StickRun.lean ====
/- One grid point of the stick-breaking kernel, run with the values it leaves: the output block holds the walk of
   `StickBody`, and the block of the weight holds that block rounded to half width. -/
module

public import proofs.«01_k».proof.Proof.StickBody

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F] [Named F]

local notation "𝕄" => MT nD τ sig Unit (Elt F) ℕ (UR sig nD τ) ℕ

section Stages

variable (𝒱 : Variants) (c : Dev nD) (bd : Option 𝒱.V) (i : grid0.Coords)
  (arg3 : Memref sig .tc .vmem S512x128 .bf16) (h3 : arg3.IsWhole) (arg4 : Memref sig .tc .vmem S4096x128 .bf16) (h4 : arg4.IsWhole)
  (arg5 : Memref sig .tc .vmem S4096x128 .bf16) (h5 : arg5.IsWhole) (arg6 : Memref sig .tc .vmem S1x128 .f32) (h6 : arg6.IsWhole)
  (arg7 : Memref sig .tc .vmem S128x2048 .f32) (h7 : arg7.IsWhole) (arg8 : Memref sig .tc .vmem S512x128 .bf16) (h8 : arg8.IsWhole)
  (arg9 : Memref sig .tc .vmem S128x2048 .bf16) (h9 : arg9.IsWhole) (a2 v100 w : BitVec 32)
  (q : Vec F S512x128 .bf16) (X Y : Vec F S4096x128 .bf16)

/-- The second loop over pairs of groups makes no trip. -/
theorem second_loop (l : FVec F S256x256 .bf16) (Z4 : BufTy.Contents (Elt F) arg4.view.ty) (Z5 : BufTy.Contents (Elt F) arg5.view.ty) (init : Carry F) :
    st_k0_t2 𝒱 c bd i arg3 h3 arg4 h4 arg5 h5 arg6 h6 arg7 h7 arg8 h8 arg9 h9 a2 q l v100 w Z4 Z5 init
      (Scf.trips (k0_t2_loop i).lb (k0_t2_loop i).ub (k0_t2_loop i).st) = init := by
  rw [show Scf.trips (k0_t2_loop i).lb (k0_t2_loop i).ub (k0_t2_loop i).st = 0 from trips2_eq i]
  exact st_k0_t2_zero ..

/-- The first loop, entered where the walk stands after the odd group if there is one, ends with the walk complete. -/
theorem first_loop (q' : Vec F S512x128 .bf16) (init : Carry F) (hq : q' = q) (hinit : init = walk (i 2).val q X Y ((i 2).val % 2)) :
    st_k0_t1 𝒱 c bd i arg3 h3 arg4 h4 arg5 h5 arg6 h6 arg7 h7 arg8 h8 arg9 h9 a2 q' (k0_pay58 (F := F)) v100 w (h4.unread X) (h5.unread Y) init
      (Scf.trips (k0_t1_loop i).lb (k0_t1_loop i).ub (k0_t1_loop i).st) = walk (i 2).val q X Y (i 2).val := by
  subst hq hinit
  refine (loop_eq 𝒱 c bd i arg3 h3 arg4 h4 arg5 h5 arg6 h6 arg7 h7 arg8 h8 arg9 h9 a2 v100 w q' X Y _ le_rfl).trans ?_
  rw [trips1_eq]
  exact congrArg _ (by omega)

/-- The rows a load of an offset of the body's brings. -/
abbrev ld {mr : Memref sig .tc .vmem S4096x128 .bf16} (h : mr.IsWhole) (X : Vec F S4096x128 .bf16) {off : Fin 2 → ℕ}
    (inb : ∀ a, off a + S512x128.size a ≤ S4096x128.size a) : Vec F S512x128 .bf16 :=
  View.readAt (Elt F) mr.view (Rect.unit (s := S4096x128) off S512x128.size inb).toLoadRect (h.unread X)

/-- Where the walk stands at the loop when the block's number is even: after the group on the diagonal. -/
theorem even_entry {q' : Vec F S512x128 .bf16} (hq : q' = q) :
    walk (i 2).val q X Y 0 = (diagC q' (ld h4 X (k0_off1_inb i)), k0_pay71 (diagA q' (ld h4 X (k0_off1_inb i))) (ld h5 Y (k0_off1_inb i))) := by
  subst hq
  unfold ld
  rw [readAt_rows h4 X (k0_off1_inb i) (off1_eq i), readAt_rows h5 Y (k0_off1_inb i) (off1_eq i)]
  rfl

/-- And when it is odd: after the group before that one, too. -/
theorem odd_entry {q' : Vec F S512x128 .bf16} (hq : q' = q) (hc : k0_cond1 i = 1#1) :
    walk (i 2).val q X Y 1 = step q' (ld h4 X (k0_off2_inb i hc)) (ld h5 Y (k0_off2_inb i hc))
      (diagC q' (ld h4 X (k0_off1_inb i)), k0_pay71 (diagA q' (ld h4 X (k0_off1_inb i))) (ld h5 Y (k0_off1_inb i))) := by
  subst hq
  unfold ld
  rw [readAt_rows h4 X (k0_off1_inb i) (off1_eq i), readAt_rows h5 Y (k0_off1_inb i) (off1_eq i),
    readAt_rows h4 X (k0_off2_inb i hc) (off2_eq i hc), readAt_rows h5 Y (k0_off2_inb i hc) (off2_eq i hc)]
  rfl

end Stages

set_option maxHeartbeats 4000000 in
/-- One grid point: on whole buffers the body runs through, whichever way its branch on the parity of the query
    block goes, hands the five inputs back as they were and leaves the two results of its walk. -/
theorem run_point (c : Dev nD) (i : grid0.Coords)
    (arg3 : Memref sig .tc .vmem S512x128 .bf16) (h3 : arg3.IsWhole) (arg4 : Memref sig .tc .vmem S4096x128 .bf16) (h4 : arg4.IsWhole)
    (arg5 : Memref sig .tc .vmem S4096x128 .bf16) (h5 : arg5.IsWhole) (arg6 : Memref sig .tc .vmem S1x128 .f32) (h6 : arg6.IsWhole)
    (arg7 : Memref sig .tc .vmem S128x2048 .f32) (h7 : arg7.IsWhole) (arg8 : Memref sig .tc .vmem S512x128 .bf16) (h8 : arg8.IsWhole)
    (arg9 : Memref sig .tc .vmem S128x2048 .bf16) (h9 : arg9.IsWhole)
    (x0 : Vec F S512x128 .bf16) (x1 : Vec F S4096x128 .bf16) (x2 : Vec F S4096x128 .bf16) (x3 : Vec F S1x128 .f32) (x4 : Vec F S128x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (bodyOut (i 2).val x0 x1 x2 x3) ∗ owns (c : Thread nD τ) arg9 fullShare (k0_pay56 x4)) -∗ K ⟨⟩))
      ⊢ wp frame (wpE (defs₀ (F := F)) Variants.none c none) E
          (cc0_stick_attn i arg3 h3 arg4 h4 arg5 h5 arg6 h6 arg7 h7 arg8 h8 arg9 h9) K := by
  by_cases hc : k0_cond1 i = 1#1
  all_goals
    simp only [cc0_stick_attn_eq_skeleton]; unfold cc0_stick_attn_skel
    simp only [k0_part8_eq_skeleton, k0_part9_eq_skeleton, k0_part10_eq_skeleton]
    unfold k0_part10_skel
    first | simp only [dif_pos hc, k0_part1_eq_skeleton] | simp only [dif_neg hc]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h3.eq_unread hf0; obtain rfl := h4.eq_unread hf1; obtain rfl := h5.eq_unread hf2
    obtain rfl := h6.eq_unread hf3; obtain rfl := h7.eq_unread hf4
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    have hq := (View.readAt_full arg3.view (h3.unread x0) inb_S512x128_S512x128_0_0).trans hf0
    isplitl [H5]
    · iexists _; isplitr; swap; · iexact H5
      ipureintro
      refine (View.read_writes_full arg8.view _ inb_S512x128_S512x128_0_0 _ _).trans ?_
      unfold bodyOut
      refine congrArg₂ k0_pay3 (congrArg Prod.snd ((second_loop ..).trans (first_loop (hq := hq) (hinit := ?_) ..))) ?_
      · first
        | rw [(cond1_iff i).1 hc]; exact (odd_entry i arg4 h4 arg5 h5 x0 x1 x2 hq hc).symm
        | rw [(Nat.mod_two_eq_zero_or_one _).resolve_right (mt (cond1_iff i).2 hc)]; exact (even_entry i arg4 h4 arg5 h5 x0 x1 x2 hq).symm
      · exact (View.readAt_full arg6.view (h6.unread x3) inb_S1x128_S1x128_0_0).trans hf3
    iexists _; isplitr; swap; · iexact H6
    ipureintro
    refine (View.read_writes_full arg9.view _ inb_S128x2048_S128x2048_0_0 _ _).trans ?_
    exact congrArg k0_pay56 ((View.readAt_full arg7.view (h7.unread x4) inb_S128x2048_S128x2048_0_0).trans hf4)

end Cert.KernelIdeal.Stick

end
-- ==== Proof.StickLaunch.lean ====
/- The stick-breaking kernel over the ideal values, launched: it runs to completion from any memory, returns its
   arguments unchanged, leaves every semaphore at zero, and its two results are what its grid points write back. -/
module

public import proofs.«01_k».proof.Proof.StickRun
public import proofs.«01_k».proof.Proof.Gen.KernelIdeal.Frame

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of the first result a grid point leaves: the walk from the point's query block. -/
def outAt (c : Dev nD) (t : Fin cfg0.N) : Vec F S512x128 .bf16 :=
  bodyOut (grid0.coords t 2).val (iblk m c 0 t : Vec F S512x128 .bf16) (iblk m c 1 t : Vec F S4096x128 .bf16)
    (iblk m c 2 t : Vec F S4096x128 .bf16) (iblk m c 3 t : Vec F S1x128 .f32)

/-- The block of the second result a grid point leaves: the block of the weight, rounded to half width. -/
def castAt (c : Dev nD) (t : Fin cfg0.N) : Vec F S128x2048 .bf16 := k0_pay56 (iblk m c 4 t : Vec F S128x2048 .f32)

/-- What the launch is run with: each array as it was at entry, each input's block left in place by the body, and the
    two results' blocks as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => castAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) : (dats m 0 c).after 5 t = outAt m c t := by dsimp only [dats]
theorem after0_6 (c : Dev nD) (t : Fin cfg0.N) : (dats m 0 c).after 6 t = castAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! The buffer each window's block is in at a point. -/

abbrev ms0_0 (t : Fin cfg0.N) : Memref sig .tc .vmem S512x128 .bf16 := win0_0.stage (cfg0.slots t 0)
abbrev ms0_1 (t : Fin cfg0.N) : Memref sig .tc .vmem S4096x128 .bf16 := win0_1.stage (cfg0.slots t 1)
abbrev ms0_2 (t : Fin cfg0.N) : Memref sig .tc .vmem S4096x128 .bf16 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S128x2048 .f32 := win0_4.stage (cfg0.slots t 4)
abbrev ms0_5 (t : Fin cfg0.N) : Memref sig .tc .vmem S512x128 .bf16 := win0_5.stage (cfg0.slots t 5)
abbrev ms0_6 (t : Fin cfg0.N) : Memref sig .tc .vmem S128x2048 .bf16 := win0_6.stage (cfg0.slots t 6)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_point c (grid0.coords t) _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: each array ends at what the grid's points leave in it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run with its two results named: what the pipeline leaves in them, the three arguments unchanged. -/
theorem run : θ_run defs (onTc (τ := τ) (main (F := F))) ⟨m, fun _ => 0, ρ⟩ (fun r => (∀ c : Dev nD,
      (r.2.mem ((c.tc : Thread nD τ).loc main_v0_0) = (dats m 0 c).arrAt 5 cfg0.N
      ∧ r.2.mem ((c.tc : Thread nD τ).loc main_v0_1) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨⟨(h.1 c).1 5, (h.1 c).1 6⟩,
        ((h.1 c).1 2).trans (((dats m 0 c).arrAt_in 2 rfl _).trans ((A_eq m c 2).trans (V_main_arg0 m c))),
        ((h.1 c).1 3).trans (((dats m 0 c).arrAt_in 3 rfl _).trans ((A_eq m c 3).trans (V_main_arg1 m c))),
        ((h.1 c).1 4).trans (((dats m 0 c).arrAt_in 4 rfl _).trans ((A_eq m c 4).trans (V_main_arg2 m c)))⟩, h.2⟩)
    (run_main m ρ)

end Cert.KernelIdeal.Stick

end
-- ==== Proof.StickSpec.lean ====
/- Stick-breaking weights in plain numbers: the base-two logarithm of not stopping at a key, the weight of a key as two to
   the power of its score, its own logarithm and those of the later keys, and the sums the two programs form of them. -/
module

public import Idealize.ShloMosaic.Lib.ValueIdx
public import Idealize.ShloMosaic.Lib.IdealHost
public import Idealize.ShloMosaic.PureOps.Ideal.Laws

@[expose] public section

noncomputable section

namespace Cert.StickSpec

open Idealize.ShloMosaic

/-- The base-two logarithm of the probability of not stopping at a key whose score is the real `y` (in base-two units). -/
def lmReal (y : ℝ) : ℝ := -(Real.log (1 + (2 : ℝ) ^ y) * (Real.log 2)⁻¹)

/-- The same at any score: at the greatest one never goes on, at the least one always does. -/
def lm (y : EReal) : EReal := if y = ⊤ then ⊥ else if y = ⊥ then 0 else ((lmReal y.toReal : ℝ) : EReal)

/-- A key's logarithm if it lies before the query, nothing otherwise. -/
def gate (y : ℕ → EReal) (r j : ℕ) : EReal := if j < r then lm (y j) else 0

/-- The sum of the logarithms from key `k` on. -/
def tail (y : ℕ → EReal) (r k : ℕ) : EReal := ∑ j ∈ Finset.Ico k 4096, gate y r j

/-- The weight of key `k` for query `r`. -/
def weight (y : ℕ → EReal) (r k : ℕ) : EReal := if k < r then Ideal.exp2 (y k + lm (y k) + tail y r (k + 1)) else 0

theorem lm_top : lm ⊤ = ⊥ := if_pos rfl
theorem lm_bot : lm ⊥ = 0 := by rw [lm, if_neg bot_ne_top, if_pos rfl]
theorem lm_coe (y : ℝ) : lm (y : EReal) = ((lmReal y : ℝ) : EReal) := by
  rw [lm, if_neg (EReal.coe_ne_top y), if_neg (EReal.coe_ne_bot y), EReal.toReal_coe]

/-- No logarithm is the greatest value. -/
theorem lm_ne_top (y : EReal) : lm y ≠ ⊤ := by
  induction y using EReal.rec with
  | bot => rw [lm_bot]; exact EReal.zero_ne_top
  | coe z => rw [lm_coe]; exact EReal.coe_ne_top _
  | top => rw [lm_top]; exact bot_ne_top

theorem gate_ne_top (y : ℕ → EReal) (r j : ℕ) : gate y r j ≠ ⊤ := by
  unfold gate
  split
  · exact lm_ne_top _
  · exact EReal.zero_ne_top

theorem tail_ne_top (y : ℕ → EReal) (r k : ℕ) : tail y r k ≠ ⊤ := by
  unfold tail
  induction Finset.Ico k 4096 using Finset.induction_on with
  | empty => rw [Finset.sum_empty]; exact EReal.zero_ne_top
  | insert a s ha ih => rw [Finset.sum_insert ha]; exact EReal.add_ne_top (gate_ne_top y r a) ih

/-- A positive real distributes over a sum. -/
theorem sum_mul_coe {ι : Type*} {c : ℝ} (hc : 0 < c) (s : Finset ι) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc.le) (EReal.coe_ne_top c), ih]

theorem log_one_add_two_rpow (y : ℝ) : Real.log (1 + (2 : ℝ) ^ y) = y * Real.log 2 + Real.log (1 + (2 : ℝ) ^ (-y)) := by
  have h2 : (0 : ℝ) < 2 ^ y := Real.rpow_pos_of_pos two_pos y
  have h3 : (0 : ℝ) < 2 ^ (-y) := Real.rpow_pos_of_pos two_pos (-y)
  rw [← Real.log_rpow two_pos, ← Real.log_mul h2.ne' (by positivity)]
  congr 1
  rw [mul_add, mul_one, ← Real.rpow_add two_pos, add_neg_cancel, Real.rpow_zero, add_comm]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem exp2_coe (r : ℝ) : Ideal.exp2 (r : EReal) = (((2 : ℝ) ^ r : ℝ) : EReal) := rfl
theorem exp_coe (r : ℝ) : Ideal.exp (r : EReal) = ((Real.exp r : ℝ) : EReal) := rfl
theorem log_coe {r : ℝ} (h : 0 < r) : Ideal.log (r : EReal) = ((Real.log r : ℝ) : EReal) := if_neg h.not_ge

theorem ofBits_one : Ideal.ofBits .f32 0x3F800000#32 = ((1 : ℝ) : EReal) := by
  simp [Ideal.ofBits, Ideal.ieee, -EReal.coe_mul]
  norm_num
theorem ofBits_zero : Ideal.ofBits .f32 0x00000000#32 = ((0 : ℝ) : EReal) := by
  simp [Ideal.ofBits, Ideal.ieee, -EReal.coe_mul]

/-- The logarithm as the kernel forms it from a real score. -/
theorem lm_eq_real (y : ℝ) :
    min (Ideal.ofBits .f32 0x00000000#32 - (y : EReal)) (Ideal.ofBits .f32 0x00000000#32)
        - Ideal.log (Ideal.ofBits .f32 0x3F800000#32 + Ideal.exp2 (Ideal.ofBits .f32 0x00000000#32 - max (y : EReal) (-(y : EReal))))
          * ((((Real.log 2)⁻¹ : ℝ)) : EReal) = ((lmReal y : ℝ) : EReal) := by
  rw [ofBits_zero, ofBits_one, ← EReal.coe_neg, coe_max, ← EReal.coe_sub, ← EReal.coe_sub, coe_min, exp2_coe, ← EReal.coe_add,
    log_coe (by positivity), ← EReal.coe_mul, ← EReal.coe_sub]
  congr 1
  have hl : Real.log 2 ≠ 0 := (Real.log_pos one_lt_two).ne'
  unfold lmReal
  rcases le_total 0 y with h | h
  · rw [max_eq_left (by linarith), min_eq_left (by linarith), log_one_add_two_rpow y, zero_sub]
    field_simp
    ring
  · rw [max_eq_right (by linarith), min_eq_right (by linarith), zero_sub, zero_sub, neg_neg]

/-- And from any score. -/
theorem lm_eq (y : EReal) :
    min (Ideal.ofBits .f32 0x00000000#32 - y) (Ideal.ofBits .f32 0x00000000#32)
        - Ideal.log (Ideal.ofBits .f32 0x3F800000#32 + Ideal.exp2 (Ideal.ofBits .f32 0x00000000#32 - max y (-y)))
          * ((((Real.log 2)⁻¹ : ℝ)) : EReal) = lm y := by
  have h1 : Ideal.log (((1 : ℝ) : EReal) + 0) = 0 := by
    rw [add_zero, log_coe one_pos, Real.log_one, EReal.coe_zero]
  induction y using EReal.rec with
  | bot =>
    rw [lm_bot, ofBits_zero, ofBits_one, EReal.coe_zero, EReal.neg_bot, max_eq_right bot_le, zero_sub, zero_sub, EReal.neg_top, EReal.neg_bot,
      min_eq_right le_top, show Ideal.exp2 ⊥ = 0 from rfl, h1, zero_mul, sub_zero]
  | coe z => rw [lm_coe]; exact lm_eq_real z
  | top =>
    rw [lm_top, ofBits_zero, ofBits_one, EReal.coe_zero, EReal.neg_top, max_eq_left bot_le, zero_sub, EReal.neg_top,
      min_eq_left bot_le, show Ideal.exp2 ⊥ = 0 from rfl, h1, zero_mul, sub_zero]

/-- The soft maximum of a real and zero, as the host's function forms it. -/
theorem softplus_real (x : ℝ) :
    Scalar.select (Ideal.cmp .une ((x : EReal) - Ideal.ofBits .f32 0x00000000#32) ((x : EReal) - Ideal.ofBits .f32 0x00000000#32))
      ((x : EReal) + Ideal.ofBits .f32 0x00000000#32)
      (max (x : EReal) (Ideal.ofBits .f32 0x00000000#32)
        + Ideal.log1p (Ideal.exp (-max ((x : EReal) - Ideal.ofBits .f32 0x00000000#32) (-((x : EReal) - Ideal.ofBits .f32 0x00000000#32)))))
      = ((Real.log (1 + Real.exp x) : ℝ) : EReal) := by
  have hc : ∀ a : EReal, Ideal.cmp .une a a = 0#1 := fun a => by simp [Ideal.cmp]
  rw [hc, ValueIdx.select_zero, ofBits_zero, ← EReal.coe_sub, ← EReal.coe_neg, coe_max, coe_max, ← EReal.coe_neg, exp_coe, Ideal.log1p,
    show (1 : EReal) = ((1 : ℝ) : EReal) from rfl, ← EReal.coe_add, log_coe (by positivity), ← EReal.coe_add, sub_zero]
  congr 1
  rcases le_total 0 x with h | h
  · rw [max_eq_left h, max_eq_left (by linarith)]
    have : 1 + Real.exp x = Real.exp x * (1 + Real.exp (-x)) := by
      rw [mul_add, mul_one, ← Real.exp_add, add_neg_cancel, Real.exp_zero, add_comm]
    rw [this, Real.log_mul (Real.exp_pos x).ne' (by positivity), Real.log_exp]
  · rw [max_eq_right h, max_eq_right (by linarith), zero_add, neg_neg]

theorem exp_mul_log_two (y : ℝ) : Real.exp (y * Real.log 2) = (2 : ℝ) ^ y := by
  rw [Real.rpow_def_of_pos two_pos, mul_comm]

/-- The natural logarithm of not stopping, of a score in natural units. -/
theorem log_not_stop_real (y : ℝ) : -Real.log (1 + Real.exp (y * Real.log 2)) = lmReal y * Real.log 2 := by
  have hl : Real.log 2 ≠ 0 := (Real.log_pos one_lt_two).ne'
  rw [exp_mul_log_two, lmReal]
  field_simp

/-- And that of stopping. -/
theorem log_stop (y : ℝ) : -Real.log (1 + Real.exp (-(y * Real.log 2))) = (y + lmReal y) * Real.log 2 := by
  rw [add_mul, ← log_not_stop_real, exp_mul_log_two, log_one_add_two_rpow y, ← neg_mul, exp_mul_log_two]
  ring

/-- The soft maximum of `x` and zero, as the host's function forms it. -/
def soft (x : EReal) : EReal :=
  Scalar.select (Ideal.cmp .une (x - Ideal.ofBits .f32 0x00000000#32) (x - Ideal.ofBits .f32 0x00000000#32))
      (x + Ideal.ofBits .f32 0x00000000#32)
      (max x (Ideal.ofBits .f32 0x00000000#32)
        + Ideal.log1p (Ideal.exp (-max (x - Ideal.ofBits .f32 0x00000000#32) (-(x - Ideal.ofBits .f32 0x00000000#32)))))

theorem soft_coe (x : ℝ) : soft (x : EReal) = ((Real.log (1 + Real.exp x) : ℝ) : EReal) := softplus_real x

theorem log1p_zero : Ideal.log1p 0 = 0 := by
  rw [Ideal.log1p, add_zero, show (1 : EReal) = ((1 : ℝ) : EReal) from rfl, log_coe one_pos, Real.log_one, EReal.coe_zero]

theorem soft_top : soft ⊤ = ⊤ := by
  have hc : ∀ a : EReal, Ideal.cmp .une a a = 0#1 := fun a => by simp [Ideal.cmp]
  rw [soft, hc, ValueIdx.select_zero, ofBits_zero, EReal.coe_zero, sub_zero, EReal.neg_top, max_eq_left bot_le, max_eq_left le_top, EReal.neg_top,
    show Ideal.exp ⊥ = 0 from rfl, log1p_zero, add_zero]

theorem soft_bot : soft ⊥ = 0 := by
  have hc : ∀ a : EReal, Ideal.cmp .une a a = 0#1 := fun a => by simp [Ideal.cmp]
  rw [soft, hc, ValueIdx.select_zero, ofBits_zero, EReal.coe_zero, sub_zero, EReal.neg_bot, max_eq_right bot_le, max_eq_right bot_le, EReal.neg_top,
    show Ideal.exp ⊥ = 0 from rfl, log1p_zero, add_zero]

theorem log_two_pos : 0 < Real.log 2 := Real.log_pos one_lt_two

/-- The natural logarithm of not stopping, at any score. -/
theorem log_not_stop (y : EReal) : -soft (y * (Real.log 2 : ℝ)) = lm y * (Real.log 2 : ℝ) := by
  induction y using EReal.rec with
  | bot => rw [EReal.bot_mul_coe_of_pos log_two_pos, soft_bot, lm_bot, zero_mul, neg_zero]
  | coe z => rw [← EReal.coe_mul, soft_coe, ← EReal.coe_neg, log_not_stop_real, lm_coe, EReal.coe_mul]
  | top => rw [EReal.top_mul_coe_of_pos log_two_pos, soft_top, lm_top, EReal.bot_mul_coe_of_pos log_two_pos, EReal.neg_top]

/-- A weight as the reference forms it: its logarithm of stopping added to those of not stopping from this key on, less this one's. -/
theorem exp_stop (y T : EReal) (hT : T ≠ ⊤) :
    Ideal.exp (-soft (-(y * (Real.log 2 : ℝ))) + ((lm y + T) * (Real.log 2 : ℝ) - lm y * (Real.log 2 : ℝ))) = Ideal.exp2 (y + lm y + T) := by
  induction y using EReal.rec with
  | bot =>
    rw [EReal.bot_mul_coe_of_pos log_two_pos, EReal.neg_bot, soft_top, EReal.neg_top, EReal.bot_add, EReal.bot_add, EReal.bot_add]
    rfl
  | top =>
    rw [lm_top, EReal.bot_add, EReal.add_bot, EReal.bot_add, EReal.bot_mul_coe_of_pos log_two_pos, sub_eq_add_neg, EReal.bot_add, EReal.add_bot]
    rfl
  | coe z =>
    rw [← EReal.coe_mul, ← EReal.coe_neg, soft_coe, ← EReal.coe_neg, log_stop, lm_coe]
    induction T using EReal.rec with
    | bot =>
      rw [EReal.add_bot, EReal.add_bot, EReal.bot_mul_coe_of_pos log_two_pos, sub_eq_add_neg, EReal.bot_add, EReal.add_bot]
      rfl
    | top => exact absurd rfl hT
    | coe t =>
      rw [← EReal.coe_add, ← EReal.coe_mul, ← EReal.coe_mul, ← EReal.coe_sub, ← EReal.coe_add, ← EReal.coe_add, ← EReal.coe_add, exp_coe, exp2_coe,
        ← exp_mul_log_two]
      congr 2
      ring

/-! ## Sums over 256 keys -/

/-- The logarithms of 256 keys added to those after them. -/
theorem half_sum (f : ℕ → EReal) (base : ℕ) (hb : base + 256 ≤ 4096) :
    (∑ j ∈ Finset.Ico (base + 256) 4096, f j) + ∑ t : Fin 256, f (base + t.val) = ∑ j ∈ Finset.Ico base 4096, f j := by
  rw [← Finset.sum_Ico_consecutive f (Nat.le_add_right base 256) hb,
    Finset.sum_Ico_eq_sum_range f base (base + 256), Nat.add_sub_cancel_left, Finset.sum_range, add_comm]

/-- The logarithms of those of 256 keys that come after the `c`-th, added to those after the 256. -/
theorem half_after (f : ℕ → EReal) (base : ℕ) (hb : base + 256 ≤ 4096) (c : Fin 256) :
    (∑ t : Fin 256, f (base + t.val) * (if c.val < t.val then 1 else 0)) + ∑ j ∈ Finset.Ico (base + 256) 4096, f j
      = ∑ j ∈ Finset.Ico (base + c.val + 1) 4096, f j := by
  have h1 : ∀ t : Fin 256, f (base + t.val) * (if c.val < t.val then 1 else 0) = if c.val < t.val then f (base + t.val) else 0 := fun t => by
    split <;> simp
  have hc := c.isLt
  rw [Finset.sum_congr rfl fun t _ => h1 t, ← Finset.sum_Ico_consecutive f (show base + c.val + 1 ≤ base + 256 by omega) hb]
  congr 1
  rw [Finset.sum_Ico_eq_sum_range f (base + c.val + 1), ← Finset.sum_range (fun t => if c.val < t then f (base + t) else 0),
    ← Finset.sum_range_add_sum_Ico _ (show c.val + 1 ≤ 256 by omega),
    Finset.sum_eq_zero (fun t ht => if_neg (by have := Finset.mem_range.1 ht; omega)), zero_add,
    Finset.sum_Ico_eq_sum_range]
  refine Finset.sum_congr (by congr 1; omega) fun t _ => ?_
  rw [if_pos (by omega)]
  congr 1; omega

/-- Of the keys at or after the query, nothing is left. -/
theorem tail_eq_zero (y : ℕ → EReal) (r k : ℕ) (h : r ≤ k) : tail y r k = 0 :=
  Finset.sum_eq_zero fun j hj => if_neg (by have := (Finset.mem_Ico.1 hj).1; omega)

theorem tail_succ (y : ℕ → EReal) (r k : ℕ) (h : k < 4096) : tail y r k = gate y r k + tail y r (k + 1) :=
  Finset.sum_eq_sum_Ico_succ_bot h _

/-- A head's 128 outputs divided by the root of their mean square, times the head's gain. -/
def normed (a : Fin 128 → EReal) (g : EReal) (d : Fin 128) : EReal :=
  a d * Ideal.rsqrt (Ideal.div (∑ e : Fin 128, a e * a e) (Ideal.ofBits .f32 0x43000000#32) + Ideal.ofBits .f32 0x358637BD#32) * g

/-- What a query's weights make of the values. -/
def mixed (y : ℕ → EReal) (r : ℕ) (V : Fin 4096 → Fin 128 → EReal) (d : Fin 128) : EReal :=
  ∑ j : Fin 4096, (weight y r j.val) * V j d

end Cert.StickSpec

end
-- ==== Proof.StickGroup.lean ====
/- One group of 512 keys of the stick-breaking walk at exact values, one query at a time: its weights are those of the
   plain formula and the carried sum becomes the sum of the logarithms from the group's first key on. -/
module

public import proofs.«01_k».proof.Proof.StickBody
public import proofs.«01_k».proof.Proof.StickSpec
public import Idealize.ShloMosaic.Lib.MatmulPlain

@[expose] public section

set_option maxRecDepth 16384

noncomputable section

namespace Cert.KernelIdeal.Stick

open Idealize.ShloMosaic Idealize.ShloMosaic.TcCoe
open Idealize.ShloMosaic.ValueIdx
open Cert.KernelIdeal.Gen Cert.StickSpec

/-! ## Comparisons of coordinates -/

/-- A signed comparison of two words that hold small integers is the comparison of the integers. -/
theorem sgt_iff (a b : BitVec 32) (x y : ℤ) (ha : a.toInt = x) (hb : b.toInt = y) :
    IntOp.cmpi .sgt a b = if y < x then 1#1 else 0#1 := by
  unfold IntOp.cmpi
  simp only [BitVec.slt, ha, hb]
  by_cases h : y < x <;> simp [h]

theorem toInt_small (n : ℕ) (h : n < 4096) : (BitVec.ofNat 32 n).toInt = n := by
  rw [BitVec.toInt_eq_toNat_of_lt, BitVec.toNat_ofNat, Nat.mod_eq_of_lt] <;> (try rw [BitVec.toNat_ofNat, Nat.mod_eq_of_lt]) <;> omega

theorem toInt_diff (n k : ℕ) (h : n < 4096) (h' : k < 4096) : (BitVec.ofNat 32 n - BitVec.ofNat 32 k).toInt = (n : ℤ) - k := by
  rw [BitVec.toInt_sub, toInt_small n h, toInt_small k h', Int.bmod_eq_of_le] <;> omega

theorem pay57_apply (p : Fin 512) (c : Fin 256) : k0_pay57 (ix2 p c) = BitVec.ofNat 32 p.val - BitVec.ofNat 32 c.val := by
  show BitVec.ofNat 32 (0 * _ + p.val) - BitVec.ofNat 32 (0 * _ + c.val) = _
  rw [Nat.zero_mul, Nat.zero_add, Nat.zero_mul, Nat.zero_add]

theorem pay64_apply (p : Fin 512) (c : Fin 256) : k0_pay64 (ix2 p c) = if c.val + 256 < p.val then 1#1 else 0#1 := by
  refine (sgt_iff _ _ _ _ ((congrArg BitVec.toInt (pay57_apply p c)).trans (toInt_diff _ _ (by omega) (by omega)))
    (toInt_small 256 (by omega))).trans ?_
  congr 1
  apply propext
  omega

theorem pay67_apply (p : Fin 512) (c : Fin 256) : k0_pay67 k0_pay57 (ix2 p c) = if c.val < p.val then 1#1 else 0#1 := by
  refine (sgt_iff _ _ _ _ ((congrArg BitVec.toInt (pay57_apply p c)).trans (toInt_diff _ _ (by omega) (by omega)))
    (toInt_small 0 (by omega))).trans ?_
  congr 1
  apply propext
  omega

/-- The matrix that picks the later keys. -/
theorem pay58_apply (t c : Fin 256) : (k0_pay58 (F := Ideal) (ix2 t c) : EReal) = if c.val < t.val then 1 else 0 := by
  have h : (iota .tc S256x256 32 [0] iota_S256x256_d0_w32 (ix2 t c)) = BitVec.ofNat 32 t.val := by
    show BitVec.ofNat 32 (0 * _ + t.val) = _
    rw [Nat.zero_mul, Nat.zero_add]
  have h' : (iota .tc S256x256 32 [1] iota_S256x256_d1_w32 (ix2 t c)) = BitVec.ofNat 32 c.val := by
    show BitVec.ofNat 32 (0 * _ + c.val) = _
    rw [Nat.zero_mul, Nat.zero_add]
  have e : (k0_pay58 (F := Ideal) (ix2 t c) : EReal)
      = (((((IntOp.cmpi .sgt (iota .tc S256x256 32 [0] iota_S256x256_d0_w32 (ix2 t c))
          (iota .tc S256x256 32 [1] iota_S256x256_d1_w32 (ix2 t c))).setWidth 32).toInt : ℤ) : ℝ) : EReal) := rfl
  rw [e, h, h', sgt_iff _ _ _ _ (toInt_small t.val (by omega)) (toInt_small c.val (by omega))]
  by_cases hc : c.val < t.val
  · rw [if_pos hc, if_pos (by omega)]; norm_num
  · rw [if_neg hc, if_neg (by omega)]; norm_num

/-! ## The operations that move elements -/

theorem bcol_apply (v : FVec Ideal S512x1 .f32) (p : Fin 512) (c : Fin 256) :
    broadcastTo S512x256 v broadcasts_S512x1_S512x256 (ix2 p c) = v (ix2 p 0) :=
  broadcastTo_apply _ _ _ _ fun a => by fin_cases a <;> rfl

theorem left_apply (x : FVec Ideal S512x512 .f32) (p : Fin 512) (c : Fin 256) :
    extractStridedSlice S512x256 ![0, 0] x slices_S512x512_o0_0_S512x256 (ix2 p c) = x (ix2 p ⟨c.val, by omega⟩) :=
  extractStridedSlice_apply _ _ _ _ _ fun a => by fin_cases a <;> simp [ix2, S512x256]

theorem right_apply (x : FVec Ideal S512x512 .f32) (p : Fin 512) (c : Fin 256) :
    extractStridedSlice S512x256 ![0, 256] x slices_S512x512_o0_256_S512x256 (ix2 p c) = x (ix2 p ⟨256 + c.val, by omega⟩) :=
  extractStridedSlice_apply _ _ _ _ _ fun a => by fin_cases a <;> simp [ix2, S512x256]

/-- The sum of a row, kept as a column. -/
theorem rowsum_apply (x : FVec Ideal S512x256 .f32) (p : Fin 512) :
    (shapeCast S512x1 (multiReduction .add [1] S512 x 0x00000000#32 reduces_S512x256_S512 (.inl rfl) rfl) shapeCasts_S512_S512x1
      (ix2 p 0) : EReal) = ∑ t : Fin 256, (x (ix2 p t) : EReal) := by
  refine (shapeCast_apply _ _ _ (ix1 p) (by
    rw [Shape.rowMajor_val_one, Shape.rowMajor_val_two]; show p.val = p.val * 1 + 0; omega)).trans ?_
  refine (Ideal.multiReduction_add_single x _ reduces_S512x256_S512 _ _ (ix1 p)).trans ?_
  refine Finset.sum_congr rfl fun t _ => congrArg x ?_
  funext a; apply Fin.ext
  fin_cases a <;> rfl

theorem after_apply (x : FVec Ideal S512x256 .bf16) (p : Fin 512) (c : Fin 256) :
    (matmul dot_S512x256_S256x256_S512x256_1_0_0_1_n_n none x (k0_pay58 (F := Ideal)) (constant S512x256 .f32 0x00000000#32) (ix2 p c) : EReal)
      = ∑ t : Fin 256, (x (ix2 p t) : EReal) * (if c.val < t.val then 1 else 0) := by
  refine (Ideal.matmul_plain_apply (M := 512) (K := 256) (N := 256) none x _ _ p c).trans ?_
  rw [show (constant S512x256 .f32 0x00000000#32 : FVec Ideal S512x256 .f32) (ix2 p c) = (0 : EReal) from ofBits_zero, zero_add]
  exact Finset.sum_congr rfl fun t _ => congrArg _ (pay58_apply t c)

theorem scores_apply (q kb : FVec Ideal S512x128 .bf16) (p c : Fin 512) :
    (k0_pay24 (F := Ideal) q kb (ix2 p c) : EReal) = ∑ d : Fin 128, (q (ix2 p d) : EReal) * kb (ix2 c d) := by
  refine (Ideal.matmul_transposedRhs_apply (M := 512) (K := 128) (N := 512) none q kb _ p c).trans ?_
  rw [show (constant S512x512 .f32 0x00000000#32 : FVec Ideal S512x512 .f32) (ix2 p c) = (0 : EReal) from ofBits_zero, zero_add]

theorem values_apply (a : FVec Ideal S512x512 .bf16) (vb : FVec Ideal S512x128 .bf16) (p : Fin 512) (d : Fin 128) :
    (k0_pay71 (F := Ideal) a vb (ix2 p d) : EReal) = ∑ t : Fin 512, (a (ix2 p t) : EReal) * vb (ix2 t d) := by
  refine (Ideal.matmul_plain_apply (M := 512) (K := 512) (N := 128) none a vb _ p d).trans ?_
  rw [show (constant S512x128 .f32 0x00000000#32 : FVec Ideal S512x128 .f32) (ix2 p d) = (0 : EReal) from ofBits_zero, zero_add]

/-! ## Half a group: 256 keys -/

variable (y : ℕ → EReal) (r base : ℕ) (p : Fin 512)

/-- The weights of 256 keys before masking. -/
theorem expo_apply (z m : FVec Ideal S512x256 .f32) (C : FVec Ideal S512x1 .f32) (hb : base + 256 ≤ 4096)
    (hz : ∀ c : Fin 256, (z (ix2 p c) : EReal) = (y (base + c.val)))
    (hm : ∀ c : Fin 256, (m (ix2 p c) : EReal) = (gate y r (base + c.val)))
    (hC : (C (ix2 p 0) : EReal) = (tail y r (base + 256))) (c : Fin 256) :
    (exp2 (addf (addf z m) (addf (matmul dot_S512x256_S256x256_S512x256_1_0_0_1_n_n none (truncf .bf16 m bitsLt_bf16_f32)
        (k0_pay58 (F := Ideal)) (constant S512x256 .f32 0x00000000#32)) (broadcastTo S512x256 C broadcasts_S512x1_S512x256))) (ix2 p c) : EReal)
      = Ideal.exp2 (y (base + c.val) + gate y r (base + c.val) + tail y r (base + c.val + 1)) := by
  show Ideal.exp2 ((z (ix2 p c) + m (ix2 p c) : EReal) + ((matmul dot_S512x256_S256x256_S512x256_1_0_0_1_n_n none
    (truncf .bf16 m bitsLt_bf16_f32) (k0_pay58 (F := Ideal)) (constant S512x256 .f32 0x00000000#32) (ix2 p c) : EReal)
      + (broadcastTo S512x256 C broadcasts_S512x1_S512x256 (ix2 p c) : EReal))) = _
  rw [after_apply, bcol_apply, hC, hz, hm]
  rw [Finset.sum_congr rfl fun t _ => congrArg (· * _) (show (truncf .bf16 m bitsLt_bf16_f32 (ix2 p t) : EReal) = _ from hm t)]
  rw [tail, half_after (gate y r) base hb c]
  rfl

/-- The carried sum after 256 keys. -/
theorem carry_apply (m : FVec Ideal S512x256 .f32) (C : FVec Ideal S512x1 .f32) (hb : base + 256 ≤ 4096)
    (hm : ∀ c : Fin 256, (m (ix2 p c) : EReal) = (gate y r (base + c.val)))
    (hC : (C (ix2 p 0) : EReal) = (tail y r (base + 256))) :
    (addf C (shapeCast S512x1 (multiReduction .add [1] S512 m 0x00000000#32 reduces_S512x256_S512 (.inl rfl) rfl) shapeCasts_S512_S512x1)
      (ix2 p 0) : EReal) = (tail y r base) := by
  show (C (ix2 p 0) : EReal) + (shapeCast S512x1 _ shapeCasts_S512_S512x1 (ix2 p 0) : EReal) = _
  rw [rowsum_apply, hC, Finset.sum_congr rfl fun t _ => hm t]
  exact half_sum (gate y r) base hb

/-- The logarithm as printed, of a score. -/
theorem log_term (z a : EReal) (h : z = a) :
    min (Ideal.ofBits .f32 0x00000000#32 - z) (Ideal.ofBits .f32 0x00000000#32)
        - Ideal.log (Ideal.ofBits .f32 0x3F800000#32 + Ideal.exp2 (Ideal.ofBits .f32 0x00000000#32 - max z (-z)))
          * (Named.named (F := Ideal) (φ := .f32) κ "log2e" 0x3FB8AA3B#32 : EReal) = (lm a) := by
  have hκ : (Named.named (F := Ideal) (φ := .f32) κ "log2e" 0x3FB8AA3B#32 : EReal) = (((Real.log 2)⁻¹ : ℝ) : EReal) :=
    IdealRules.named_const.ideal_named_scalar _ _ _ _ rfl
  rw [hκ, h]
  exact lm_eq a

/-- Of 512 columns, those of the left half and those of the right half. -/
theorem concat_apply (a b : FVec Ideal S512x256 .bf16) (w : ℕ → EReal)
    (ha : ∀ c : Fin 256, (a (ix2 p c) : EReal) = w c.val) (hb : ∀ c : Fin 256, (b (ix2 p c) : EReal) = w (256 + c.val)) (t : Fin 512) :
    (concatenate S512x512 1 [⟨S512x256, a⟩, ⟨S512x256, b⟩] concatenates_S512x256_S512x256_S512x512_d1 (ix2 p t) : EReal) = w t.val := by
  by_cases h : t.val < 256
  · rw [concatenate_pair_apply_left 1 a b concatenates_S512x256_S512x256_S512x512_d1 (ix2 p t) rfl (ix2 p ⟨t.val, h⟩)
      (fun b => by fin_cases b <;> rfl)]
    exact ha ⟨t.val, h⟩
  · rw [concatenate_pair_apply_right 1 a b concatenates_S512x256_S512x256_S512x512_d1 (ix2 p t) rfl rfl (ix2 p ⟨t.val - 256, by omega⟩)
      (fun b hb => by fin_cases b <;> first | rfl | exact absurd rfl hb) (by show t.val - 256 + 256 = t.val; omega)]
    refine (hb _).trans (congrArg w ?_)
    show 256 + (t.val - 256) = t.val
    omega

/-! ## The two kinds of groups -/

variable (q kb : FVec Ideal S512x128 .bf16) (hB : base + 512 ≤ 4096)
  (hz : ∀ c : Fin 512, ∑ d : Fin 128, (q (ix2 p d) : EReal) * kb (ix2 c d) = (y (base + c.val)))

include hz in
theorem pay25_apply (c : Fin 256) : (k0_pay25 (F := Ideal) q kb (ix2 p c) : EReal) = (y (base + c.val)) :=
  (left_apply _ p c).trans ((scores_apply q kb p _).trans (hz _))

include hz in
theorem pay26_apply (c : Fin 256) : (k0_pay26 (F := Ideal) q kb (ix2 p c) : EReal) = (y (base + 256 + c.val)) :=
  (right_apply _ p c).trans ((scores_apply q kb p _).trans ((hz _).trans (by rw [Nat.add_assoc])))

include hz in
/-- The right half's logarithms in a group whose keys all lie before the query. -/
theorem pay29_apply (hr : base + 512 ≤ r) (c : Fin 256) :
    (k0_pay29 (F := Ideal) (k0_pay27 q kb) (k0_pay28 q kb) (Scalar.ofBits .f32 0x3F800000#32) (ix2 p c) : EReal)
      = (gate y r (base + 256 + c.val)) := by
  rw [gate, if_pos (by omega)]
  exact log_term _ _ (pay26_apply y base p q kb hz c)

include hz in
/-- And the left half's. -/
theorem pay31_apply (hr : base + 512 ≤ r) (c : Fin 256) :
    (k0_pay31 (F := Ideal) (k0_pay25 q kb) (ix2 p c) : EReal) = (gate y r (base + c.val)) := by
  rw [gate, if_pos (by omega)]
  exact log_term _ _ (pay25_apply y base p q kb hz c)

variable (C : FVec Ideal S512x1 .f32) (hC : (C (ix2 p 0) : EReal) = (tail y r (base + 512)))

include hB hz hC in
theorem pay30_apply (hr : base + 512 ≤ r) :
    (k0_pay30 (F := Ideal) C (k0_pay27 q kb) (k0_pay28 q kb) (Scalar.ofBits .f32 0x3F800000#32) (ix2 p 0) : EReal)
      = (tail y r (base + 256)) :=
  carry_apply y r (base + 256) p _ C (by omega) (pay29_apply y r base p q kb hz hr) hC

include hB hz hC in
/-- After a group before the query the carried sum starts at the group's first key. -/
theorem groupC_apply (hr : base + 512 ≤ r) : (groupC (F := Ideal) q kb C (ix2 p 0) : EReal) = (tail y r base) :=
  carry_apply y r base p _ _ (by omega) (pay31_apply y r base p q kb hz hr) (pay30_apply y r base p q kb hB hz C hC hr)

include hB hz hC in
/-- The weights of a group before the query. -/
theorem groupA_apply (hr : base + 512 ≤ r) (t : Fin 512) :
    (groupA (F := Ideal) q kb C (ix2 p t) : EReal) = (weight y r (base + t.val)) := by
  refine concat_apply p _ _ (fun n => (weight y r (base + n))) (fun c => ?_) (fun c => ?_) t
  · refine (expo_apply y r base p (k0_pay25 q kb) _ _ (by omega) (pay25_apply y base p q kb hz)
      (pay31_apply y r base p q kb hz hr) (pay30_apply y r base p q kb hB hz C hC hr) c).trans ?_
    rw [weight, gate, if_pos (by omega), if_pos (by omega)]
  · refine (expo_apply y r (base + 256) p (k0_pay26 q kb) _ _ (by omega) (pay26_apply y base p q kb hz)
      (pay29_apply y r base p q kb hz hr) hC c).trans ?_
    rw [← Nat.add_assoc, weight, gate, if_pos (by omega), if_pos (by omega)]

/-! The group on the diagonal, where the queries are the keys -/

include hz in
theorem pay65_apply (hr : r = base + p.val) (c : Fin 256) :
    (k0_pay65 (F := Ideal) (k0_pay63 q kb) k0_pay64 (Scalar.ofBits .f32 0x00000000#32) (ix2 p c) : EReal)
      = (gate y r (base + 256 + c.val)) := by
  show Scalar.select (k0_pay64 (ix2 p c)) (k0_pay63 (F := Ideal) q kb (ix2 p c)) (Ideal.ofBits .f32 0x00000000#32) = _
  rw [pay64_apply, gate]
  by_cases h : c.val + 256 < p.val
  · rw [if_pos h, if_pos (by omega), select_one]
    exact log_term _ _ (pay26_apply y base p q kb hz c)
  · rw [if_neg h, if_neg (by omega), select_zero, ofBits_zero, EReal.coe_zero]

include hz in
theorem pay68_apply (hr : r = base + p.val) (c : Fin 256) :
    (k0_pay68 (F := Ideal) k0_pay57 (k0_pay61 q kb) (ix2 p c) : EReal) = (gate y r (base + c.val)) := by
  have hl := log_term _ _ (pay25_apply y base p q kb hz c)
  rw [gate]
  refine (show _ = Scalar.select (k0_pay67 k0_pay57 (ix2 p c)) _ (Ideal.ofBits .f32 0x00000000#32) from rfl).trans ?_
  rw [pay67_apply]
  by_cases h : c.val < p.val
  · rw [if_pos h, if_pos (by omega), select_one]
    exact hl
  · rw [if_neg h, if_neg (by omega), select_zero, ofBits_zero, EReal.coe_zero]

theorem pay59_apply (hr : r = base + p.val) : (k0_pay59 (F := Ideal) (ix2 p 0) : EReal) = (tail y r (base + 256 + 256)) := by
  rw [tail_eq_zero _ _ _ (by omega)]
  exact ofBits_zero

include hB hz in
theorem pay66_apply (hr : r = base + p.val) :
    (k0_pay66 (F := Ideal) k0_pay59 (k0_pay63 q kb) k0_pay64 (Scalar.ofBits .f32 0x00000000#32) (ix2 p 0) : EReal)
      = (tail y r (base + 256)) :=
  carry_apply y r (base + 256) p _ _ (by omega) (pay65_apply y r base p q kb hz hr) (pay59_apply y r base p hr)

include hB hz in
/-- After the diagonal group the carried sum starts at the group's first key. -/
theorem diagC_apply (hr : r = base + p.val) : (diagC (F := Ideal) q kb (ix2 p 0) : EReal) = (tail y r base) :=
  carry_apply y r base p _ _ (by omega) (pay68_apply y r base p q kb hz hr) (pay66_apply y r base p q kb hB hz hr)

include hB hz in
/-- The weights of the diagonal group. -/
theorem diagA_apply (hr : r = base + p.val) (t : Fin 512) :
    (diagA (F := Ideal) q kb (ix2 p t) : EReal) = (weight y r (base + t.val)) := by
  refine concat_apply p _ _ (fun n => (weight y r (base + n))) (fun c => ?_) (fun c => ?_) t
  · have he := expo_apply y r base p (k0_pay25 q kb) _ _ (by omega) (pay25_apply y base p q kb hz)
      (pay68_apply y r base p q kb hz hr) (pay66_apply y r base p q kb hB hz hr) c
    refine (show _ = Scalar.select (k0_pay67 k0_pay57 (ix2 p c)) _ (Ideal.ofBits .f32 0x00000000#32) from rfl).trans ?_
    rw [pay67_apply, weight]
    by_cases h : c.val < p.val
    · rw [if_pos h, if_pos (by omega), select_one]
      refine Eq.trans he ?_
      rw [gate, if_pos (by omega)]
    · rw [if_neg h, if_neg (by omega), select_zero, ofBits_zero, EReal.coe_zero]
  · have he := expo_apply y r (base + 256) p (k0_pay26 q kb) _ _ (by omega) (pay26_apply y base p q kb hz)
      (pay65_apply y r base p q kb hz hr) (pay59_apply y r base p hr) c
    refine (show _ = Scalar.select (k0_pay64 (ix2 p c)) _ (Ideal.ofBits .f32 0x00000000#32) from rfl).trans ?_
    rw [pay64_apply, ← Nat.add_assoc, weight]
    by_cases h : c.val + 256 < p.val
    · rw [if_pos h, if_pos (by omega), select_one]
      refine Eq.trans he ?_
      rw [gate, if_pos (by omega)]
    · rw [if_neg h, if_neg (by omega), select_zero, ofBits_zero, EReal.coe_zero]

end Cert.KernelIdeal.Stick

end
-- ==== Proof.StickWalk.lean ====
/- The stick-breaking walk at exact values: after all its groups a query's accumulator is the weighted sum of every value,
   and the block the body writes is that sum, normed. -/
module

public import proofs.«01_k».proof.Proof.StickGroup

@[expose] public section

set_option maxRecDepth 16384

noncomputable section

namespace Cert.KernelIdeal.Stick

open Idealize.ShloMosaic Idealize.ShloMosaic.TcCoe
open Idealize.ShloMosaic.ValueIdx
open Cert.KernelIdeal.Gen Cert.StickSpec

/-- A sum over a group's 512 keys, by the keys' own numbers. -/
theorem group_sum (f : ℕ → EReal) (base : ℕ) : ∑ t : Fin 512, f (base + t.val) = ∑ j ∈ Finset.Ico base (base + 512), f j := by
  rw [Finset.sum_Ico_eq_sum_range f base (base + 512), Nat.add_sub_cancel_left, Finset.sum_range]

variable (y : ℕ → EReal) (b : ℕ) (hb : b < 8) (p : Fin 512) (q : FVec Ideal S512x128 .bf16) (X Y : FVec Ideal S4096x128 .bf16)
  (hq : ∀ j : Fin 4096, ∑ d : Fin 128, (q (ix2 p d) : EReal) * X (ix2 j d) = (y j.val))

include hq in
theorem rows_scores (g : ℕ) (hg : 512 * g + 512 ≤ 4096) (c : Fin 512) :
    ∑ d : Fin 128, (q (ix2 p d) : EReal) * rows (F := Ideal) X g (ix2 c d) = (y (512 * g + c.val)) := by
  have h : (512 * g + c.val) % 4096 = 512 * g + c.val := Nat.mod_eq_of_lt (by omega)
  refine (hq ⟨(512 * g + c.val) % 4096, Nat.mod_lt _ (by decide)⟩).trans ?_
  show (y ((512 * g + c.val) % 4096)) = _
  rw [h]

/-- A value's column by a key's number. -/
def col (Y : FVec Ideal S4096x128 .bf16) (d : Fin 128) (j : ℕ) : EReal := Y (ix2 ⟨j % 4096, Nat.mod_lt _ (by decide)⟩ d)

include hb hq in
/-- The walk after `n` groups: the carried sum and the accumulator cover the keys from the last group's first one on. -/
theorem walk_apply (n : ℕ) (hn : n ≤ b) :
    ((walk (F := Ideal) b q X Y n).1 (ix2 p 0) : EReal) = (tail y (512 * b + p.val) (512 * (b - n)))
    ∧ ∀ d : Fin 128, ((walk (F := Ideal) b q X Y n).2 (ix2 p d) : EReal)
      = ∑ j ∈ Finset.Ico (512 * (b - n)) 4096, (weight y (512 * b + p.val) j) * col Y d j := by
  induction n with
  | zero =>
    have hz := rows_scores y p q X hq b (by omega)
    refine ⟨diagC_apply y _ (512 * b) p q _ (by omega) hz rfl, fun d => ?_⟩
    refine (values_apply _ _ p d).trans ?_
    rw [Finset.sum_congr rfl fun t _ => congrArg (· * _) (diagA_apply y _ (512 * b) p q _ (by omega) hz rfl t)]
    refine (group_sum (fun j => (weight y (512 * b + p.val) j) * col Y d j) (512 * b)).trans ?_
    rw [Nat.sub_zero, ← Finset.sum_Ico_consecutive _ (show 512 * b ≤ 512 * b + 512 by omega) (show 512 * b + 512 ≤ 4096 by omega),
      Finset.sum_eq_zero (s := Finset.Ico (512 * b + 512) 4096), add_zero]
    intro j hj
    have := (Finset.mem_Ico.1 hj).1
    rw [weight, if_neg (by omega), zero_mul]
  | succ n ih =>
    obtain ⟨ih1, ih2⟩ := ih (by omega)
    have hz := rows_scores y p q X hq (b - 1 - n) (by omega)
    have e : b - (n + 1) = b - 1 - n := by omega
    have e' : 512 * (b - n) = 512 * (b - 1 - n) + 512 := by omega
    rw [e'] at ih1 ih2
    rw [e]
    refine ⟨groupC_apply y _ (512 * (b - 1 - n)) p q _ (by omega) hz _ ih1 (by omega), fun d => ?_⟩
    have hv := values_apply (groupA (F := Ideal) q (rows X (b - 1 - n)) (walk b q X Y n).1) (rows (F := Ideal) Y (b - 1 - n)) p d
    refine (show _ = ((walk (F := Ideal) b q X Y n).2 (ix2 p d) : EReal) + _ from rfl).trans ?_
    rw [ih2 d, add_comm]
    refine (congrArg (· + _) (hv.trans ?_)).trans
      (Finset.sum_Ico_consecutive _ (show 512 * (b - 1 - n) ≤ 512 * (b - 1 - n) + 512 by omega) (show 512 * (b - 1 - n) + 512 ≤ 4096 by omega))
    rw [Finset.sum_congr rfl fun t _ => congrArg (· * _) (groupA_apply y _ (512 * (b - 1 - n)) p q _ (by omega) hz _ ih1 (by omega) t)]
    exact group_sum (fun j => (weight y (512 * b + p.val) j) * col Y d j) _

include hb hq in
/-- The whole walk's accumulator. -/
theorem walk_mixed (d : Fin 128) :
    ((walk (F := Ideal) b q X Y b).2 (ix2 p d) : EReal) = mixed y (512 * b + p.val) (fun j e => Y (ix2 j e)) d := by
  refine ((walk_apply y b hb p q X Y hq b le_rfl).2 d).trans ?_
  rw [Nat.sub_self, Nat.mul_zero, ← Finset.range_eq_Ico, Finset.sum_range]
  refine Finset.sum_congr rfl fun j _ => ?_
  have h : (⟨j.val % 4096, Nat.mod_lt _ (by decide)⟩ : Fin 4096) = j := Fin.ext (Nat.mod_eq_of_lt j.isLt)
  unfold col
  rw [h]

/-! ## The norm -/

theorem pay3_apply (v : FVec Ideal S512x128 .f32) (g : FVec Ideal S1x128 .f32) (p : Fin 512) (d : Fin 128) :
    (k0_pay3 (F := Ideal) v g (ix2 p d) : EReal) = normed (fun e => v (ix2 p e)) (g (ix2 0 d)) d := by
  have hs : (shapeCast S512x1 (multiReduction .add [1] S512 (mulf v v) 0x00000000#32 reduces_S512x128_S512 (.inl rfl) rfl)
      shapeCasts_S512_S512x1 (ix2 p 0) : EReal) = ∑ e : Fin 128, (v (ix2 p e) : EReal) * v (ix2 p e) := by
    refine (shapeCast_apply _ _ _ (ix1 p) (by
      rw [Shape.rowMajor_val_one, Shape.rowMajor_val_two]; show p.val = p.val * 1 + 0; omega)).trans ?_
    refine (Ideal.multiReduction_add_single _ _ reduces_S512x128_S512 _ _ (ix1 p)).trans ?_
    refine Finset.sum_congr rfl fun t _ => congrArg (fun i => (v i * v i : EReal)) ?_
    funext a; apply Fin.ext
    fin_cases a <;> rfl
  have hb1 : ∀ w : FVec Ideal S512x1 .f32, broadcastTo S512x128 w broadcasts_S512x1_S512x128 (ix2 p d) = w (ix2 p 0) :=
    fun w => broadcastTo_apply _ _ _ _ fun a => by fin_cases a <;> rfl
  have hb2 : broadcastTo S512x128 g broadcasts_S1x128_S512x128 (ix2 p d) = g (ix2 0 d) :=
    broadcastTo_apply _ _ _ _ fun a => by fin_cases a <;> rfl
  have e : (k0_pay3 (F := Ideal) v g (ix2 p d) : EReal) = (v (ix2 p d) : EReal)
      * (broadcastTo S512x128 (rsqrt (addf (divf (shapeCast S512x1 (multiReduction .add [1] S512 (mulf v v) 0x00000000#32
          reduces_S512x128_S512 (.inl rfl) rfl) shapeCasts_S512_S512x1) (broadcast S512x1 (Scalar.ofBits .f32 0x43000000#32)))
          (broadcast S512x1 (Scalar.ofBits .f32 0x358637BD#32)))) broadcasts_S512x1_S512x128 (ix2 p d) : EReal)
      * (broadcastTo S512x128 g broadcasts_S1x128_S512x128 (ix2 p d) : EReal) := rfl
  rw [e, hb1, hb2]
  unfold normed
  rw [← hs]
  rfl

include hb hq in
/-- A row of the block the body writes. -/
theorem bodyOut_apply (g : FVec Ideal S1x128 .f32) (d : Fin 128) :
    (bodyOut (F := Ideal) b q X Y g (ix2 p d) : EReal)
      = normed (mixed y (512 * b + p.val) fun j e => Y (ix2 j e)) (g (ix2 0 d)) d := by
  refine (pay3_apply _ g p d).trans ?_
  rw [funext fun e => walk_mixed y b hb p q X Y hq e]

end Cert.KernelIdeal.Stick

end
-- ==== Proof.StickRef.lean ====
/- The reference at exact values, one element at a time: its scores, its masked logarithms and their sums over the later
   keys, its weights, and its normed outputs, as the plain formulas. -/
module

public import proofs.«01_k».proof.Proof.Gen.ReferenceIdeal.Read
public import proofs.«01_k».proof.Proof.StickSpec

@[expose] public section

set_option maxRecDepth 16384

noncomputable section

namespace Cert.ReferenceIdeal.Stick

open Idealize.ShloMosaic Idealize.ShloMosaic.TcCoe
open Idealize.ShloMosaic.ValueIdx
open Cert.ReferenceIdeal Cert.ReferenceIdeal.Gen Cert.ReferenceIdeal.Read Cert.StickSpec

/-! ## The running sum from the right -/

/-- A window of the running sum holds one coordinate per later position. -/
def windowEquiv : (⟨4, ![1, 1, 1, 4096]⟩ : Shape).Idx ≃ Fin 4096 where
  toFun w := w 3
  invFun n := ix4 0 0 0 n
  left_inv w := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv _ := rfl

theorem foldl_add {ι : Type*} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The running sum at key `k` is the sum over the keys from `k` on. -/
theorem cumsum_apply (x : FVec Ideal S2x5x4096x4096 .f32) (init : FVec Ideal S_ .f32) (hi : ∀ i, (init i : EReal) = 0)
    (b : Fin 2) (h : Fin 5) (r k : Fin 4096) (f : ℕ → EReal) (hf : ∀ j : Fin 4096, (x (ix4 b h r j) : EReal) = f j.val) :
    (Host.reduceWindowAdd ![1, 1, 1, 4096] ![1, 1, 1, 1] ![0, 0, 0, 0] ![0, 0, 0, 4095] x init
      reduceWindows_S2x5x4096x4096_S2x5x4096x4096_w1s1p0_0_w1s1p0_0_w1s1p0_0_w4096s1p0_4095 h_S_ (ix4 b h r k) : EReal)
      = ∑ j ∈ Finset.Ico k.val 4096, f j := by
  unfold Host.reduceWindowAdd
  rw [Ideal.hostReduceWindowAdd_def]
  unfold Ideal.hostReduceWindowAdd
  unfold Host.reduceWindow
  simp only [hi]
  rw [foldl_add, zero_add, ← Fin.sum_univ_def]
  refine (Equiv.sum_comp (windowEquiv.symm.trans (Shape.rowMajor (⟨4, ![1, 1, 1, 4096]⟩ : Shape))) _).symm.trans ?_
  simp only [Equiv.trans_apply, Equiv.symm_apply_apply]
  have hk := k.isLt
  refine (Finset.sum_congr rfl (g := fun n : Fin 4096 => if k.val + n.val < 4096 then f (k.val + n.val) else 0) fun n _ => ?_).trans ?_
  · by_cases hn : k.val + n.val < 4096
    · rw [if_pos hn, dif_pos (fun a => by
        have h0 := b.isLt; have h1 := h.isLt; have h2 := r.isLt
        match a with
        | ⟨0, _⟩ => exact ⟨Nat.zero_le _, by show b.val * 1 + 0 - 0 < 2; omega⟩
        | ⟨1, _⟩ => exact ⟨Nat.zero_le _, by show h.val * 1 + 0 - 0 < 5; omega⟩
        | ⟨2, _⟩ => exact ⟨Nat.zero_le _, by show r.val * 1 + 0 - 0 < 4096; omega⟩
        | ⟨3, _⟩ => exact ⟨Nat.zero_le _, by show k.val * 1 + n.val - 0 < 4096; omega⟩)]
      refine Eq.trans (congrArg x (funext fun a => Fin.ext ?_)) (hf ⟨k.val + n.val, hn⟩)
      match a with
      | ⟨0, _⟩ => show b.val * 1 + 0 - 0 = b.val; omega
      | ⟨1, _⟩ => show h.val * 1 + 0 - 0 = h.val; omega
      | ⟨2, _⟩ => show r.val * 1 + 0 - 0 = r.val; omega
      | ⟨3, _⟩ => show k.val * 1 + n.val - 0 = k.val + n.val; omega
    · rw [if_neg hn, dif_neg]
      intro hin
      have h3 : k.val * 1 + n.val - 0 < 4096 := (hin 3).2
      omega
  rw [← Finset.sum_range (fun n => if k.val + n < 4096 then f (k.val + n) else 0),
    Finset.sum_Ico_eq_sum_range, ← Finset.sum_range_add_sum_Ico _ (show 4096 - k.val ≤ 4096 by omega),
    Finset.sum_eq_zero (s := Finset.Ico (4096 - k.val) 4096) (fun n hn => if_neg (by have := (Finset.mem_Ico.1 hn).1; omega)), add_zero]
  exact Finset.sum_congr rfl fun n hn => if_pos (by have := Finset.mem_range.1 hn; omega)

/-! ## The constants -/

/-- The scale of the scores, one over the root of a head's width. -/
def sc : ℝ := 1 / Real.sqrt 128

theorem sc_pos : 0 < sc := by unfold sc; positivity
theorem log2_pos : 0 < Real.log 2 := Real.log_pos one_lt_two

theorem v1_eq (i : S_.Idx) : (val_main_v1 (F := Ideal) i : EReal) = ((sc : ℝ) : EReal) := by
  show Ideal.div (Ideal.ofBits .f32 0x3F800000#32) (Ideal.sqrt (Ideal.ofBits .f32 0x43000000#32)) = _
  have h : Ideal.ofBits .f32 0x43000000#32 = ((128 : ℝ) : EReal) := by
    simp [Ideal.ofBits, Ideal.ieee, -EReal.coe_mul]; norm_num
  have h0 : Real.sqrt 128 ≠ 0 := by positivity
  rw [h, ofBits_one, Ideal.sqrt_coe, if_neg (by norm_num), Ideal.div_coe h0, ← EReal.coe_mul, one_mul]
  rfl

theorem v9_eq (i : S_.Idx) : (val_main_v9 (F := Ideal) i : EReal) = ((sc / Real.log 2 : ℝ) : EReal) := by
  show Ideal.div (val_main_v1 (F := Ideal) i) (Ideal.log (Ideal.ofBits .f32 0x40000000#32)) = _
  have h : Ideal.ofBits .f32 0x40000000#32 = ((2 : ℝ) : EReal) := by
    simp [Ideal.ofBits, Ideal.ieee, -EReal.coe_mul]; norm_num
  rw [v1_eq, h, log_coe two_pos, Ideal.div_coe log2_pos.ne', ← EReal.coe_mul, mul_one_div]

/-! ## The queries, keys and values -/

/-- Where section `t` (queries, keys, values) of head `h` lies in the projected rows. -/
theorem v5_eq (x0 : FVec Ideal S8192x6144 .bf16) (t : Fin 3) (b : Fin 2) (h : Fin 5) (s : Fin 4096) (d : Fin 128) :
    (val_main_v5 (F := Ideal) x0 (ix5 t b h s d) : EReal)
      = x0 (ix2 ⟨4096 * b.val + s.val, by omega⟩ ⟨2048 * t.val + 128 * (11 + h.val) + d.val, by omega⟩) := by
  rw [val_main_v5_apply, val_main_v4_apply, val_main_v3_apply]
  refine congrArg x0 (funext fun a => Fin.ext ?_)
  have ht := t.isLt; have hb := b.isLt; have hh := h.isLt; have hs := s.isLt; have hd := d.isLt
  match a with
  | ⟨0, _⟩ =>
    show ((((b.val * 4096 + s.val) * 3 + t.val) * 16 + (11 + h.val)) * 128 + d.val) / 6144 = 4096 * b.val + s.val
    omega
  | ⟨1, _⟩ =>
    show ((((b.val * 4096 + s.val) * 3 + t.val) * 16 + (11 + h.val)) * 128 + d.val) % 6144 = 2048 * t.val + 128 * (11 + h.val) + d.val
    omega

theorem idx5_eq (b : Fin 2) (h : Fin 5) (s : Fin 4096) (d : Fin 128) :
    idx_main_v7 (ix4 b h s d) = ix5 0 b h s d := by
  have hb := b.isLt; have hh := h.isLt; have hs := s.isLt; have hd := d.isLt
  funext a; apply Fin.ext
  match a with
  | ⟨0, _⟩ => rfl
  | ⟨1, _⟩ => show (((b.val * 5 + h.val) * 4096 + s.val) * 128 + d.val) / 2621440 % 2 = b.val; omega
  | ⟨2, _⟩ => show (((b.val * 5 + h.val) * 4096 + s.val) * 128 + d.val) / 524288 % 5 = h.val; omega
  | ⟨3, _⟩ => show (((b.val * 5 + h.val) * 4096 + s.val) * 128 + d.val) / 128 % 4096 = s.val; omega
  | ⟨4, _⟩ => show (((b.val * 5 + h.val) * 4096 + s.val) * 128 + d.val) % 128 = d.val; omega

theorem idx6_eq (b : Fin 2) (h : Fin 5) (s : Fin 4096) (d : Fin 128) : idx_main_v6 (ix5 0 b h s d) = ix5 0 b h s d := by
  funext a; apply Fin.ext
  match a with
  | ⟨0, _⟩ => rfl
  | ⟨1, _⟩ => rfl
  | ⟨2, _⟩ => rfl
  | ⟨3, _⟩ => rfl
  | ⟨4, _⟩ => rfl

theorem idx12_eq (b : Fin 2) (h : Fin 5) (s : Fin 4096) (d : Fin 128) : idx_main_v12 (ix5 0 b h s d) = ix5 1 b h s d := by
  funext a; apply Fin.ext
  match a with
  | ⟨0, _⟩ => rfl
  | ⟨1, _⟩ => rfl
  | ⟨2, _⟩ => rfl
  | ⟨3, _⟩ => rfl
  | ⟨4, _⟩ => rfl

theorem idx14_eq (b : Fin 2) (h : Fin 5) (s : Fin 4096) (d : Fin 128) : idx_main_v14 (ix5 0 b h s d) = ix5 2 b h s d := by
  funext a; apply Fin.ext
  match a with
  | ⟨0, _⟩ => rfl
  | ⟨1, _⟩ => rfl
  | ⟨2, _⟩ => rfl
  | ⟨3, _⟩ => rfl
  | ⟨4, _⟩ => rfl

theorem v7_eq (x0 : FVec Ideal S8192x6144 .bf16) (b : Fin 2) (h : Fin 5) (s : Fin 4096) (d : Fin 128) :
    (val_main_v7 (F := Ideal) x0 (ix4 b h s d) : EReal) = val_main_v5 (F := Ideal) x0 (ix5 0 b h s d) := by
  rw [val_main_v7_apply, idx5_eq, val_main_v6_apply, idx6_eq]

theorem v13_eq (x0 : FVec Ideal S8192x6144 .bf16) (b : Fin 2) (h : Fin 5) (s : Fin 4096) (d : Fin 128) :
    (val_main_v13 (F := Ideal) x0 (ix4 b h s d) : EReal) = val_main_v5 (F := Ideal) x0 (ix5 1 b h s d) := by
  rw [val_main_v13_apply]
  refine (congrArg (val_main_v12 (F := Ideal) x0) (idx5_eq b h s d)).trans ?_
  rw [val_main_v12_apply, idx12_eq]

theorem v15_eq (x0 : FVec Ideal S8192x6144 .bf16) (b : Fin 2) (h : Fin 5) (s : Fin 4096) (d : Fin 128) :
    (val_main_v15 (F := Ideal) x0 (ix4 b h s d) : EReal) = val_main_v5 (F := Ideal) x0 (ix5 2 b h s d) := by
  rw [val_main_v15_apply]
  refine (congrArg (val_main_v14 (F := Ideal) x0) (idx5_eq b h s d)).trans ?_
  rw [val_main_v14_apply, idx14_eq]

/-! ## Scores, weights, outputs -/

section Row

variable (x0 : FVec Ideal S8192x6144 .bf16) (b : Fin 2) (h : Fin 5) (r : Fin 4096)
  (y : ℕ → EReal) (hy : ∀ j : Fin 4096, y j.val
    = ∑ d : Fin 128, (val_main_v5 (F := Ideal) x0 (ix5 0 b h r d) : EReal) * val_main_v5 (F := Ideal) x0 (ix5 1 b h j d))

include hy in
/-- The reference's score is the base-two one times the natural logarithm of two. -/
theorem v18_eq (k : Fin 4096) : (val_main_v18 (F := Ideal) x0 (ix4 b h r k) : EReal) = y k.val * (Real.log 2 : ℝ) := by
  have e16 : (val_main_v16 (F := Ideal) x0 (ix4 b h r k) : EReal) = ∑ d : Fin 128,
      (val_main_v5 (F := Ideal) x0 (ix5 0 b h r d) : EReal) * ((1 / (sc / Real.log 2) : ℝ) : EReal) * val_main_v5 (F := Ideal) x0 (ix5 1 b h k d) := by
    rw [val_main_v16_apply]
    refine Finset.sum_congr rfl fun d _ => ?_
    have el : lidx_main_v16 (ix4 b h r k) d = ix4 b h r d := by
      funext a; apply Fin.ext
      match a with
      | ⟨0, _⟩ => rfl
      | ⟨1, _⟩ => rfl
      | ⟨2, _⟩ => rfl
      | ⟨3, _⟩ => rfl
    have er : ridx_main_v16 (ix4 b h r k) d = ix4 b h k d := by
      funext a; apply Fin.ext
      match a with
      | ⟨0, _⟩ => rfl
      | ⟨1, _⟩ => rfl
      | ⟨2, _⟩ => rfl
      | ⟨3, _⟩ => rfl
    have e11 : (val_main_v11 (F := Ideal) x0 (ix4 b h r d) : EReal)
        = (val_main_v5 (F := Ideal) x0 (ix5 0 b h r d) : EReal) * ((1 / (sc / Real.log 2) : ℝ) : EReal) := by
      rw [val_main_v11_apply, val_main_v10_apply]
      show Ideal.div (val_main_v7 (F := Ideal) x0 (ix4 b h r d)) (val_main_v9 (F := Ideal) _) = _
      rw [v9_eq, v7_eq, Ideal.div_coe (div_pos sc_pos log2_pos).ne']
    rw [el, er]
    exact congrArg₂ (fun u v : EReal => u * v) e11 (v13_eq x0 b h k d)
  have e17 : (val_main_v17 (F := Ideal) (ix4 b h r k) : EReal) = ((sc : ℝ) : EReal) := by
    rw [val_main_v17_apply]; exact v1_eq _
  have ec : ((1 / (sc / Real.log 2) : ℝ) : EReal) * ((sc : ℝ) : EReal) = (Real.log 2 : ℝ) := by
    rw [← EReal.coe_mul]
    congr 1
    have := sc_pos.ne'; have := log2_pos.ne'
    field_simp
  refine (show (val_main_v18 (F := Ideal) x0 (ix4 b h r k) : EReal)
    = (val_main_v16 (F := Ideal) x0 (ix4 b h r k) : EReal) * (val_main_v17 (F := Ideal) (ix4 b h r k) : EReal) from rfl).trans ?_
  rw [e16, e17, hy, sum_mul_coe sc_pos, sum_mul_coe log2_pos]
  refine Finset.sum_congr rfl fun d _ => ?_
  rw [← ec]
  exact (congrArg (· * _) (mul_right_comm _ _ _)).trans (mul_assoc _ _ _)

/-- The mask picks the keys before the query. -/
theorem v24_eq (r k : Fin 4096) : val_main_v24 (F := Ideal) (ix2 r k) = if k.val < r.val then 1#1 else 0#1 := by
  rw [val_main_v24_apply, val_main_v22_apply, val_main_v20_apply, val_main_v19_apply, val_main_v23_apply, val_main_v21_apply, val_main_v19_apply]
  show IntOp.cmpi .slt (BitVec.ofNat 32 k.val) (BitVec.ofNat 32 r.val) = _
  have hi : ∀ n : Fin 4096, (BitVec.ofNat 32 n.val).toInt = n.val := fun n => by
    have := n.isLt
    rw [BitVec.toInt_eq_toNat_of_lt] <;> rw [BitVec.toNat_ofNat, Nat.mod_eq_of_lt] <;> omega
  unfold IntOp.cmpi
  simp only [BitVec.slt, hi]
  by_cases hkr : k.val < r.val <;> simp [hkr]

theorem mask1_eq (k : Fin 4096) : val_main_call1_v1 (F := Ideal) (ix4 b h r k) = if k.val < r.val then 1#1 else 0#1 := by
  rw [val_main_call1_v1_apply]
  refine Eq.trans (congrArg (val_main_v24 (F := Ideal)) ?_) (v24_eq r k)
  funext a; apply Fin.ext
  match a with
  | ⟨0, _⟩ => rfl
  | ⟨1, _⟩ => rfl

theorem mask4_eq (k : Fin 4096) : val_main_call4_v1 (F := Ideal) (ix4 b h r k) = if k.val < r.val then 1#1 else 0#1 := by
  rw [val_main_call4_v1_apply]
  refine Eq.trans (congrArg (val_main_v24 (F := Ideal)) ?_) (v24_eq r k)
  funext a; apply Fin.ext
  match a with
  | ⟨0, _⟩ => rfl
  | ⟨1, _⟩ => rfl

include hy in
theorem v26_eq (k : Fin 4096) : (val_main_v26 (F := Ideal) x0 (ix4 b h r k) : EReal) = lm (y k.val) * (Real.log 2 : ℝ) := by
  have hz : (val_main_call0_v0 (F := Ideal) x0 (ix4 b h r k) : EReal) = y k.val * (Real.log 2 : ℝ) := by
    refine (show (val_main_call0_v0 (F := Ideal) x0 (ix4 b h r k) : EReal) = -(-(val_main_v18 (F := Ideal) x0 (ix4 b h r k) : EReal)) from rfl).trans ?_
    rw [neg_neg, v18_eq x0 b h r y hy k]
  rw [← log_not_stop, ← hz]
  rfl

include hy in
theorem v30_eq (k : Fin 4096) : (val_main_v30 (F := Ideal) x0 (ix4 b h r k) : EReal) = -soft (-(y k.val * (Real.log 2 : ℝ))) := by
  have hz : (val_main_call3_v0 (F := Ideal) x0 (ix4 b h r k) : EReal) = -(y k.val * (Real.log 2 : ℝ)) := by
    refine (show (val_main_call3_v0 (F := Ideal) x0 (ix4 b h r k) : EReal) = -(val_main_v18 (F := Ideal) x0 (ix4 b h r k) : EReal) from rfl).trans ?_
    rw [v18_eq x0 b h r y hy k]
  rw [← hz]
  rfl

include hy in
theorem v27_eq (k : Fin 4096) : (val_main_v27 (F := Ideal) x0 (ix4 b h r k) : EReal) = gate y r.val k.val * (Real.log 2 : ℝ) := by
  rw [val_main_v27_apply, mask1_eq, gate]
  by_cases hkr : k.val < r.val
  · rw [if_pos hkr, if_pos hkr, select_one]
    exact v26_eq x0 b h r y hy k
  · rw [if_neg hkr, if_neg hkr, select_zero, zero_mul, val_main_call1_v2_apply]
    exact ofBits_zero

include hy in
theorem v28_eq (k : Fin 4096) : (val_main_v28 (F := Ideal) x0 (ix4 b h r k) : EReal) = tail y r.val k.val * (Real.log 2 : ℝ) := by
  refine (cumsum_apply _ _ (fun i => by rw [val_main_call2_v0_apply]; exact ofBits_zero) b h r k
    (fun j => gate y r.val j * (Real.log 2 : ℝ)) (v27_eq x0 b h r y hy)).trans ?_
  exact (sum_mul_coe log2_pos _ _).symm

include hy in
/-- The reference's weights. -/
theorem v33_eq (k : Fin 4096) : (val_main_v33 (F := Ideal) x0 (ix4 b h r k) : EReal) = weight y r.val k.val := by
  rw [val_main_v33_apply, mask4_eq, weight]
  by_cases hkr : k.val < r.val
  · rw [if_pos hkr, if_pos hkr, select_one]
    refine (show (val_main_v32 (F := Ideal) x0 (ix4 b h r k) : EReal) = Ideal.exp ((val_main_v30 (F := Ideal) x0 (ix4 b h r k) : EReal)
      + ((val_main_v28 (F := Ideal) x0 (ix4 b h r k) : EReal) - (val_main_v27 (F := Ideal) x0 (ix4 b h r k) : EReal))) from rfl).trans ?_
    rw [v30_eq x0 b h r y hy, v28_eq x0 b h r y hy, v27_eq x0 b h r y hy, tail_succ y r.val k.val k.isLt, gate, if_pos hkr]
    exact exp_stop _ _ (tail_ne_top _ _ _)
  · rw [if_neg hkr, if_neg hkr, select_zero, val_main_call4_v2_apply]
    exact ofBits_zero

include hy in
/-- The reference's weighted sum of values. -/
theorem v34_eq (d : Fin 128) : (val_main_v34 (F := Ideal) x0 (ix4 b h r d) : EReal)
    = mixed y r.val (fun j e => val_main_v5 (F := Ideal) x0 (ix5 2 b h j e)) d := by
  rw [val_main_v34_apply, mixed]
  refine Finset.sum_congr rfl fun j _ => ?_
  have el : lidx_main_v34 (ix4 b h r d) j = ix4 b h r j := by
    funext a; apply Fin.ext
    match a with
    | ⟨0, _⟩ => rfl
    | ⟨1, _⟩ => rfl
    | ⟨2, _⟩ => rfl
    | ⟨3, _⟩ => rfl
  have er : ridx_main_v34 (ix4 b h r d) j = ix4 b h j d := by
    funext a; apply Fin.ext
    match a with
    | ⟨0, _⟩ => rfl
    | ⟨1, _⟩ => rfl
    | ⟨2, _⟩ => rfl
    | ⟨3, _⟩ => rfl
  rw [el, er]
  exact congrArg₂ (fun u v : EReal => u * v) (v33_eq x0 b h r y hy j) (v15_eq x0 b h j d)

include hy in
/-- The reference's normed outputs. -/
theorem v49_eq (x1 : FVec Ideal S1x2048 .f32) (d : Fin 128) : (val_main_v49 (F := Ideal) x0 x1 (ix4 b h r d) : EReal)
    = normed (mixed y r.val fun j e => val_main_v5 (F := Ideal) x0 (ix5 2 b h j e))
        (x1 (ix2 0 ⟨128 * (11 + h.val) + d.val, by omega⟩)) d := by
  have e36 : ∀ i : S2x5x4096.Idx, i = ix3 b h r → (val_main_v36 (F := Ideal) x0 i : EReal)
      = ∑ e : Fin 128, (val_main_v34 (F := Ideal) x0 (ix4 b h r e) : EReal) * val_main_v34 (F := Ideal) x0 (ix4 b h r e) := by
    rintro i rfl
    rw [val_main_v36_apply]
    refine (congrArg (· + _) (show (val_main_cst_4 (F := Ideal) (Shape.Idx.first h_S_) : EReal) = 0 from ofBits_zero)).trans ?_
    rw [zero_add]
    refine Finset.sum_congr rfl fun e _ => ?_
    have ei : idx_main_v36 (ix3 b h r) e = ix4 b h r e := by
      funext a; apply Fin.ext
      match a with
      | ⟨0, _⟩ => rfl
      | ⟨1, _⟩ => rfl
      | ⟨2, _⟩ => rfl
      | ⟨3, _⟩ => rfl
    rw [ei]
    rfl
  have e45 : (val_main_v45 (F := Ideal) x0 (ix4 b h r d) : EReal)
      = Ideal.rsqrt (Ideal.div (∑ e : Fin 128, (val_main_v34 (F := Ideal) x0 (ix4 b h r e) : EReal) * val_main_v34 (F := Ideal) x0 (ix4 b h r e))
          (Ideal.ofBits .f32 0x43000000#32) + Ideal.ofBits .f32 0x358637BD#32) := by
    rw [val_main_v45_apply, val_main_v44_apply, val_main_v43_apply, val_main_v39_apply, val_main_v37_apply, val_main_v38_apply, val_main_v42_apply,
      e36 _ (by
        funext a; apply Fin.ext
        match a with
        | ⟨0, _⟩ => rfl
        | ⟨1, _⟩ => rfl
        | ⟨2, _⟩ => rfl)]
    rfl
  have e48 : (val_main_v48 (F := Ideal) x1 (ix4 b h r d) : EReal) = x1 (ix2 0 ⟨128 * (11 + h.val) + d.val, by omega⟩) := by
    rw [val_main_v48_apply, val_main_v47_apply, val_main_v41_apply, val_main_v40_apply]
    refine congrArg x1 (funext fun a => Fin.ext ?_)
    have hh := h.isLt; have hd := d.isLt
    match a with
    | ⟨0, _⟩ => rfl
    | ⟨1, _⟩ => show (((11 + h.val) * 1 + 0) * 128 + d.val) % 2048 = 128 * (11 + h.val) + d.val; omega
  refine (show (val_main_v49 (F := Ideal) x0 x1 (ix4 b h r d) : EReal) = (val_main_v34 (F := Ideal) x0 (ix4 b h r d) : EReal)
    * (val_main_v45 (F := Ideal) x0 (ix4 b h r d) : EReal) * (val_main_v48 (F := Ideal) x1 (ix4 b h r d) : EReal) from rfl).trans ?_
  rw [e45, e48, Finset.sum_congr rfl fun e _ => congrArg₂ (fun u v : EReal => u * v) (v34_eq x0 b h r y hy e)
    (v34_eq x0 b h r y hy e), v34_eq x0 b h r y hy d]
  rfl

end Row

/-- Where an output element comes from. -/
theorem v52_eq (x0 : FVec Ideal S8192x6144 .bf16) (x1 : FVec Ideal S1x2048 .f32) (b : Fin 2) (h : Fin 5) (r : Fin 4096) (d : Fin 128) :
    (val_main_v52 (F := Ideal) x0 x1 (ix2 ⟨4096 * b.val + r.val, by omega⟩ ⟨128 * h.val + d.val, by omega⟩) : EReal)
      = val_main_v49 (F := Ideal) x0 x1 (ix4 b h r d) := by
  refine (show _ = (val_main_v51 (F := Ideal) x0 x1 _ : EReal) from rfl).trans ?_
  rw [val_main_v51_apply, val_main_v50_apply]
  refine congrArg (val_main_v49 (F := Ideal) x0 x1) (funext fun a => Fin.ext ?_)
  have hb := b.isLt; have hh := h.isLt; have hr := r.isLt; have hd := d.isLt
  match a with
  | ⟨0, _⟩ => show ((4096 * b.val + r.val) * 640 + (128 * h.val + d.val)) / 2621440 = b.val; omega
  | ⟨1, _⟩ => show ((4096 * b.val + r.val) * 640 + (128 * h.val + d.val)) / 128 % 5 = h.val; omega
  | ⟨2, _⟩ => show ((4096 * b.val + r.val) * 640 + (128 * h.val + d.val)) / 640 % 4096 = r.val; omega
  | ⟨3, _⟩ => show ((4096 * b.val + r.val) * 640 + (128 * h.val + d.val)) % 128 = d.val; omega

end Cert.ReferenceIdeal.Stick

end
-- ==== Proof.StickOut.lean ====
/- The kernel's two results at exact values: every grid point's block of the first is the block of the reference's
   outputs at the point's place, and the second is the weight itself. -/
module

public import proofs.«01_k».proof.Proof.StickLaunch
public import proofs.«01_k».proof.Proof.StickWalk
public import proofs.«01_k».proof.Proof.StickRef
public import Idealize.ShloMosaic.Lib.Pipeline.ValueKit.Geometry

@[expose] public section

set_option maxRecDepth 16384

noncomputable section

namespace Cert.KernelIdeal.Stick

open Idealize.ShloMosaic Idealize.ShloMosaic.TcCoe
open Idealize.ShloMosaic.ValueIdx
open Idealize.ShloMosaic.Pipeline (Dat)
open Cert.KernelIdeal Cert.KernelIdeal.Gen Cert.StickSpec

/-! ## Where each point's blocks lie -/

theorem coord2 : ∀ t : Fin cfg0.N, (grid0.coords t 2).val = t.val % 8 :=
  (by decide +kernel : ∀ t : Fin grid0.N, (grid0.coords t 2).val = t.val % 8)
theorem index0 : ∀ t : Fin cfg0.N, win0_0.index t = ![t.val / 40 * 8 + t.val % 8, 11 + t.val / 8 % 5] :=
  (by decide +kernel : ∀ t : Fin grid0.N, _)
theorem index1 : ∀ t : Fin cfg0.N, win0_1.index t = ![t.val / 40, 27 + t.val / 8 % 5] :=
  (by decide +kernel : ∀ t : Fin grid0.N, _)
theorem index2 : ∀ t : Fin cfg0.N, win0_2.index t = ![t.val / 40, 43 + t.val / 8 % 5] :=
  (by decide +kernel : ∀ t : Fin grid0.N, _)
theorem index3 : ∀ t : Fin cfg0.N, win0_3.index t = ![0, 11 + t.val / 8 % 5] :=
  (by decide +kernel : ∀ t : Fin grid0.N, _)
theorem index4 : ∀ t : Fin cfg0.N, win0_4.index t = ![min t.val 43, 0] :=
  (by decide +kernel : ∀ t : Fin grid0.N, _)
theorem index5 : ∀ t : Fin cfg0.N, win0_5.index t = ![t.val / 40 * 8 + t.val % 8, t.val / 8 % 5] :=
  (by decide +kernel : ∀ t : Fin grid0.N, _)
theorem index6 : ∀ t : Fin cfg0.N, win0_6.index t = ![min t.val 43, 0] :=
  (by decide +kernel : ∀ t : Fin grid0.N, _)

variable (m : (ℓ : Loc nD τ sig) → Buf (Elt Ideal) ℓ)

/-- The projected rows the kernel is given. -/
abbrev rows0 (c : Dev nD) : FVec Ideal S8192x6144 .bf16 := m ((c : Thread nD τ).loc main_arg0)
/-- The gains the kernel is given. -/
abbrev gains (c : Dev nD) : FVec Ideal S1x2048 .f32 := m ((c : Thread nD τ).loc main_arg1)

section Point

variable (c : Dev nD) (t : Fin cfg0.N) (b : Fin 2) (h : Fin 5) (i : Fin 8) (ht : t.val = (b.val * 5 + h.val) * 8 + i.val)

include ht

theorem block0 (p : Fin 512) (d : Fin 128) : (iblk m c 0 t : FVec Ideal S512x128 .bf16) (ix2 p d)
    = rows0 m c (ix2 ⟨4096 * b.val + (512 * i.val + p.val), by omega⟩ ⟨2048 * 0 + 128 * (11 + h.val) + d.val, by omega⟩) := by
  blk_simp [iblk]
  refine congrArg (rows0 m c) ?_
  have := b.isLt; have := h.isLt; have := i.isLt
  funext a; apply Fin.ext
  match a with
  | ⟨0, _⟩ => blk_simp [index0]; show (t.val / 40 * 8 + t.val % 8) * 512 + p.val = 4096 * b.val + (512 * i.val + p.val); omega
  | ⟨1, _⟩ => blk_simp [index0]; show (11 + t.val / 8 % 5) * 128 + d.val = 2048 * 0 + 128 * (11 + h.val) + d.val; omega

theorem block1 (j : Fin 4096) (d : Fin 128) : (iblk m c 1 t : FVec Ideal S4096x128 .bf16) (ix2 j d)
    = rows0 m c (ix2 ⟨4096 * b.val + j.val, by omega⟩ ⟨2048 * 1 + 128 * (11 + h.val) + d.val, by omega⟩) := by
  blk_simp [iblk]
  refine congrArg (rows0 m c) ?_
  have := b.isLt; have := h.isLt; have := i.isLt
  funext a; apply Fin.ext
  match a with
  | ⟨0, _⟩ => blk_simp [index1]; show t.val / 40 * 4096 + j.val = 4096 * b.val + j.val; omega
  | ⟨1, _⟩ => blk_simp [index1]; show (27 + t.val / 8 % 5) * 128 + d.val = 2048 * 1 + 128 * (11 + h.val) + d.val; omega

theorem block2 (j : Fin 4096) (d : Fin 128) : (iblk m c 2 t : FVec Ideal S4096x128 .bf16) (ix2 j d)
    = rows0 m c (ix2 ⟨4096 * b.val + j.val, by omega⟩ ⟨2048 * 2 + 128 * (11 + h.val) + d.val, by omega⟩) := by
  blk_simp [iblk]
  refine congrArg (rows0 m c) ?_
  have := b.isLt; have := h.isLt; have := i.isLt
  funext a; apply Fin.ext
  match a with
  | ⟨0, _⟩ => blk_simp [index2]; show t.val / 40 * 4096 + j.val = 4096 * b.val + j.val; omega
  | ⟨1, _⟩ => blk_simp [index2]; show (43 + t.val / 8 % 5) * 128 + d.val = 2048 * 2 + 128 * (11 + h.val) + d.val; omega

theorem block3 (d : Fin 128) : (iblk m c 3 t : FVec Ideal S1x128 .f32) (ix2 0 d)
    = gains m c (ix2 0 ⟨128 * (11 + h.val) + d.val, by omega⟩) := by
  blk_simp [iblk]
  refine congrArg (gains m c) ?_
  have := b.isLt; have := h.isLt; have := i.isLt
  funext a; apply Fin.ext
  match a with
  | ⟨0, _⟩ => blk_simp [index3]
  | ⟨1, _⟩ => blk_simp [index3]; show (11 + t.val / 8 % 5) * 128 + d.val = 128 * (11 + h.val) + d.val; omega

/-- A point's block of the first result holds the reference's outputs. -/
theorem outAt_apply (p : Fin 512) (d : Fin 128) : (outAt m c t (ix2 p d) : EReal)
      = Cert.ReferenceIdeal.Read.val_main_v52 (F := Ideal) (rows0 m c) (gains m c)
        (ix2 ⟨4096 * b.val + (512 * i.val + p.val), by omega⟩ ⟨128 * h.val + d.val, by omega⟩) := by
  have hr : 512 * i.val + p.val < 4096 := by omega
  let Q : Fin 128 → EReal := fun e => Cert.ReferenceIdeal.Read.val_main_v5 (F := Ideal) (rows0 m c) (ix5 0 b h ⟨512 * i.val + p.val, hr⟩ e)
  let K : Fin 4096 → Fin 128 → EReal := fun j e => Cert.ReferenceIdeal.Read.val_main_v5 (F := Ideal) (rows0 m c) (ix5 1 b h j e)
  let y : ℕ → EReal := fun n => if hn : n < 4096 then ∑ e, Q e * K ⟨n, hn⟩ e else 0
  have hy : ∀ j : Fin 4096, y j.val = ∑ e, Q e * K j e := fun j => dif_pos j.isLt
  have ev : (fun (j : Fin 4096) (e : Fin 128) => ((iblk m c 2 t : FVec Ideal S4096x128 .bf16) (ix2 j e) : EReal))
      = fun j e => Cert.ReferenceIdeal.Read.val_main_v5 (F := Ideal) (rows0 m c) (ix5 2 b h j e) := by
    funext j e
    rw [block2 m c t b h i ht]
    exact (Cert.ReferenceIdeal.Stick.v5_eq (rows0 m c) 2 b h j e).symm
  rw [Cert.ReferenceIdeal.Stick.v52_eq (rows0 m c) (gains m c) b h ⟨512 * i.val + p.val, hr⟩ d,
    Cert.ReferenceIdeal.Stick.v49_eq (rows0 m c) b h ⟨512 * i.val + p.val, hr⟩ y hy (gains m c) d]
  unfold outAt
  have ec : (grid0.coords t 2).val = i.val := by rw [coord2]; omega
  rw [ec, bodyOut_apply y i.val i.isLt p (iblk m c 0 t) (iblk m c 1 t) (iblk m c 2 t) (fun j => by
    rw [hy]
    refine Finset.sum_congr rfl fun e _ => ?_
    rw [block0 m c t b h i ht, block1 m c t b h i ht]
    exact congrArg₂ (fun u v : EReal => u * v) (Cert.ReferenceIdeal.Stick.v5_eq (rows0 m c) 0 b h ⟨512 * i.val + p.val, hr⟩ e).symm
      (Cert.ReferenceIdeal.Stick.v5_eq (rows0 m c) 1 b h j e).symm) (iblk m c 3 t) d, block3 m c t b h i ht, ev]

end Point

/-! ## The two results -/

/-- The first result is the reference's. -/
theorem final5 (c : Dev nD) :
    (dats m 0 c).arrAt 5 cfg0.N = Cert.ReferenceIdeal.Read.val_main_v52 (F := Ideal) (rows0 m c) (gains m c) := by
  refine (dats m 0 c).arrAt_eq_of_covers 5 _ (by decide +kernel) fun t _ y => ?_
  blk_simp
  rw [after0_5]
  have ht : t.val < 80 := t.isLt
  have hb : t.val / 40 < 2 := by omega
  have hh : t.val / 8 % 5 < 5 := by omega
  have hi : t.val % 8 < 8 := by omega
  have h0 : (y 0).val < 512 := (y 0).isLt
  have h1 : (y 1).val < 128 := (y 1).isLt
  have ey : y = ix2 (⟨(y 0).val, h0⟩ : Fin 512) (⟨(y 1).val, h1⟩ : Fin 128) := by
    funext a
    match a with
    | ⟨0, _⟩ => rfl
    | ⟨1, _⟩ => rfl
  refine (congrArg (outAt m c t) ey).trans ((outAt_apply m c t ⟨_, hb⟩ ⟨_, hh⟩ ⟨_, hi⟩ (by show t.val = (t.val / 40 * 5 + t.val / 8 % 5) * 8 + t.val % 8; omega) _ _).trans ?_)
  refine congrArg (Cert.ReferenceIdeal.Read.val_main_v52 (F := Ideal) (rows0 m c) (gains m c)) ?_
  funext a; apply Fin.ext
  match a with
  | ⟨0, _⟩ => blk_simp [index5]; show 4096 * (t.val / 40) + (512 * (t.val % 8) + (y 0).val) = (t.val / 40 * 8 + t.val % 8) * 512 + (y 0).val; omega
  | ⟨1, _⟩ => blk_simp [index5]; show 128 * (t.val / 8 % 5) + (y 1).val = t.val / 8 % 5 * 128 + (y 1).val; omega

/-- The second result is the weight, rounded to half width. -/
theorem final6 (c : Dev nD) :
    (dats m 0 c).arrAt 6 cfg0.N = Cert.ReferenceIdeal.Read.val_main_v53 (F := Ideal) (m ((c : Thread nD τ).loc main_arg2)) := by
  refine (dats m 0 c).arrAt_eq_of_covers 6 _ (by decide +kernel) fun t _ y => ?_
  blk_simp
  rw [after0_6]
  show (iblk m c 4 t : FVec Ideal S128x2048 .f32) y = (m ((c : Thread nD τ).loc main_arg2) : FVec Ideal S5632x2048 .f32) _
  blk_simp [iblk]
  refine congrArg (m ((c : Thread nD τ).loc main_arg2) : FVec Ideal S5632x2048 .f32) ?_
  funext a; apply Fin.ext
  match a with
  | ⟨0, _⟩ => blk_simp [index4, index6]
  | ⟨1, _⟩ => blk_simp [index4, index6]

end Cert.KernelIdeal.Stick

end
-- ==== Proof.MoeRun.lean ====
/- One grid point of the expert kernel, run with the values it leaves: at the first block of a tile the output is cleared
   and the rows are rounded to half width; at a tile in use the block's product is added to the output. -/
module

public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.FrameBody
public import Idealize.ShloMosaic.Lib.Pipeline.Frame
public import Idealize.ShloMosaic.Lib.Pipeline.Kit
public import Idealize.ShloMosaic.Lib.Writes
public import Idealize.ShloMosaic.Lib.VecWindow
public import Idealize.ShloMosaic.Lib.Exec
public import Idealize.ShloMosaic.Lib.Tactic

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel2Ideal.Gen

variable {F : FTy → Type} [FloatOps F]

local notation "𝕄" => MT nD τ sig Unit (Elt F) ℕ (UR sig nD τ) ℕ

/-- The rows' rounding after a point: made at the first block of a tile, else as before. -/
def rowsAt (i : grid0.Coords) (x : Vec F S720x2048 .f32) (s : Vec F S720x2048 .bf16) : Vec F S720x2048 .bf16 :=
  if k0_cond1 i = 1#1 then k0_pay2 x else s

/-- The output a point adds to: cleared at the first block of a tile, else as before. -/
def baseAt (i : grid0.Coords) (y : Vec F S720x2048 .f32) : Vec F S720x2048 .f32 :=
  if k0_cond1 i = 1#1 then k0_pay1 else y

/-- The output after a point: added to where the tile is in use (`n` the number of tiles in use). -/
def sumAt (i : grid0.Coords) (n : BitVec 32) (x : Vec F S720x2048 .f32) (x1 x2 : Vec F S1x2048x512 .bf16) (x3 : Vec F S1x512x2048 .bf16)
    (y : Vec F S720x2048 .f32) (s : Vec F S720x2048 .bf16) : Vec F S720x2048 .f32 :=
  if k0_cond2 i n = 1#1 then k0_pay3 (baseAt i y) (rowsAt i x s) x1 x2 x3 else baseAt i y

/-- The number of tiles in use, as the table holds it. -/
abbrev usedOf (T : Vec F S1 .i32) : BitVec 32 := T (Shape.Idx.first (numel1_S1.symm ▸ Nat.one_pos))

theorem pay3_congr {a a' : Vec F S720x2048 .f32} {b b' : Vec F S720x2048 .bf16} {p p' q q' : Vec F S1x2048x512 .bf16} {r r' : Vec F S1x512x2048 .bf16}
    (ha : a = a') (hb : b = b') (hp : p = p') (hq : q = q') (hr : r = r') : k0_pay3 a b p q r = k0_pay3 a' b' p' q' r' := by
  subst ha hb hp hq hr; rfl

set_option maxHeartbeats 4000000 in
/-- One grid point: on whole buffers the body runs through, hands its inputs and its table back as they were, and leaves
    the rounding of the rows and the output's new sum. -/
theorem run_point (c : Dev nD) (i : grid0.Coords)
    (arg2 : Memref sig .tc .smem S32 .i32) (h2 : arg2.IsWhole) (arg3 : Memref sig .tc .smem S1 .i32) (h3 : arg3.IsWhole)
    (arg4 : Memref sig .tc .vmem S720x2048 .f32) (h4 : arg4.IsWhole) (arg5 : Memref sig .tc .vmem S1x2048x512 .bf16) (h5 : arg5.IsWhole)
    (arg6 : Memref sig .tc .vmem S1x2048x512 .bf16) (h6 : arg6.IsWhole) (arg7 : Memref sig .tc .vmem S1x512x2048 .bf16) (h7 : arg7.IsWhole)
    (arg8 : Memref sig .tc .vmem S720x2048 .f32) (h8 : arg8.IsWhole) (arg9 : Memref sig .tc .vmem S720x2048 .bf16) (h9 : arg9.IsWhole)
    (T : Vec F S1 .i32) (x0 : Vec F S720x2048 .f32) (x1 x2 : Vec F S1x2048x512 .bf16) (x3 : Vec F S1x512x2048 .bf16)
    (y : Vec F S720x2048 .f32) (s : Vec F S720x2048 .bf16) (E : Set ℕ) (K : PUnit → sProp 𝕄) :
    iprop(owns (c : Thread nD τ) arg3 fullShare.right T ∗ owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare y ∗ owns (c : Thread nD τ) arg9 fullShare s
        ∗ (iprop(owns (c : Thread nD τ) arg3 fullShare.right T ∗ owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare (sumAt i (usedOf T) x0 x1 x2 x3 y s)
            ∗ owns (c : Thread nD τ) arg9 fullShare (rowsAt i x0 s)) -∗ K ⟨⟩))
      ⊢ wp frame (wpE (defs₀ (F := F)) Variants.none c none) E
          (cc0_moe_ffn i arg2 h2 arg3 h3 arg4 h4 arg5 h5 arg6 h6 arg7 h7 arg8 h8 arg9 h9) K := by
  have hw : View.readAt (Elt F) arg3.view (Rect.unit (s := S1) ![0] S1.size inb_S1_S1_0).toLoadRect (h3.unread T)
      (Shape.Idx.first (numel1_S1.symm ▸ Nat.one_pos)) = usedOf T :=
    congrFun ((View.readAt_full arg3.view (h3.unread T) inb_S1_S1_0).trans (h3.read_unread T)) _
  have e0 := (View.readAt_full arg4.view (h4.unread x0) inb_S720x2048_S720x2048_0_0).trans (h4.read_unread x0)
  have e1 := (View.readAt_full arg5.view (h5.unread x1) inb_S1x2048x512_S1x2048x512_0_0_0).trans (h5.read_unread x1)
  have e2 := (View.readAt_full arg6.view (h6.unread x2) inb_S1x2048x512_S1x2048x512_0_0_0).trans (h6.read_unread x2)
  have e3 := (View.readAt_full arg7.view (h7.unread x3) inb_S1x512x2048_S1x512x2048_0_0_0).trans (h7.read_unread x3)
  have e4 := (View.readAt_full arg8.view (h8.unread y) inb_S720x2048_S720x2048_0_0).trans (h8.read_unread y)
  have e5 := (View.readAt_full arg9.view (h9.unread s) inb_S720x2048_S720x2048_0_0).trans (h9.read_unread s)
  unfold sumAt baseAt rowsAt
  by_cases hc1 : k0_cond1 i = 1#1 <;> by_cases hc2 : k0_cond2 i (usedOf T) = 1#1
  all_goals
    simp only [hc1, hc2, if_true, if_false]
    rw [← hw] at hc2
    rw [cc0_moe_ffn_eq_skeleton]; unfold cc0_moe_ffn_skel
    unfold owns
    iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h3.eq_unread hft
    obtain rfl := h4.eq_unread hf0; obtain rfl := h5.eq_unread hf1; obtain rfl := h6.eq_unread hf2
    obtain rfl := h7.eq_unread hf3; obtain rfl := h8.eq_unread hf4; obtain rfl := h9.eq_unread hf5
    sl_exec! (disch := first | exact hc1 | exact hc2)
    sl_step
    iapply Hk
    isplitl [HT]
    · iexists _; isplitr; · ipureintro; exact h3.read_unread _
      iexact HT
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    all_goals
      iexists _; isplitr; swap; · first | iexact H4 | iexact H5
      ipureintro
  · refine (View.read_writes_full arg8.view _ inb_S720x2048_S720x2048_0_0 _ _).trans ?_
    refine pay3_congr ?_ ?_ rfl rfl rfl
    · exact View.readCov_full arg8.view inb_S720x2048_S720x2048_0_0 inb_S720x2048_S720x2048_0_0 _ _
    · refine (View.readCov_full arg9.view inb_S720x2048_S720x2048_0_0 inb_S720x2048_S720x2048_0_0 _ _).trans ?_
      rfl
  · refine (View.read_writes_full arg9.view _ inb_S720x2048_S720x2048_0_0 _ _).trans ?_
    rfl
  · exact View.read_writes_full arg8.view _ inb_S720x2048_S720x2048_0_0 _ _
  · refine (View.read_writes_full arg9.view _ inb_S720x2048_S720x2048_0_0 _ _).trans ?_
    rfl
  · refine (View.read_writes_full arg8.view _ inb_S720x2048_S720x2048_0_0 _ _).trans ?_
    rfl
  · exact h9.read_unread _
  · exact h8.read_unread _
  · exact h9.read_unread _

end Cert.Kernel2Ideal.Moe

end
-- ==== Proof.MoeLaunch.lean ====
/- The expert kernel launched, at any tables its windows admit: what its output block and its rounded rows hold after each
   grid point, the pipeline's data, and the run. -/
module

public import proofs.«01_k».proof.Proof.MoeRun

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel2Ideal.Gen

variable {F : FTy → Type} [FloatOps F]

local notation "𝕄" => MT nD τ sig Unit (Elt F) ℕ (UR sig nD τ) ℕ

/-! ## The grid's points -/

theorem tile_of : ∀ t : Fin grid0.N, (grid0.coords t 0).val = t.val / 11 := by decide +kernel
theorem block_of : ∀ t : Fin grid0.N, (grid0.coords t 1).val = t.val % 11 := by decide +kernel
theorem first_iff : ∀ t : Fin grid0.N, k0_cond1 (grid0.coords t) = 1#1 ↔ t.val % 11 = 0 := by decide +kernel

variable (a : (pcfg0 (F := F)).Adm)

theorem numN : (cfg0 a).N = 352 := N_0

/-- The output block is written back after a tile's last point. -/
theorem flush_iff (t : Fin (cfg0 a).N) : ((cfg0 a).win (4 : Fin 5)).flush t = decide (t.val % 11 = 10) := by
  have h : ∀ t : Fin grid0.N, (true && (decide (t.val + 1 = grid0.N) || decide (∃ h : t.val + 1 < grid0.N,
      cc0_transform_4 (grid0.coords ⟨t.val + 1, h⟩) ≠ cc0_transform_4 (grid0.coords t)))) = decide (t.val % 11 = 10) := by decide +kernel
  unfold Pipeline.Window.flush
  exact h t

theorem usedOf_at (T : pre0.Contents (Elt F)) : T.atD 1 ![0] = usedOf (T 1) := by
  unfold Pipeline.Prefetch.Contents.atD
  rw [dif_pos (by decide)]
  refine congrArg (T 1) (funext fun x => Fin.ext ?_)
  fin_cases x; rfl

/-- A point leaves the output alone only where it is neither a tile's first nor of a tile in use. -/
theorem idle_iff (t : Fin (cfg0 a).N) : (cfg0 a).idle (4 : Fin 5) ((cfg0 a).grid.coords t)
    = (!(k0_cond1 (grid0.coords t) == 1#1) && !(k0_cond2 (grid0.coords t) (usedOf (a.1 1)) == 1#1)) := by
  rw [← usedOf_at]

theorem fresh_iff (t : Fin (cfg0 a).N) : (cfg0 a).fresh (4 : Fin 5) t.val = decide (t.val % 11 = 0) := by
  refine Pipeline.Cfg.fresh_tab (cfg0 a) (4 : Fin 5) (fun n => decide (n % 11 = 0)) rfl (fun t => ?_) t.val (Nat.le_of_lt t.isLt)
  rw [flush_iff, idle_iff]
  show decide ((t.val + 1) % 11 = 0) = _
  by_cases h : t.val % 11 = 0
  · rw [(first_iff t).2 h]
    rw [decide_eq_false (by omega), decide_eq_false (by omega)]; rfl
  · rw [decide_eq_false h, Bool.and_false, Bool.or_false]
    exact decide_eq_decide.2 (by omega)

/-! ## The proof data -/

variable (m : (ℓ : Loc nD τ sig) → Buf (Elt F) ℓ) (ρ : Dev nD → PrngReg)

/-- What a window's array holds of a point's block at the launch. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (m (((cfg0 a).win w).arr.view.loc (c : Thread nD τ)))

/-- The output block and the rounded rows after the first `n` points. -/
def st (c : Dev nD) : ℕ → Vec F S720x2048 .f32 × Vec F S720x2048 .bf16
  | 0 => (k0_pay1, k0_pay2 k0_pay1)
  | n + 1 => if h : n < (cfg0 a).N then
      (sumAt (grid0.coords ⟨n, h⟩) (usedOf (a.1 1)) (iblk a m c (0 : Fin 5) ⟨n, h⟩) (iblk a m c (1 : Fin 5) ⟨n, h⟩)
          (iblk a m c (2 : Fin 5) ⟨n, h⟩) (iblk a m c (3 : Fin 5) ⟨n, h⟩) (st c n).1 (st c n).2,
        rowsAt (grid0.coords ⟨n, h⟩) (iblk a m c (0 : Fin 5) ⟨n, h⟩) (st c n).2)
    else st c n

theorem st_succ (c : Dev nD) (t : Fin (cfg0 a).N) : st a m c (t.val + 1) =
    (sumAt (grid0.coords t) (usedOf (a.1 1)) (iblk a m c (0 : Fin 5) t) (iblk a m c (1 : Fin 5) t)
          (iblk a m c (2 : Fin 5) t) (iblk a m c (3 : Fin 5) t) (st a m c t.val).1 (st a m c t.val).2,
        rowsAt (grid0.coords t) (iblk a m c (0 : Fin 5) t) (st a m c t.val).2) := by
  rw [st, dif_pos t.isLt]

theorem sumAt_first {i : grid0.Coords} (h : k0_cond1 i = 1#1) (n : BitVec 32) (x : Vec F S720x2048 .f32) (x1 x2 : Vec F S1x2048x512 .bf16)
    (x3 : Vec F S1x512x2048 .bf16) (y y' : Vec F S720x2048 .f32) (s s' : Vec F S720x2048 .bf16) :
    sumAt i n x x1 x2 x3 y s = sumAt i n x x1 x2 x3 y' s' := by
  unfold sumAt baseAt rowsAt
  simp only [if_pos h]

theorem rowsAt_first {i : grid0.Coords} (h : k0_cond1 i = 1#1) (x : Vec F S720x2048 .f32) (s s' : Vec F S720x2048 .bf16) :
    rowsAt i x s = rowsAt i x s' := by
  unfold rowsAt
  simp only [if_pos h]

/-- The invariant: after the first point the scratch holds the rounded rows; the generator and the tables as they came. -/
def Phi (c : Dev nD) (t : Fin ((cfg0 a).N + 1)) : sProp 𝕄 :=
  iprop((∃ s : Vec F S720x2048 .bf16, ⌜t.val ≠ 0 → s = (st a m c t.val).2⌝ ∗ owns (c : Thread nD τ) (Memref.whole cc0_scratch0) fullShare s)
    ∗ (∃ r, prngReg c r)
    ∗ (((c : Thread nD τ).loc main_arg0) ↦{fullShare.right} a.1 0)
    ∗ owns (c : Thread nD τ) (Memref.whole main_arg1) fullShare.right (a.1 1))

def dats (_ : Fin 1) (c : Dev nD) : Dat τ (Elt F) Unit ℕ (UR sig nD τ) ℕ (cfg0 a) c where
  A w := m (((cfg0 a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => (st a m c (t.val + 1)).1
  Φ t := Phi a m c t
  q _ := fullShare
  owed _ := 0

theorem after0_0 (c : Dev nD) (t : Fin (cfg0 a).N) : (dats a m 0 c).after (0 : Fin 5) t = iblk a m c (0 : Fin 5) t := rfl
theorem after0_1 (c : Dev nD) (t : Fin (cfg0 a).N) : (dats a m 0 c).after (1 : Fin 5) t = iblk a m c (1 : Fin 5) t := rfl
theorem after0_2 (c : Dev nD) (t : Fin (cfg0 a).N) : (dats a m 0 c).after (2 : Fin 5) t = iblk a m c (2 : Fin 5) t := rfl
theorem after0_3 (c : Dev nD) (t : Fin (cfg0 a).N) : (dats a m 0 c).after (3 : Fin 5) t = iblk a m c (3 : Fin 5) t := rfl
theorem after0_4 (c : Dev nD) (t : Fin (cfg0 a).N) : (dats a m 0 c).after (4 : Fin 5) t = (st a m c (t.val + 1)).1 := rfl

theorem before0_0 (c : Dev nD) (t : Fin (cfg0 a).N) (d) : (dats a m 0 c).before (0 : Fin 5) t d = iblk a m c (0 : Fin 5) t :=
  ((dats a m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 a).N) (d) : (dats a m 0 c).before (1 : Fin 5) t d = iblk a m c (1 : Fin 5) t :=
  ((dats a m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 a).N) (d) : (dats a m 0 c).before (2 : Fin 5) t d = iblk a m c (2 : Fin 5) t :=
  ((dats a m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfg0 a).N) (d) : (dats a m 0 c).before (3 : Fin 5) t d = iblk a m c (3 : Fin 5) t :=
  ((dats a m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- An idle point keeps the output. -/
theorem st_idle (c : Dev nD) (t : Fin (cfg0 a).N) (hi : (cfg0 a).idle (4 : Fin 5) ((cfg0 a).grid.coords t) = true) :
    (st a m c (t.val + 1)).1 = (st a m c t.val).1 := by
  rw [idle_iff, Bool.and_eq_true, Bool.not_eq_true', Bool.not_eq_true', beq_eq_false_iff_ne, beq_eq_false_iff_ne] at hi
  rw [st_succ]
  unfold sumAt baseAt
  simp only [if_neg hi.1, if_neg hi.2]

theorem hcarry (c : Dev nD) (t : Fin (cfg0 a).N) (ht : t.val ≠ 0) (hi : (cfg0 a).idle (4 : Fin 5) ((cfg0 a).grid.coords t) = true)
    (_ : (cfg0 a).fresh (4 : Fin 5) t.val = false) :
    (dats a m 0 c).after (4 : Fin 5) t = (dats a m 0 c).after (4 : Fin 5) ⟨t.val - 1, by omega⟩ := by
  rw [after0_4, after0_4, st_idle a m c t hi]
  show _ = (st a m c (t.val - 1 + 1)).1
  rw [Nat.sub_add_cancel (by omega)]

theorem before0_4 (c : Dev nD) (t : Fin (cfg0 a).N) (d) :
    (dats a m 0 c).before (4 : Fin 5) t d = if t.val % 11 = 0 then d else (st a m c t.val).1 := by
  rw [(dats a m 0 c).before_out_traj (4 : Fin 5) rfl (fun _ _ => rfl) (hcarry a m c) t.val t rfl d, fresh_iff]
  by_cases h : t.val % 11 = 0
  · simp only [h, decide_true, ↓reduceIte]
  · simp only [h, decide_false, Bool.false_eq_true, ↓reduceIte, after0_4]
    rw [Nat.sub_add_cancel (by omega)]

/-! ## The body at a point -/

abbrev ms0_0 (t : Fin (cfg0 a).N) : Memref sig .tc .vmem S720x2048 .f32 := spec0_0.stage ((cfg0 a).slots t (0 : Fin 5))
abbrev hs0_0 (t : Fin (cfg0 a).N) : (ms0_0 a t).IsWhole := hstage0_0 (((cfg0 a).slots t (0 : Fin 5)).cast nbuf0_0)
abbrev ms0_1 (t : Fin (cfg0 a).N) : Memref sig .tc .vmem S1x2048x512 .bf16 := spec0_1.stage ((cfg0 a).slots t (1 : Fin 5))
abbrev hs0_1 (t : Fin (cfg0 a).N) : (ms0_1 a t).IsWhole := hstage0_1 (((cfg0 a).slots t (1 : Fin 5)).cast nbuf0_1)
abbrev ms0_2 (t : Fin (cfg0 a).N) : Memref sig .tc .vmem S1x2048x512 .bf16 := spec0_2.stage ((cfg0 a).slots t (2 : Fin 5))
abbrev hs0_2 (t : Fin (cfg0 a).N) : (ms0_2 a t).IsWhole := hstage0_2 (((cfg0 a).slots t (2 : Fin 5)).cast nbuf0_2)
abbrev ms0_3 (t : Fin (cfg0 a).N) : Memref sig .tc .vmem S1x512x2048 .bf16 := spec0_3.stage ((cfg0 a).slots t (3 : Fin 5))
abbrev hs0_3 (t : Fin (cfg0 a).N) : (ms0_3 a t).IsWhole := hstage0_3 (((cfg0 a).slots t (3 : Fin 5)).cast nbuf0_3)
abbrev ms0_4 (t : Fin (cfg0 a).N) : Memref sig .tc .vmem S720x2048 .f32 := spec0_4.stage ((cfg0 a).slots t (4 : Fin 5))
abbrev hs0_4 (t : Fin (cfg0 a).N) : (ms0_4 a t).IsWhole := hstage0_4 (((cfg0 a).slots t (4 : Fin 5)).cast nbuf0_4)

/-- The body as the pipeline calls it at a point. -/
abbrev bodyAt0 (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _)
    (ms0_0 a t) (hs0_0 a t) (ms0_1 a t) (hs0_1 a t) (ms0_2 a t) (hs0_2 a t) (ms0_3 a t) (hs0_3 a t) (ms0_4 a t) (hs0_4 a t)
    (Memref.whole cc0_scratch0) (Memref.isWhole_whole _)

/-- What a point leaves does not depend on what it finds where it finds nothing it may use. -/
theorem point_eq (c : Dev nD) (t : Fin (cfg0 a).N) (d : Vec F S720x2048 .f32) (s : Vec F S720x2048 .bf16)
    (hs : t.val ≠ 0 → s = (st a m c t.val).2) :
    sumAt (grid0.coords t) (usedOf (a.1 1)) (iblk a m c (0 : Fin 5) t) (iblk a m c (1 : Fin 5) t) (iblk a m c (2 : Fin 5) t)
        (iblk a m c (3 : Fin 5) t) (if t.val % 11 = 0 then d else (st a m c t.val).1) s = (st a m c (t.val + 1)).1
      ∧ rowsAt (grid0.coords t) (iblk a m c (0 : Fin 5) t) s = (st a m c (t.val + 1)).2 := by
  rw [st_succ]
  by_cases h : t.val % 11 = 0
  · exact ⟨sumAt_first ((first_iff t).2 h) _ _ _ _ _ _ _ _ _, rowsAt_first ((first_iff t).2 h) _ _ _⟩
  · rw [if_neg h, hs (by omega)]
    exact ⟨rfl, rfl⟩

set_option maxHeartbeats 1600000 in
theorem sound_body (c : Dev nD) (t : Fin (cfg0 a).N) :
    iprop((dats a m 0 c).Φ t.castSucc ∗ (dats a m 0 c).owesAt () t.castSucc
        ∗ (∃ d, owns (c : Thread nD τ) (ms0_0 a t) fullShare ((dats a m 0 c).before (0 : Fin 5) t d))
        ∗ (∃ d, owns (c : Thread nD τ) (ms0_1 a t) fullShare ((dats a m 0 c).before (1 : Fin 5) t d))
        ∗ (∃ d, owns (c : Thread nD τ) (ms0_2 a t) fullShare ((dats a m 0 c).before (2 : Fin 5) t d))
        ∗ (∃ d, owns (c : Thread nD τ) (ms0_3 a t) fullShare ((dats a m 0 c).before (3 : Fin 5) t d))
        ∗ (∃ d, owns (c : Thread nD τ) (ms0_4 a t) fullShare ((dats a m 0 c).before (4 : Fin 5) t d)))
      ⊢ wp frame (wpE (defs₀ (F := F)) Variants.none c none) Set.univ (bodyAt0 a t) fun _ =>
          iprop((dats a m 0 c).Φ t.succ ∗ (dats a m 0 c).owesAt () t.succ
            ∗ owns (c : Thread nD τ) (ms0_0 a t) fullShare ((dats a m 0 c).after (0 : Fin 5) t)
            ∗ owns (c : Thread nD τ) (ms0_1 a t) fullShare ((dats a m 0 c).after (1 : Fin 5) t)
            ∗ owns (c : Thread nD τ) (ms0_2 a t) fullShare ((dats a m 0 c).after (2 : Fin 5) t)
            ∗ owns (c : Thread nD τ) (ms0_3 a t) fullShare ((dats a m 0 c).after (3 : Fin 5) t)
            ∗ owns (c : Thread nD τ) (ms0_4 a t) fullShare ((dats a m 0 c).after (4 : Fin 5) t)) := by
  simp only [before0_0, before0_1, before0_2, before0_3, before0_4, after0_0, after0_1, after0_2, after0_3, after0_4]
  rw [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  simp only [Fin.val_castSucc, Fin.val_succ]
  iintro ⟨⟨⟨%s, %hs, HS⟩, HR, HT0, HT1⟩, Ho, ⟨%d0, H0⟩, ⟨%d1, H1⟩, ⟨%d2, H2⟩, ⟨%d3, H3⟩, ⟨%d4, H4⟩⟩
  have hp := point_eq a m c t d4 s hs
  iapply (run_point c (grid0.coords t) _ _ _ _ _ _ _ _ _ _ _ _ _ _ _ _ (a.1 1) (iblk a m c (0 : Fin 5) t) (iblk a m c (1 : Fin 5) t)
    (iblk a m c (2 : Fin 5) t) (iblk a m c (3 : Fin 5) t) _ s Set.univ _)
  isplitl [HT1]; · iexact HT1
  isplitl [H0]; · iexact H0
  isplitl [H1]; · iexact H1
  isplitl [H2]; · iexact H2
  isplitl [H3]; · iexact H3
  isplitl [H4]; · iexact H4
  isplitl [HS]; · iexact HS
  rw [hp.1, hp.2]
  iintro ⟨HT1, H0, H1, H2, H3, H4, HS⟩
  isplitl [HS HR HT0 HT1]
  · isplitl [HS]
    · iexists _; isplitr; swap
      · iexact HS
      · ipureintro; intro _; rfl
    isplitl [HR]; · iexact HR
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (t : Fin (cfg0 a).N) :
    defs₀ (F := F) .tc (cfg0 a).body ((cfg0 a).bodyArgs t ((cfg0 a).slots t)) = bodyAt0 a t := by
  unfold defs₀; rw [Defs.onTc_tc]

theorem body_obligation (c : Dev nD) : BodyObligation (dats (F := F) a m 0 c) (defs₀ (F := F)) Variants.none () Set.univ := fun t => by
  rw [bigSep_W0, bigSep_W0, defs₀_row]
  refine triple_restated (sound_body a m c t) rfl .rfl fun _ => ?_
  refine sep_mono .rfl (sep_mono .rfl (sep_mono .rfl (sep_mono .rfl (sep_mono .rfl (sep_mono .rfl ?_)))))
  cases hi : (cfg0 a).idle (4 : Fin 5) ((cfg0 a).grid.coords t) with
  | false => exact .rfl
  | true =>
    cases hf : ((cfg0 a).win (4 : Fin 5)).flush t with
    | true => exact .rfl
    | false =>
      rw [after0_4, st_idle a m c t hi]
      iintro H
      iexists (st a m c t.val).1
      rw [before0_4]
      simp only [ite_self]
      iexact H

/-! ## The launch -/

theorem share_eq (c : Dev nD) (w : Fin (cfg0 a).W) : (dats a m 0 c).share w = fullShare := by unfold Dat.share; split <;> rfl

/-- The two tables as the region hands them over. -/
theorem tables_eq (c : Dev nD) (v : pre0.Contents (Elt F)) :
    (Pipeline.prefHeld (Ix := Unit) (Name := ℕ) (U := UR sig nD τ) (Lvl := ℕ) pre0 c (fun _ => fullShare.right) v : sProp 𝕄)
      = iprop((((c : Thread nD τ).loc main_arg0) ↦{fullShare.right} v 0) ∗ (((c : Thread nD τ).loc main_arg1) ↦{fullShare.right} v 1)) := by
  unfold Pipeline.prefHeld
  rw [show (Finset.univ : Finset (Fin 2)) = insert (0 : Fin 2) {(1 : Fin 2)} from by decide, bigSep_insert (by decide), bigSep_singleton]
  rfl

theorem Phi_in (c : Dev nD) : iprop(Pipeline.ΦA spec0 c ∗ Pipeline.ΦT pre0 a.1 c) ⊢ (dats a m 0 c).Φ 0 := by
  rw [show (dats a m 0 c).Φ 0 = Phi a m c 0 from rfl]
  unfold Pipeline.ΦA Pipeline.ΦT Phi
  rw [tables_eq, scopedRest0_eq]
  simp only [owns_whole]
  iintro ⟨⟨⟨%s, HS⟩, HR⟩, HT0, HT1⟩
  isplitl [HS]
  · iexists s; isplitr; swap
    · iexact HS
    · ipureintro; intro h; exact absurd rfl h
  isplitl [HR]; · iexact HR
  isplitl [HT0]; · iexact HT0
  iapply (Entails.of_eq (owns_whole (c : Thread nD τ) main_arg1 fullShare.right (a.1 1)).symm)
  iexact HT1

theorem Phi_out (c : Dev nD) : (dats a m 0 c).Φ (Fin.last (cfg0 a).N) ⊢ Pipeline.ΦA spec0 c := by
  rw [show (dats a m 0 c).Φ (Fin.last (cfg0 a).N) = Phi a m c (Fin.last _) from rfl]
  unfold Pipeline.ΦA Phi
  rw [scopedRest0_eq]
  simp only [owns_whole]
  iintro ⟨⟨%s, -, HS⟩, HR, -, -⟩
  isplitl [HS]
  · iexists s; iexact HS
  iexact HR

/-- The tables a memory holds are the ones the pipeline runs at. -/
def Holds : Prop := ∀ (c : Dev nD), m ((c : Thread nD τ).loc main_arg0) = a.1 0 ∧ m ((c : Thread nD τ).loc main_arg1) = a.1 1

set_option backward.isDefEq.respectTransparency.types false in
theorem run_main (hm : Holds a m) : θ_run defs (onTc (τ := τ) (main (F := F))) ⟨m, fun _ => 0, ρ⟩
    (fun r => Pipeline.FramePost (Pipeline.pin pcfgs fun _ => a) (dats a m) 0 (fun c b => m ((c : Thread nD τ).loc b)) r ∧ r.2.sem = fun _ => 0) :=
  Pipeline.θ_run_frameP_track (Q' := _) pcfgs (fun _ => a) (dats a m) (0 : Fin 1) launch0 defs₀ Variants.none m ρ main
    (hbody := fun c => (body_obligation a m c).loose) (hshare := share_eq a m) (howed := fun _ _ => rfl)
    (V := fun c b => m ((c : Thread nD τ).loc b)) (hmain := Pipeline.hmainP_region pcfgs 0 defs₀ Variants.none m main fun _ => rfl)
    (hA := fun _ _ => rfl) (hpf := fun c k => by fin_cases k; exacts [(hm c).1, (hm c).2]) (hin := Phi_in a m) (hout := Phi_out a m)

/-- The run with its result named: what the pipeline leaves in it, the six arguments unchanged. -/
theorem run (hm : Holds a m) : θ_run defs (onTc (τ := τ) (main (F := F))) ⟨m, fun _ => 0, ρ⟩ (fun r => (∀ c : Dev nD,
      r.2.mem ((c.tc : Thread nD τ).loc main_v0) = (dats a m 0 c).arrAt (4 : Fin 5) (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c).1 (4 : Fin 5), (h.1 c).2 main_arg0 (show main_arg0 ∈ Pipeline.restRefs sig spec0 from by decide),
        (h.1 c).2 main_arg1 (show main_arg1 ∈ Pipeline.restRefs sig spec0 from by decide),
        ((h.1 c).1 (0 : Fin 5)).trans ((dats a m 0 c).arrAt_in (0 : Fin 5) rfl _),
        ((h.1 c).1 (1 : Fin 5)).trans ((dats a m 0 c).arrAt_in (1 : Fin 5) rfl _),
        ((h.1 c).1 (2 : Fin 5)).trans ((dats a m 0 c).arrAt_in (2 : Fin 5) rfl _),
        ((h.1 c).1 (3 : Fin 5)).trans ((dats a m 0 c).arrAt_in (3 : Fin 5) rfl _)⟩, h.2⟩)
    (run_main a m ρ hm)

end Cert.Kernel2Ideal.Moe

end
-- ==== Proof.MoeTables.lean ====
/- The expert kernel's two tables under the precondition: every tile's expert is one of the eight, at least one tile is in
   use, and so every window's block lies inside its array. -/
module

public import proofs.«01_k».proof.Proof.MoeRun
public import proofs.«01_k».proof.Proof.Gen.Pre_tables_ok
public import Idealize.ShloMosaic.Lib.ReduceAll
public import Idealize.ShloMosaic.Lib.WordCmp
public import Idealize.ShloMosaic.Lib.ValueIdx

@[expose] public section

set_option maxRecDepth 16384

noncomputable section

namespace Cert.Kernel2Ideal.Moe

open Idealize.ShloMosaic Idealize.ShloMosaic.TcCoe
open Idealize.ShloMosaic.ValueIdx
open Cert.Kernel2Ideal.Gen

variable {F : FTy → Type} [FloatOps F]

/-- What the precondition says of the tables. -/
structure Good (te : Vec F S32 .i32) (nu : Vec F S1 .i32) : Prop where
  expert : ∀ g : Fin 32, (te (ix1 g)).toNat < 8
  used_pos : 1 ≤ (usedOf nu).toNat
  used_lt : (usedOf nu).toNat < 2 ^ 31

instance scalar_unique : Subsingleton Cert.Pre_tables_ok.S_.Idx := ⟨fun _ _ => funext fun a => a.elim0⟩

instance one_unique : Subsingleton S1.Idx := ⟨fun x y => funext fun b => by
  match b with
  | ⟨0, _⟩ => exact Subsingleton.elim (α := Fin 1) _ _⟩

theorem range_of_words (v : BitVec 32) (h : IntOp.andi (IntOp.cmpi .sge v 0#32) (IntOp.cmpi .slt v 8#32) = 1#1) : v.toNat < 8 := by
  revert h; word_cmp

theorem pos_of_words (v : BitVec 32) (h : IntOp.cmpi .sge v 1#32 = 1#1) : 1 ≤ v.toNat ∧ v.toNat < 2 ^ 31 := by
  have h1 : (1#32).sle v = true := by
    cases hb : (1#32).sle v
    · rw [IntOp.cmpi] at h; simp only [hb] at h; exact absurd h (by decide)
    · rfl
  rw [BitVec.sle_iff_toInt_le, BitVec.toInt_eq_toNat_cond (x := v)] at h1
  have h2 : (1#32).toInt = 1 := by decide
  rw [h2] at h1
  split at h1 <;> omega

theorem good_of_pre [Cert.Pre_tables_ok.Facts] (te : Vec F S32 .i32) (nu : Vec F S1 .i32) (x : FVec F S23040x2048 .f32)
    (wg wu : FVec F S8x2048x5632 .bf16) (wd : FVec F S8x5632x2048 .bf16)
    (h : Cert.Pre_tables_ok.fn te nu x wg wu wd = fun _ => 1#1) : Good te nu := by
  have h1 := congrFun h (fun b : Fin 0 => b.elim0)
  unfold Cert.Pre_tables_ok.fn at h1
  have hand : ∀ p q : BitVec 1, IntOp.andi p q = 1#1 → p = 1#1 ∧ q = 1#1 := by decide
  obtain ⟨h2, h3⟩ := hand _ _ h1
  have h4 := pos_of_words _ h3
  refine ⟨fun g => range_of_words _ (Host.reduce_andi_all _ _ _ _ _ h2 (ix1 g)), ?_, ?_⟩
  · refine h4.1.trans (le_of_eq (congrArg BitVec.toNat (congrArg nu (Subsingleton.elim (α := S1.Idx) _ _))))
  · refine lt_of_eq_of_lt (congrArg BitVec.toNat (congrArg nu (Subsingleton.elim (α := S1.Idx) _ _))) h4.2

/-! ## The words the index maps compute -/

theorem word_lt {g : ℕ} (hg : g < 32) (n : BitVec 32) (hn : n.toNat < 2 ^ 31) : (BitVec.ofNat 32 g).slt n = decide (g < n.toNat) := by
  rw [BitVec.slt, BitVec.toInt_eq_toNat_of_lt (x := n) (by omega), BitVec.toInt_eq_toNat_of_lt (x := BitVec.ofNat 32 g) (by
    rw [BitVec.toNat_ofNat, Nat.mod_eq_of_lt (by omega)]; omega), BitVec.toNat_ofNat, Nat.mod_eq_of_lt (by omega)]
  exact decide_eq_decide.2 Nat.cast_lt

theorem used_word {g : ℕ} (hg : g < 32) (n : BitVec 32) (hn : n.toNat < 2 ^ 31) :
    Scalar.cmpi .slt (BitVec.ofNat 32 g) n = BitVec.ofBool (decide (g < n.toNat)) := by
  unfold Scalar.cmpi IntOp.cmpi
  simp only [word_lt hg n hn]

/-- A tile's row block is its own, capped at the last tile in use. -/
theorem row_word {g : ℕ} (hg : g < 32) (n : BitVec 32) (h1 : 1 ≤ n.toNat) (hn : n.toNat < 2 ^ 31) :
    (Scalar.minsi (BitVec.ofNat 32 g) (Scalar.subi n 1#32)).toNat = min g (n.toNat - 1) := by
  have hs : (n - 1#32).toNat = n.toNat - 1 := by
    rw [BitVec.toNat_sub_of_le (by rw [BitVec.le_def]; exact h1)]; rfl
  unfold Scalar.minsi Scalar.subi IntOp.minsi IntOp.subi
  rw [word_lt hg _ (by omega), hs]
  by_cases h : g < n.toNat - 1
  · rw [if_pos (decide_eq_true h), BitVec.toNat_ofNat, Nat.mod_eq_of_lt (by omega)]; omega
  · rw [if_neg (by simpa using h), hs]; omega

/-- A tile in use takes its own weight block, one that is not the last. -/
theorem block_word {g j : ℕ} (hg : g < 32) (hj : j < 11) (n : BitVec 32) (hn : n.toNat < 2 ^ 31) :
    (Scalar.select (Scalar.cmpi .slt (BitVec.ofNat 32 g) n) (BitVec.ofNat 32 j) 10#32).toNat = if g < n.toNat then j else 10 := by
  rw [used_word hg n hn]
  unfold Scalar.select
  by_cases h : g < n.toNat
  · rw [decide_eq_true h, if_pos (by decide), if_pos h, BitVec.toNat_ofNat, Nat.mod_eq_of_lt (by omega)]
  · rw [decide_eq_false h, if_neg (by decide), if_neg h]; rfl

theorem cond2_iff (i : grid0.Coords) (n : BitVec 32) (hn : n.toNat < 2 ^ 31) : k0_cond2 i n = 1#1 ↔ (i 0).val < n.toNat := by
  show Scalar.cmpi .ne (Scalar.extui (Scalar.cmpi .slt (BitVec.ofNat 32 (i 0).val) n)) 0#32 = 1#1 ↔ _
  rw [used_word (i 0).isLt n hn]
  by_cases h : (i 0).val < n.toNat
  · simp only [h, decide_true]; decide
  · simp only [h, decide_false]; decide

variable (pf : pre0.Contents (Elt F))

theorem at_used (h1) (h2) : pf.at 1 (Rect.unit (s := S1) ![0] S1.size h1) h2 = usedOf (pf 1) := by
  refine congrArg (pf 1) (funext fun x => Fin.ext ?_)
  fin_cases x; rfl

theorem at_expert (i : grid0.Coords) (h1) (h2) :
    pf.at 0 (Rect.unit (s := S32) ![(Scalar.indexCast (BitVec.ofNat 32 (i 0).val)).toNat] S1.size h1) h2 = pf 0 (ix1 (i 0)) := by
  refine congrArg (pf 0) (funext fun x => Fin.ext ?_)
  have hg : (i 0).val < 32 := (i 0).isLt
  fin_cases x
  show (BitVec.ofNat 32 (i 0).val).toNat + 0 = (i 0).val
  rw [BitVec.toNat_ofNat, Nat.mod_eq_of_lt (by omega), Nat.add_zero]

variable {pf} (hg : Good (pf 0) (pf 1))

include hg in
theorem rows_index (i : grid0.Coords) : cc0_transform_0 inb_S1_S1_0 numel1_S1 pf i = ![min (i 0).val ((usedOf (pf 1)).toNat - 1), 0] := by
  have e := (congrArg (fun n : BitVec 32 => (Scalar.minsi (BitVec.ofNat 32 (i 0).val) (Scalar.subi n 1#32)).toNat)
    (at_used pf inb_S1_S1_0 numel1_S1)).trans (row_word (i 0).isLt _ hg.used_pos hg.used_lt)
  exact congrArg (fun x : ℕ => (![x, 0] : Fin 2 → ℕ)) e

include hg in
theorem gate_index (i : grid0.Coords) : cc0_transform_1 k0_off1_inb numel1_S1 inb_S1_S1_0 pf i
    = ![(pf 0 (ix1 (i 0))).toNat, 0, if (i 0).val < (usedOf (pf 1)).toNat then (i 1).val else 10] := by
  have e2 := (congrArg (fun n : BitVec 32 => (Scalar.select (Scalar.cmpi .slt (BitVec.ofNat 32 (i 0).val) n) (BitVec.ofNat 32 (i 1).val) 10#32).toNat)
    (at_used pf inb_S1_S1_0 numel1_S1)).trans (block_word (i 0).isLt (i 1).isLt _ hg.used_lt)
  exact congrArg₂ (fun x y : ℕ => (![x, 0, y] : Fin 3 → ℕ)) (congrArg BitVec.toNat (at_expert pf i (k0_off1_inb i) numel1_S1)) e2

include hg in
theorem up_index (i : grid0.Coords) : cc0_transform_2 k0_off1_inb numel1_S1 inb_S1_S1_0 pf i
    = ![(pf 0 (ix1 (i 0))).toNat, 0, if (i 0).val < (usedOf (pf 1)).toNat then (i 1).val else 10] := by
  have e2 := (congrArg (fun n : BitVec 32 => (Scalar.select (Scalar.cmpi .slt (BitVec.ofNat 32 (i 0).val) n) (BitVec.ofNat 32 (i 1).val) 10#32).toNat)
    (at_used pf inb_S1_S1_0 numel1_S1)).trans (block_word (i 0).isLt (i 1).isLt _ hg.used_lt)
  exact congrArg₂ (fun x y : ℕ => (![x, 0, y] : Fin 3 → ℕ)) (congrArg BitVec.toNat (at_expert pf i (k0_off1_inb i) numel1_S1)) e2

include hg in
theorem down_index (i : grid0.Coords) : cc0_transform_3 k0_off1_inb numel1_S1 inb_S1_S1_0 pf i
    = ![(pf 0 (ix1 (i 0))).toNat, if (i 0).val < (usedOf (pf 1)).toNat then (i 1).val else 10, 0] := by
  have e2 := (congrArg (fun n : BitVec 32 => (Scalar.select (Scalar.cmpi .slt (BitVec.ofNat 32 (i 0).val) n) (BitVec.ofNat 32 (i 1).val) 10#32).toNat)
    (at_used pf inb_S1_S1_0 numel1_S1)).trans (block_word (i 0).isLt (i 1).isLt _ hg.used_lt)
  exact congrArg₂ (fun x y : ℕ => (![x, y, 0] : Fin 3 → ℕ)) (congrArg BitVec.toNat (at_expert pf i (k0_off1_inb i) numel1_S1)) e2

include hg in
/-- So every window's block lies inside its array. -/
theorem ok : ok0 pf := by
  have he : ∀ i : grid0.Coords, (pf 0 (ix1 (i 0))).toNat < 8 := fun i => hg.expert (i 0)
  have hb : ∀ i : grid0.Coords, (if (i 0).val < (usedOf (pf 1)).toNat then (i 1).val else 10) < 11 := fun i => by
    have : (i 1).val < 11 := (i 1).isLt
    split <;> omega
  refine ⟨fun i => ⟨fun x => ?_, .inl rfl⟩, fun i => ⟨fun x => ?_, .inr (Affine.block_words_dvd (s := S8x2048x5632) (p := EltTy.packing .bf16) (by decide) (by decide))⟩,
    fun i => ⟨fun x => ?_, .inr (Affine.block_words_dvd (s := S8x2048x5632) (p := EltTy.packing .bf16) (by decide) (by decide))⟩,
    fun i => ⟨fun x => ?_, .inr (Affine.block_words_dvd (s := S8x5632x2048) (p := EltTy.packing .bf16) (by decide) (by decide))⟩⟩
  · rw [rows_index hg i]
    have : (i 0).val < 32 := (i 0).isLt
    fin_cases x
    · show (min (i 0).val ((usedOf (pf 1)).toNat - 1) + 1) * 720 ≤ 23040; omega
    · show (0 + 1) * 2048 ≤ 2048; omega
  · rw [gate_index hg i]
    have := he i; have := hb i
    fin_cases x
    · show ((pf 0 (ix1 (i 0))).toNat + 1) * 1 ≤ 8; omega
    · show (0 + 1) * 2048 ≤ 2048; omega
    · show ((if (i 0).val < (usedOf (pf 1)).toNat then (i 1).val else 10) + 1) * 512 ≤ 5632; omega
  · rw [up_index hg i]
    have := he i; have := hb i
    fin_cases x
    · show ((pf 0 (ix1 (i 0))).toNat + 1) * 1 ≤ 8; omega
    · show (0 + 1) * 2048 ≤ 2048; omega
    · show ((if (i 0).val < (usedOf (pf 1)).toNat then (i 1).val else 10) + 1) * 512 ≤ 5632; omega
  · rw [down_index hg i]
    have := he i; have := hb i
    fin_cases x
    · show ((pf 0 (ix1 (i 0))).toNat + 1) * 1 ≤ 8; omega
    · show ((if (i 0).val < (usedOf (pf 1)).toNat then (i 1).val else 10) + 1) * 512 ≤ 5632; omega
    · show (0 + 1) * 2048 ≤ 2048; omega

end Cert.Kernel2Ideal.Moe

end
-- ==== Proof.MoeFrame.lean ====
/- The expert kernel's frame: under the precondition on its tables it runs to completion from any memory, returns its six
   arguments unchanged and leaves every semaphore at zero. -/
module

public import proofs.«01_k».proof.Proof.MoeLaunch
public import proofs.«01_k».proof.Proof.MoeTables

@[expose] public section

set_option maxRecDepth 16384

noncomputable section

namespace Cert.Kernel2Ideal.Moe

open Idealize.ShloMosaic Idealize.ShloMosaic.TcCoe
open Idealize.SL.Sem
open Cert.Kernel2Ideal.Gen

variable {F : FTy → Type} [FloatOps F]
variable (m : (ℓ : Loc nD τ sig) → Buf (Elt F) ℓ) (ρ : Dev nD → PrngReg)

/-- The tables as a memory holds them. -/
def tabs : pre0.Contents (Elt F) := fun k => m (((0 : Dev nD) : Thread nD τ).loc (pre0.ref k))

/-- The precondition's word on a memory's tables. -/
abbrev GoodAt : Prop := Good (F := F) (tabs m 0) (tabs m 1)

/-- The tables, as contents the pipeline admits. -/
def adm (hg : GoodAt m) : (pcfg0 (F := F)).Adm := ⟨tabs m, ok hg⟩

theorem holds (hg : GoodAt m) : Holds (adm m hg) m := fun c => by
  obtain rfl : c = (0 : Dev nD) := Subsingleton.elim (α := Fin 1) _ _
  exact ⟨rfl, rfl⟩

theorem frame (hg : GoodAt m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run (adm m hg) m ρ (holds m hg))

end Cert.Kernel2Ideal.Moe

end
-- ==== Proof.MoeRef.lean ====
/- The experts' reference at exact values, one element at a time: a row's gated features under one expert, their sum through
   the expert's last matrix, and the result of a tile's own expert, nothing where the tile is not in use. -/
module

public import proofs.«01_k».proof.Proof.Gen.Reference2Ideal.Read
public import proofs.«01_k».proof.Proof.MoeTables
public import proofs.«01_k».proof.Proof.StickSpec

@[expose] public section

set_option maxRecDepth 16384

noncomputable section

namespace Cert.Reference2Ideal.Moe

open Idealize.ShloMosaic Idealize.ShloMosaic.TcCoe
open Idealize.ShloMosaic.ValueIdx
open Cert.Reference2Ideal Cert.Reference2Ideal.Gen Cert.Reference2Ideal.Read
open Cert.Kernel2Ideal.Moe (Good usedOf)

/-- A gated feature: the row's first product times its logistic, times the row's second product. -/
def act (x g u : Fin 2048 → EReal) : EReal :=
  (∑ k, x k * g k) * Ideal.logistic (∑ k, x k * g k) * ∑ k, x k * u k

variable (x0 : IVec S32 32) (x1 : IVec S1 32) (x2 : FVec Ideal S23040x2048 .f32) (x3 x4 : FVec Ideal S8x2048x5632 .bf16)
  (x5 : FVec Ideal S8x5632x2048 .bf16)

/-- Feature `f` of row `R` under expert `e`. -/
def feat (e : Fin 8) (R : Fin 23040) (f : Fin 5632) : EReal :=
  act (fun k => x2 (ix2 R k)) (fun k => x3 (ix3 e k f)) (fun k => x4 (ix3 e k f))

/-- What feature `f` adds to the output at `R`, `D`; nothing past the last feature. -/
def part (e : Fin 8) (R : Fin 23040) (D : Fin 2048) (f : ℕ) : EReal :=
  if h : f < 5632 then feat x2 x3 x4 e R ⟨f, h⟩ * x5 (ix3 e ⟨f, h⟩ D) else 0

theorem v14_eq (e : Fin 8) (f : Fin 5632) (R : Fin 23040) :
    (val_main_v14 (F := Ideal) x2 x3 (ix3 e f R) : EReal) = ∑ k : Fin 2048, (x2 (ix2 R k) : EReal) * x3 (ix3 e k f) := by
  rw [val_main_v14_apply]
  refine Finset.sum_congr rfl fun k _ => ?_
  rw [mul_comm]
  refine congrArg₂ (fun u v : EReal => u * v) (congrArg x2 (funext fun a => ?_)) (congrArg x3 (funext fun a => ?_))
  · match a with
    | ⟨0, _⟩ => rfl
    | ⟨1, _⟩ => rfl
  · match a with
    | ⟨0, _⟩ => rfl
    | ⟨1, _⟩ => rfl
    | ⟨2, _⟩ => rfl

theorem v17_eq (e : Fin 8) (f : Fin 5632) (R : Fin 23040) :
    (val_main_v17 (F := Ideal) x2 x4 (ix3 e f R) : EReal) = ∑ k : Fin 2048, (x2 (ix2 R k) : EReal) * x4 (ix3 e k f) := by
  rw [val_main_v17_apply]
  refine Finset.sum_congr rfl fun k _ => ?_
  rw [mul_comm]
  refine congrArg₂ (fun u v : EReal => u * v) (congrArg x2 (funext fun a => ?_)) (congrArg x4 (funext fun a => ?_))
  · match a with
    | ⟨0, _⟩ => rfl
    | ⟨1, _⟩ => rfl
  · match a with
    | ⟨0, _⟩ => rfl
    | ⟨1, _⟩ => rfl
    | ⟨2, _⟩ => rfl

theorem v15_eq (e : Fin 8) (R : Fin 23040) (f : Fin 5632) :
    (val_main_v15 (F := Ideal) x2 x3 (ix3 e R f) : EReal) = ∑ k : Fin 2048, (x2 (ix2 R k) : EReal) * x3 (ix3 e k f) := by
  rw [val_main_v15_apply, ← v14_eq]
  refine congrArg (val_main_v14 (F := Ideal) x2 x3) (funext fun a => ?_)
  match a with
  | ⟨0, _⟩ => rfl
  | ⟨1, _⟩ => rfl
  | ⟨2, _⟩ => rfl

theorem v18_eq (e : Fin 8) (R : Fin 23040) (f : Fin 5632) :
    (val_main_v18 (F := Ideal) x2 x4 (ix3 e R f) : EReal) = ∑ k : Fin 2048, (x2 (ix2 R k) : EReal) * x4 (ix3 e k f) := by
  rw [val_main_v18_apply, ← v17_eq]
  refine congrArg (val_main_v17 (F := Ideal) x2 x4) (funext fun a => ?_)
  match a with
  | ⟨0, _⟩ => rfl
  | ⟨1, _⟩ => rfl
  | ⟨2, _⟩ => rfl

theorem one_eq (i : S8x23040x5632.Idx) : (val_main_call0_v2 (F := Ideal) i : EReal) = 1 := by
  rw [val_main_call0_v2_apply]
  exact Cert.StickSpec.ofBits_one.trans EReal.coe_one

theorem one_eq' (i : S8x23040x5632.Idx) : (val_main_call0_v4 (F := Ideal) i : EReal) = 1 := by
  rw [val_main_call0_v4_apply]
  exact Cert.StickSpec.ofBits_one.trans EReal.coe_one

theorem call0_v5_eq (i : S8x23040x5632.Idx) :
    (val_main_call0_v5 (F := Ideal) x2 x3 i : EReal) = Ideal.logistic (val_main_v15 (F := Ideal) x2 x3 i) := by
  show Ideal.div (val_main_call0_v4 (F := Ideal) i) (val_main_call0_v2 (F := Ideal) i + Ideal.exp (-(val_main_v15 (F := Ideal) x2 x3 i : EReal))) = _
  rw [one_eq, one_eq']
  rfl

theorem v20_eq (e : Fin 8) (R : Fin 23040) (f : Fin 5632) :
    (val_main_v20 (F := Ideal) x2 x3 x4 (ix3 e R f) : EReal) = feat x2 x3 x4 e R f := by
  show (val_main_v15 (F := Ideal) x2 x3 (ix3 e R f) : EReal) * val_main_call0_v5 (F := Ideal) x2 x3 (ix3 e R f)
    * val_main_v18 (F := Ideal) x2 x4 (ix3 e R f) = _
  rw [call0_v5_eq, v15_eq, v18_eq]
  rfl

theorem v22_eq (e : Fin 8) (R : Fin 23040) (D : Fin 2048) :
    (val_main_v22 (F := Ideal) x2 x3 x4 x5 (ix3 e R D) : EReal) = ∑ f ∈ Finset.range 5632, part x2 x3 x4 x5 e R D f := by
  rw [val_main_v22_apply, Finset.sum_range]
  refine Finset.sum_congr rfl fun f _ => ?_
  unfold part
  rw [dif_pos f.isLt, ← v20_eq]
  refine congrArg₂ (fun u v : EReal => u * v) (congrArg (val_main_v20 (F := Ideal) x2 x3 x4) (funext fun a => ?_)) (congrArg x5 (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

theorem v23_eq (e : Fin 8) (g : Fin 32) (p : Fin 720) (D : Fin 2048) :
    (val_main_v23 (F := Ideal) x2 x3 x4 x5 (ix4 e g p D) : EReal)
      = ∑ f ∈ Finset.range 5632, part x2 x3 x4 x5 e ⟨720 * g.val + p.val, by omega⟩ D f := by
  rw [val_main_v23_apply, ← v22_eq]
  refine congrArg (val_main_v22 (F := Ideal) x2 x3 x4 x5) (funext fun a => Fin.ext ?_)
  have he := e.isLt; have hg := g.isLt; have hp := p.isLt; have hD := D.isLt
  match a with
  | ⟨0, _⟩ => show (((e.val * 32 + g.val) * 720 + p.val) * 2048 + D.val) / 47185920 = e.val; omega
  | ⟨1, _⟩ => show (((e.val * 32 + g.val) * 720 + p.val) * 2048 + D.val) / 2048 % 23040 = 720 * g.val + p.val; omega
  | ⟨2, _⟩ => show (((e.val * 32 + g.val) * 720 + p.val) * 2048 + D.val) % 2048 = D.val; omega

/-! ## Which expert a tile takes -/

theorem bit_word {g e n : ℕ} (hg : g < 32) (he : e < 8) (t v : BitVec 32) (ht : t.toNat < 8) (hv : v.toNat < 2 ^ 31) (hn : n = v.toNat) :
    IntOp.andi (IntOp.cmpi .eq t (BitVec.ofNat 32 e)) (IntOp.cmpi .slt (BitVec.ofNat 32 g) v)
      = BitVec.ofBool (decide (t.toNat = e ∧ g < n)) := by
  subst hn
  have h1 : IntOp.cmpi .slt (BitVec.ofNat 32 g) v = BitVec.ofBool (decide (g < v.toNat)) := Cert.Kernel2Ideal.Moe.used_word hg v hv
  have h2 : IntOp.cmpi .eq t (BitVec.ofNat 32 e) = BitVec.ofBool (decide (t.toNat = e)) := by
    unfold IntOp.cmpi
    refine congrArg BitVec.ofBool ?_
    by_cases h : t.toNat = e
    · rw [decide_eq_true h]
      refine beq_iff_eq.2 (BitVec.eq_of_toNat_eq ?_)
      rw [BitVec.toNat_ofNat, Nat.mod_eq_of_lt (by omega), h]
    · rw [decide_eq_false h]
      refine beq_eq_false_iff_ne.2 fun hh => h ?_
      rw [hh, BitVec.toNat_ofNat, Nat.mod_eq_of_lt (by omega)]
  rw [h1, h2]
  by_cases ha : t.toNat = e <;> by_cases hb : g < v.toNat <;> simp only [ha, hb] <;> decide

theorem v1_eq (j : S_.Idx) : val_main_v1 (F := Ideal) x1 j = usedOf (F := Ideal) x1 :=
  congrArg x1 (Subsingleton.elim (α := Cert.Kernel2Ideal.S1.Idx) _ _)

theorem bit_eq (hg : Good (F := Ideal) x0 x1) (e : Fin 8) (g : Fin 32) (p : Fin 720) (D : Fin 2048) :
    val_main_call1_v1 (F := Ideal) x0 x1 (ix4 e g p D)
      = BitVec.ofBool (decide ((x0 (ix1 g)).toNat = e.val ∧ g.val < (usedOf (F := Ideal) x1).toNat)) := by
  rw [val_main_call1_v1_apply, val_main_v25_apply, val_main_v24_apply, val_main_v12_apply, val_main_v9_apply, val_main_v11_apply,
    val_main_v10_apply, val_main_v3_apply, val_main_v2_apply, v1_eq, val_main_v0_apply, val_main_v7_apply, val_main_v4_apply,
    val_main_v8_apply, val_main_v6_apply, val_main_v5_apply]
  have e0 : idx_main_v4 (idx_main_v7 (idx_main_v24 (idx_main_v25 (idx_main_call1_v1 (ix4 e g p D))))) = ix1 g := funext fun a => by
    match a with
    | ⟨0, _⟩ => rfl
  rw [e0]
  exact bit_word g.isLt e.isLt _ _ (hg.expert g) hg.used_lt rfl

theorem v26_eq (hg : Good (F := Ideal) x0 x1) (e : Fin 8) (g : Fin 32) (p : Fin 720) (D : Fin 2048) :
    (val_main_v26 (F := Ideal) x0 x1 x2 x3 x4 x5 (ix4 e g p D) : EReal)
      = if (x0 (ix1 g)).toNat = e.val ∧ g.val < (usedOf (F := Ideal) x1).toNat then
          ∑ f ∈ Finset.range 5632, part x2 x3 x4 x5 e ⟨720 * g.val + p.val, by omega⟩ D f else 0 := by
  rw [val_main_v26_apply, bit_eq x0 x1 hg, v23_eq, val_main_call1_v2_apply]
  unfold Scalar.select
  by_cases h : (x0 (ix1 g)).toNat = e.val ∧ g.val < (usedOf (F := Ideal) x1).toNat
  · rw [decide_eq_true h, if_pos (by decide), if_pos h]
  · rw [decide_eq_false h, if_neg (by decide), if_neg h]
    exact Cert.StickSpec.ofBits_zero.trans EReal.coe_zero

/-- The reference at row `p` of tile `g`: its own expert's output, nothing where the tile is not in use. -/
theorem v28_eq (hg : Good (F := Ideal) x0 x1) (g : Fin 32) (p : Fin 720) (D : Fin 2048) :
    (val_main_v28 (F := Ideal) x0 x1 x2 x3 x4 x5 (ix2 ⟨720 * g.val + p.val, by omega⟩ D) : EReal)
      = if g.val < (usedOf (F := Ideal) x1).toNat then
          ∑ f ∈ Finset.range 5632, part x2 x3 x4 x5 ⟨(x0 (ix1 g)).toNat, hg.expert g⟩ ⟨720 * g.val + p.val, by omega⟩ D f else 0 := by
  rw [val_main_v28_apply, val_main_v27_apply]
  have e0 : (val_main_cst_0 (F := Ideal) (Shape.Idx.first h_S_) : EReal) = 0 := Cert.StickSpec.ofBits_zero.trans EReal.coe_zero
  have hgl := g.isLt; have hp := p.isLt; have hD := D.isLt
  have ei : ∀ k : Fin 8, idx_main_v27 (idx_main_v28 (ix2 ⟨720 * g.val + p.val, by omega⟩ D)) k = ix4 k g p D := fun k => funext fun a => Fin.ext (by
    match a with
    | ⟨0, _⟩ => rfl
    | ⟨1, _⟩ => show ((720 * g.val + p.val) * 2048 + D.val) / 1474560 = g.val; omega
    | ⟨2, _⟩ => show ((720 * g.val + p.val) * 2048 + D.val) / 2048 % 720 = p.val; omega
    | ⟨3, _⟩ => show ((720 * g.val + p.val) * 2048 + D.val) % 2048 = D.val; omega)
  rw [e0, zero_add]
  refine (Finset.sum_congr rfl fun k _ => (congrArg (val_main_v26 (F := Ideal) x0 x1 x2 x3 x4 x5) (ei k)).trans
    (v26_eq x0 x1 x2 x3 x4 x5 hg k g p D)).trans ?_
  refine (Finset.sum_eq_single (⟨(x0 (ix1 g)).toNat, hg.expert g⟩ : Fin 8) (fun k _ hk => if_neg fun h => hk (Fin.ext h.1.symm))
    (fun h => absurd (Finset.mem_univ _) h)).trans ?_
  simp only [true_and]

end Cert.Reference2Ideal.Moe

end
-- ==== Proof.MoeOut.lean ====
/- The expert kernel's result at exact values: the blocks each point is given, the output and the rows it leaves, and the
   whole result, which is the reference's. -/
module

public import proofs.«01_k».proof.Proof.MoeFrame
public import proofs.«01_k».proof.Proof.MoeRef
public import Idealize.ShloMosaic.Lib.MatmulPlain
public import Idealize.ShloMosaic.Lib.Pipeline.ValueKit.Geometry

@[expose] public section

set_option maxRecDepth 16384

noncomputable section

namespace Cert.Kernel2Ideal.Moe

open Idealize.ShloMosaic Idealize.ShloMosaic.TcCoe
open Idealize.ShloMosaic.ValueIdx
open Idealize.ShloMosaic.Pipeline (Dat)
open Cert.Kernel2Ideal Cert.Kernel2Ideal.Gen
open Cert.Reference2Ideal.Moe (act feat part)

/-! ## One point's arithmetic -/

theorem product_apply (s : FVec Ideal S720x2048 .bf16) (w : FVec Ideal S1x2048x512 .bf16) (p : Fin 720) (t : Fin 512) :
    (matmul dot_S720x2048_S2048x512_S720x512_1_0_0_1_n_n none s (shapeCast S2048x512 w shapeCasts_S1x2048x512_S2048x512 : FVec Ideal S2048x512 .bf16)
      (constant S720x512 .f32 0x00000000#32) (ix2 p t) : EReal) = ∑ k : Fin 2048, (s (ix2 p k) : EReal) * w (ix3 0 k t) := by
  refine (Ideal.matmul_plain_apply (M := 720) (K := 2048) (N := 512) none s _ _ p t).trans ?_
  rw [show (constant S720x512 .f32 0x00000000#32 : FVec Ideal S720x512 .f32) (ix2 p t) = (0 : EReal) from
    Cert.StickSpec.ofBits_zero.trans EReal.coe_zero, zero_add]
  refine Finset.sum_congr rfl fun k _ => congrArg (fun v : EReal => (s (ix2 p k) : EReal) * v) ?_
  exact shapeCast_apply w shapeCasts_S1x2048x512_S2048x512 (ix2 k t) (ix3 0 k t) (by
    rw [Shape.rowMajor_val_three, Shape.rowMajor_val_two]; show ((0 * 2048 + k.val) * 512 + t.val) = k.val * 512 + t.val; omega)

/-- The output after a point in use: what it held and the block's features through the last matrix. -/
theorem pay3_apply (y : FVec Ideal S720x2048 .f32) (s : FVec Ideal S720x2048 .bf16) (w1 w2 : FVec Ideal S1x2048x512 .bf16)
    (w3 : FVec Ideal S1x512x2048 .bf16) (p : Fin 720) (d : Fin 2048) :
    (k0_pay3 (F := Ideal) y s w1 w2 w3 (ix2 p d) : EReal) = y (ix2 p d) + ∑ t : Fin 512,
      act (fun k => s (ix2 p k)) (fun k => w1 (ix3 0 k t)) (fun k => w2 (ix3 0 k t)) * w3 (ix3 0 t d) := by
  let g : FVec Ideal S720x512 .f32 := matmul dot_S720x2048_S2048x512_S720x512_1_0_0_1_n_n none s
    (shapeCast S2048x512 w1 shapeCasts_S1x2048x512_S2048x512 : FVec Ideal S2048x512 .bf16) (constant S720x512 .f32 0x00000000#32)
  let u : FVec Ideal S720x512 .f32 := matmul dot_S720x2048_S2048x512_S720x512_1_0_0_1_n_n none s
    (shapeCast S2048x512 w2 shapeCasts_S1x2048x512_S2048x512 : FVec Ideal S2048x512 .bf16) (constant S720x512 .f32 0x00000000#32)
  show (shapeCast S720x2048 y shapeCasts_S720x2048_S720x2048 (ix2 p d) : EReal)
    + (matmul dot_S720x512_S512x2048_S720x2048_1_0_0_1_n_n none (truncf .bf16 (mulf (mulf g (logistic g)) u) bitsLt_bf16_f32)
      (shapeCast S512x2048 w3 shapeCasts_S1x512x2048_S512x2048 : FVec Ideal S512x2048 .bf16) (constant S720x2048 .f32 0x00000000#32) (ix2 p d) : EReal) = _
  have e1 : (shapeCast S720x2048 y shapeCasts_S720x2048_S720x2048 (ix2 p d) : EReal) = y (ix2 p d) :=
    shapeCast_apply y shapeCasts_S720x2048_S720x2048 (ix2 p d) (ix2 p d) rfl
  rw [e1]
  refine congrArg (fun v : EReal => (y (ix2 p d) : EReal) + v) ?_
  refine (Ideal.matmul_plain_apply (M := 720) (K := 512) (N := 2048) none _ _ _ p d).trans ?_
  rw [show (constant S720x2048 .f32 0x00000000#32 : FVec Ideal S720x2048 .f32) (ix2 p d) = (0 : EReal) from
    Cert.StickSpec.ofBits_zero.trans EReal.coe_zero, zero_add]
  refine Finset.sum_congr rfl fun t _ => ?_
  refine congrArg₂ (fun v v' : EReal => v * v') ?_ ?_
  · show (g (ix2 p t) : EReal) * Ideal.logistic (g (ix2 p t)) * u (ix2 p t) = _
    rw [show (g (ix2 p t) : EReal) = _ from product_apply s w1 p t, show (u (ix2 p t) : EReal) = _ from product_apply s w2 p t]
    rfl
  · exact shapeCast_apply w3 shapeCasts_S1x512x2048_S512x2048 (ix2 t d) (ix3 0 t d) (by
      rw [Shape.rowMajor_val_three, Shape.rowMajor_val_two]; show ((0 * 512 + t.val) * 2048 + d.val) = t.val * 2048 + d.val; omega)

theorem pay1_apply (i : S720x2048.Idx) : (k0_pay1 (F := Ideal) i : EReal) = 0 := Cert.StickSpec.ofBits_zero.trans EReal.coe_zero

theorem pay2_apply (x : FVec Ideal S720x2048 .f32) (p : Fin 720) (k : Fin 2048) : (k0_pay2 (F := Ideal) x (ix2 p k) : EReal) = x (ix2 p k) :=
  shapeCast_apply (truncf .bf16 x bitsLt_bf16_f32 : FVec Ideal S720x2048 .bf16) shapeCasts_S720x2048_S720x2048 (ix2 p k) (ix2 p k) rfl

/-! ## Where each point's blocks lie -/

variable (m : (ℓ : Loc nD τ sig) → Buf (Elt Ideal) ℓ) (hg : GoodAt m) (c : Dev nD)

abbrev xs : FVec Ideal S23040x2048 .f32 := m ((c : Thread nD τ).loc main_arg2)
abbrev wg : FVec Ideal S8x2048x5632 .bf16 := m ((c : Thread nD τ).loc main_arg3)
abbrev wu : FVec Ideal S8x2048x5632 .bf16 := m ((c : Thread nD τ).loc main_arg4)
abbrev wd : FVec Ideal S8x5632x2048 .bf16 := m ((c : Thread nD τ).loc main_arg5)

/-- The expert of a tile. -/
abbrev expertOf (g : Fin 32) : Fin 8 := ⟨((tabs m 0 : IVec S32 32) (ix1 g)).toNat, hg.expert g⟩

/-- The number of tiles in use. -/
abbrev used : ℕ := (usedOf (F := Ideal) (tabs m 1)).toNat

section Point

variable (t : Fin (cfg0 (adm m hg)).N) (g : Fin 32) (j : Fin 11) (ht : t.val = 11 * g.val + j.val)

include ht

theorem coord0_eq : grid0.coords t 0 = g := Fin.ext ((tile_of t).trans (by omega))
theorem coord1_eq : grid0.coords t 1 = j := Fin.ext ((block_of t).trans (by omega))

theorem index0 (hu : g.val < used m) : ((cfg0 (adm m hg)).win (0 : Fin 5)).index t = ![g.val, 0] := by
  refine (rows_index hg (grid0.coords t)).trans ?_
  rw [coord0_eq m hg t g j ht]
  exact congrArg (fun x : ℕ => (![x, 0] : Fin 2 → ℕ)) (by unfold used at hu; omega)

theorem index1 (hu : g.val < used m) : ((cfg0 (adm m hg)).win (1 : Fin 5)).index t = ![(expertOf m hg g).val, 0, j.val] := by
  refine (gate_index hg (grid0.coords t)).trans ?_
  rw [coord0_eq m hg t g j ht, coord1_eq m hg t g j ht]
  exact congrArg (fun x : ℕ => (![(expertOf m hg g).val, 0, x] : Fin 3 → ℕ)) (if_pos hu)

theorem index2 (hu : g.val < used m) : ((cfg0 (adm m hg)).win (2 : Fin 5)).index t = ![(expertOf m hg g).val, 0, j.val] := by
  refine (up_index hg (grid0.coords t)).trans ?_
  rw [coord0_eq m hg t g j ht, coord1_eq m hg t g j ht]
  exact congrArg (fun x : ℕ => (![(expertOf m hg g).val, 0, x] : Fin 3 → ℕ)) (if_pos hu)

theorem index3 (hu : g.val < used m) : ((cfg0 (adm m hg)).win (3 : Fin 5)).index t = ![(expertOf m hg g).val, j.val, 0] := by
  refine (down_index hg (grid0.coords t)).trans ?_
  rw [coord0_eq m hg t g j ht, coord1_eq m hg t g j ht]
  exact congrArg (fun x : ℕ => (![(expertOf m hg g).val, x, 0] : Fin 3 → ℕ)) (if_pos hu)

theorem block0 (hu : g.val < used m) (p : Fin 720) (k : Fin 2048) : (iblk (adm m hg) m c (0 : Fin 5) t : FVec Ideal S720x2048 .f32) (ix2 p k)
    = xs m c (ix2 ⟨720 * g.val + p.val, by omega⟩ k) := by
  have hi := index0 m hg t g j ht hu
  blk_simp [iblk]
  refine congrArg (xs m c) ?_
  funext b; apply Fin.ext
  match b with
  | ⟨0, _⟩ => blk_simp [hi]; show g.val * 720 + p.val = 720 * g.val + p.val; omega
  | ⟨1, _⟩ => blk_simp [hi]

theorem block1 (hu : g.val < used m) (k : Fin 2048) (f : Fin 512) : (iblk (adm m hg) m c (1 : Fin 5) t : FVec Ideal S1x2048x512 .bf16) (ix3 0 k f)
    = wg m c (ix3 (expertOf m hg g) k ⟨512 * j.val + f.val, by omega⟩) := by
  have hi := index1 m hg t g j ht hu
  blk_simp [iblk]
  refine congrArg (wg m c) ?_
  funext b; apply Fin.ext
  match b with
  | ⟨0, _⟩ => blk_simp [hi]
  | ⟨1, _⟩ => blk_simp [hi]
  | ⟨2, _⟩ => blk_simp [hi]; show j.val * 512 + f.val = 512 * j.val + f.val; omega

theorem block2 (hu : g.val < used m) (k : Fin 2048) (f : Fin 512) : (iblk (adm m hg) m c (2 : Fin 5) t : FVec Ideal S1x2048x512 .bf16) (ix3 0 k f)
    = wu m c (ix3 (expertOf m hg g) k ⟨512 * j.val + f.val, by omega⟩) := by
  have hi := index2 m hg t g j ht hu
  blk_simp [iblk]
  refine congrArg (wu m c) ?_
  funext b; apply Fin.ext
  match b with
  | ⟨0, _⟩ => blk_simp [hi]
  | ⟨1, _⟩ => blk_simp [hi]
  | ⟨2, _⟩ => blk_simp [hi]; show j.val * 512 + f.val = 512 * j.val + f.val; omega

theorem block3 (hu : g.val < used m) (f : Fin 512) (d : Fin 2048) : (iblk (adm m hg) m c (3 : Fin 5) t : FVec Ideal S1x512x2048 .bf16) (ix3 0 f d)
    = wd m c (ix3 (expertOf m hg g) ⟨512 * j.val + f.val, by omega⟩ d) := by
  have hi := index3 m hg t g j ht hu
  blk_simp [iblk]
  refine congrArg (wd m c) ?_
  funext b; apply Fin.ext
  match b with
  | ⟨0, _⟩ => blk_simp [hi]
  | ⟨1, _⟩ => blk_simp [hi]; show j.val * 512 + f.val = 512 * j.val + f.val; omega
  | ⟨2, _⟩ => blk_simp [hi]

end Point

/-! ## What the points of a tile leave -/

theorem part_block (e : Fin 8) (R : Fin 23040) (D : Fin 2048) (j : Fin 11) (f : Fin 512) :
    part (xs m c) (wg m c) (wu m c) (wd m c) e R D (512 * j.val + f.val)
      = feat (xs m c) (wg m c) (wu m c) e R ⟨512 * j.val + f.val, by omega⟩ * wd m c (ix3 e ⟨512 * j.val + f.val, by omega⟩ D) := by
  unfold part
  rw [dif_pos (by omega)]

section Tile

variable (g : Fin 32)

/-- A point of a tile. -/
abbrev pt (j : Fin 11) : Fin (cfg0 (adm m hg)).N := ⟨11 * g.val + j.val, by rw [numN]; omega⟩

theorem cond2_pt (j : Fin 11) : k0_cond2 (grid0.coords (pt m hg g j)) (usedOf ((adm m hg).1 1)) = 1#1 ↔ g.val < used m := by
  refine (cond2_iff (grid0.coords (pt m hg g j)) (usedOf ((adm m hg).1 1)) hg.used_lt).trans ?_
  rw [coord0_eq m hg (pt m hg g j) g j rfl]
  exact Iff.rfl

/-- One point of a tile in use: its block's features join the sum. -/
theorem point_sum (hu : g.val < used m) (j : Fin 11) (y : FVec Ideal S720x2048 .f32) (s : FVec Ideal S720x2048 .bf16)
    (hs : ∀ (p : Fin 720) (k : Fin 2048), (rowsAt (F := Ideal) (grid0.coords (pt m hg g j)) (iblk (adm m hg) m c (0 : Fin 5) (pt m hg g j)) s (ix2 p k) : EReal)
      = xs m c (ix2 ⟨720 * g.val + p.val, by omega⟩ k))
    (hy : ∀ (p : Fin 720) (d : Fin 2048), (baseAt (F := Ideal) (grid0.coords (pt m hg g j)) y (ix2 p d) : EReal)
      = ∑ f ∈ Finset.range (512 * j.val), part (xs m c) (wg m c) (wu m c) (wd m c) (expertOf m hg g) ⟨720 * g.val + p.val, by omega⟩ d f)
    (p : Fin 720) (d : Fin 2048) :
    (sumAt (F := Ideal) (grid0.coords (pt m hg g j)) (usedOf ((adm m hg).1 1)) (iblk (adm m hg) m c (0 : Fin 5) (pt m hg g j))
        (iblk (adm m hg) m c (1 : Fin 5) (pt m hg g j)) (iblk (adm m hg) m c (2 : Fin 5) (pt m hg g j))
        (iblk (adm m hg) m c (3 : Fin 5) (pt m hg g j)) y s (ix2 p d) : EReal)
      = ∑ f ∈ Finset.range (512 * (j.val + 1)), part (xs m c) (wg m c) (wu m c) (wd m c) (expertOf m hg g) ⟨720 * g.val + p.val, by omega⟩ d f := by
  unfold sumAt
  rw [if_pos ((cond2_pt m hg g j).2 hu)]
  refine (pay3_apply _ _ _ _ _ p d).trans ?_
  rw [hy, Nat.mul_add, Nat.mul_one, Finset.sum_range_add, ← Fin.sum_univ_eq_sum_range (fun f => part (xs m c) (wg m c) (wu m c) (wd m c) (expertOf m hg g) ⟨720 * g.val + p.val, by omega⟩ d (512 * j.val + f))]
  refine congrArg (fun v : EReal => _ + v) (Finset.sum_congr rfl fun f _ => ?_)
  rw [part_block m c]
  refine congrArg₂ (fun v v' : EReal => v * v') ?_ (block3 m hg c (pt m hg g j) g j rfl hu f d)
  unfold feat
  rw [show (fun k => (rowsAt (F := Ideal) (grid0.coords (pt m hg g j)) (iblk (adm m hg) m c (0 : Fin 5) (pt m hg g j)) s (ix2 p k) : EReal)) = _ from funext (hs p),
    show (fun k => ((iblk (adm m hg) m c (1 : Fin 5) (pt m hg g j) : FVec Ideal S1x2048x512 .bf16) (ix3 0 k f) : EReal)) = _ from
      funext fun k => block1 m hg c (pt m hg g j) g j rfl hu k f,
    show (fun k => ((iblk (adm m hg) m c (2 : Fin 5) (pt m hg g j) : FVec Ideal S1x2048x512 .bf16) (ix3 0 k f) : EReal)) = _ from
      funext fun k => block2 m hg c (pt m hg g j) g j rfl hu k f]

/-- After the points of a tile in use up to its `j`th: the rows, and the sum of the features so far. -/
theorem st_used (hu : g.val < used m) : ∀ (j : ℕ) (hj : j < 11),
    (∀ (p : Fin 720) (k : Fin 2048), ((st (adm m hg) m c (11 * g.val + j + 1)).2 (ix2 p k) : EReal) = xs m c (ix2 ⟨720 * g.val + p.val, by omega⟩ k))
    ∧ (∀ (p : Fin 720) (d : Fin 2048), ((st (adm m hg) m c (11 * g.val + j + 1)).1 (ix2 p d) : EReal)
      = ∑ f ∈ Finset.range (512 * (j + 1)), part (xs m c) (wg m c) (wu m c) (wd m c) (expertOf m hg g) ⟨720 * g.val + p.val, by omega⟩ d f) := by
  intro j
  induction j with
  | zero =>
    intro hj
    have hf : k0_cond1 (grid0.coords (pt m hg g ⟨0, hj⟩)) = 1#1 := (first_iff (pt m hg g ⟨0, hj⟩)).2 (by show (11 * g.val + 0) % 11 = 0; omega)
    rw [show 11 * g.val + 0 + 1 = (pt m hg g ⟨0, hj⟩).val + 1 from rfl, st_succ]
    have hr : ∀ (p : Fin 720) (k : Fin 2048), (rowsAt (F := Ideal) (grid0.coords (pt m hg g ⟨0, hj⟩)) (iblk (adm m hg) m c (0 : Fin 5) (pt m hg g ⟨0, hj⟩))
        (st (adm m hg) m c (pt m hg g ⟨0, hj⟩).val).2 (ix2 p k) : EReal) = xs m c (ix2 ⟨720 * g.val + p.val, by omega⟩ k) := fun p k => by
      unfold rowsAt
      rw [if_pos hf]
      exact (pay2_apply _ p k).trans (block0 m hg c (pt m hg g ⟨0, hj⟩) g ⟨0, hj⟩ rfl hu p k)
    refine ⟨hr, fun p d => point_sum m hg c g hu ⟨0, hj⟩ _ _ hr (fun p d => ?_) p d⟩
    unfold baseAt
    rw [if_pos hf]
    exact (pay1_apply _).trans (by simp)
  | succ j ih =>
    intro hj
    obtain ⟨ih2, ih1⟩ := ih (by omega)
    have hf : ¬ k0_cond1 (grid0.coords (pt m hg g ⟨j + 1, hj⟩)) = 1#1 := fun h => by
      have := (first_iff (pt m hg g ⟨j + 1, hj⟩)).1 h
      have e : (11 * g.val + (j + 1)) % 11 = 0 := this
      omega
    rw [show 11 * g.val + (j + 1) + 1 = (pt m hg g ⟨j + 1, hj⟩).val + 1 from rfl, st_succ]
    have hr : ∀ (p : Fin 720) (k : Fin 2048), (rowsAt (F := Ideal) (grid0.coords (pt m hg g ⟨j + 1, hj⟩)) (iblk (adm m hg) m c (0 : Fin 5) (pt m hg g ⟨j + 1, hj⟩))
        (st (adm m hg) m c (pt m hg g ⟨j + 1, hj⟩).val).2 (ix2 p k) : EReal) = xs m c (ix2 ⟨720 * g.val + p.val, by omega⟩ k) := fun p k => by
      unfold rowsAt
      rw [if_neg hf]
      exact ih2 p k
    refine ⟨hr, fun p d => point_sum m hg c g hu ⟨j + 1, hj⟩ _ _ hr (fun p d => ?_) p d⟩
    unfold baseAt
    rw [if_neg hf]
    exact ih1 p d

/-- A tile not in use is left at nothing. -/
theorem st_unused (hu : ¬ g.val < used m) : ∀ (j : ℕ) (_ : j < 11) (i : S720x2048.Idx), ((st (adm m hg) m c (11 * g.val + j + 1)).1 i : EReal) = 0 := by
  intro j
  induction j with
  | zero =>
    intro hj i
    have hf : k0_cond1 (grid0.coords (pt m hg g ⟨0, hj⟩)) = 1#1 := (first_iff (pt m hg g ⟨0, hj⟩)).2 (by show (11 * g.val + 0) % 11 = 0; omega)
    rw [show 11 * g.val + 0 + 1 = (pt m hg g ⟨0, hj⟩).val + 1 from rfl, st_succ]
    unfold sumAt baseAt
    rw [if_neg (fun h => hu ((cond2_pt m hg g ⟨0, hj⟩).1 h)), if_pos hf]
    exact pay1_apply i
  | succ j ih =>
    intro hj i
    have hf : ¬ k0_cond1 (grid0.coords (pt m hg g ⟨j + 1, hj⟩)) = 1#1 := fun h => by
      have := (first_iff (pt m hg g ⟨j + 1, hj⟩)).1 h
      have e : (11 * g.val + (j + 1)) % 11 = 0 := this
      omega
    rw [show 11 * g.val + (j + 1) + 1 = (pt m hg g ⟨j + 1, hj⟩).val + 1 from rfl, st_succ]
    unfold sumAt baseAt
    rw [if_neg (fun h => hu ((cond2_pt m hg g ⟨j + 1, hj⟩).1 h)), if_neg hf]
    exact ih (by omega) i

/-- After a tile's last point its output is the reference's. -/
theorem st_last (p : Fin 720) (d : Fin 2048) : ((st (adm m hg) m c (11 * g.val + 10 + 1)).1 (ix2 p d) : EReal)
    = Cert.Reference2Ideal.Read.val_main_v28 (F := Ideal) (tabs m 0) (tabs m 1) (xs m c) (wg m c) (wu m c) (wd m c)
      (ix2 ⟨720 * g.val + p.val, by omega⟩ d) := by
  refine Eq.trans ?_ (Cert.Reference2Ideal.Moe.v28_eq (tabs m 0) (tabs m 1) (xs m c) (wg m c) (wu m c) (wd m c) hg g p d).symm
  by_cases hu : g.val < used m
  · exact ((st_used m hg c g hu 10 (by decide)).2 p d).trans (if_pos hu).symm
  · exact (st_unused m hg c g hu 10 (by decide) _).trans (if_neg hu).symm

end Tile

/-! ## The result -/

theorem index4 (t : Fin (cfg0 (adm m hg)).N) : ((cfg0 (adm m hg)).win (4 : Fin 5)).index t = ![t.val / 11, 0] := by
  have h : ∀ t : Fin grid0.N, cc0_transform_4 (grid0.coords t) = ![t.val / 11, 0] := by decide +kernel
  exact h t

/-- The tiles' last points write every block of the output. -/
theorem covers4 : ((cfg0 (adm m hg)).win (4 : Fin 5)).Covers := by
  refine ⟨fun b => ?_, fun β => ?_⟩
  · match b with
    | ⟨0, _⟩ => exact (by decide : 0 < 720)
    | ⟨1, _⟩ => exact (by decide : 0 < 2048)
  have h0 : (β ⟨0, Nat.two_pos⟩).val < (23040 + 720 - 1) / 720 := (β ⟨0, Nat.two_pos⟩).isLt
  have h1 : (β ⟨1, Nat.one_lt_two⟩).val < (2048 + 2048 - 1) / 2048 := (β ⟨1, Nat.one_lt_two⟩).isLt
  have hn : 11 * (β ⟨0, Nat.two_pos⟩).val + 10 < (cfg0 (adm m hg)).N := by rw [numN]; omega
  refine ⟨⟨11 * (β ⟨0, Nat.two_pos⟩).val + 10, hn⟩, ?_, fun b => ⟨?_, .inl rfl⟩⟩
  · rw [flush_iff]
    exact decide_eq_true (by show (11 * (β ⟨0, Nat.two_pos⟩).val + 10) % 11 = 10; omega)
  · rw [index4]
    match b with
    | ⟨0, _⟩ => show (11 * (β ⟨0, Nat.two_pos⟩).val + 10) / 11 = (β ⟨0, Nat.two_pos⟩).val; omega
    | ⟨1, _⟩ => show 0 = (β ⟨1, Nat.one_lt_two⟩).val; omega

theorem final4 : (dats (adm m hg) m 0 c).arrAt (4 : Fin 5) (cfg0 (adm m hg)).N
    = Cert.Reference2Ideal.Read.val_main_v28 (F := Ideal) (tabs m 0) (tabs m 1) (xs m c) (wg m c) (wu m c) (wd m c) := by
  refine (dats (adm m hg) m 0 c).arrAt_eq_of_covers (4 : Fin 5) _ (covers4 m hg) fun t hf y => ?_
  rw [flush_iff, decide_eq_true_iff] at hf
  have ht : t.val < 352 := lt_of_lt_of_eq t.isLt (numN _)
  have hi := index4 m hg t
  blk_simp
  rw [after0_4]
  have hb : t.val / 11 < 32 := by omega
  have h0 : (y 0).val < 720 := (y 0).isLt
  have h1 : (y 1).val < 2048 := (y 1).isLt
  have ey : y = ix2 (⟨(y 0).val, h0⟩ : Fin 720) (⟨(y 1).val, h1⟩ : Fin 2048) := by
    funext b
    match b with
    | ⟨0, _⟩ => rfl
    | ⟨1, _⟩ => rfl
  have et : t.val + 1 = 11 * (⟨t.val / 11, hb⟩ : Fin 32).val + 10 + 1 := by show t.val + 1 = 11 * (t.val / 11) + 10 + 1; omega
  rw [et]
  refine (congrArg (st (adm m hg) m c _).1 ey).trans ((st_last m hg c ⟨t.val / 11, hb⟩ _ _).trans ?_)
  refine congrArg (Cert.Reference2Ideal.Read.val_main_v28 (F := Ideal) (tabs m 0) (tabs m 1) (xs m c) (wg m c) (wu m c) (wd m c)) ?_
  funext b; apply Fin.ext
  match b with
  | ⟨0, _⟩ => blk_simp [hi]; show 720 * (t.val / 11) + (y 0).val = t.val / 11 * 720 + (y 0).val; omega
  | ⟨1, _⟩ => blk_simp [hi]; rfl

end Cert.Kernel2Ideal.Moe

end
-- ==== Proof.DenseRef.lean ====
/- The dense feed-forward's reference at exact values, one element at a time: the stream's element and the row's gated
   features through the last matrix. -/
module

public import proofs.«01_k».proof.Proof.Gen.Reference3Ideal.Read
public import proofs.«01_k».proof.Proof.MoeRef

@[expose] public section

set_option maxRecDepth 16384

noncomputable section

namespace Cert.Reference3Ideal.Dense

open Idealize.ShloMosaic Idealize.ShloMosaic.TcCoe
open Idealize.ShloMosaic.ValueIdx
open Cert.Reference3Ideal Cert.Reference3Ideal.Gen Cert.Reference3Ideal.Read
open Cert.Reference2Ideal.Moe (act)

variable (x0 : FVec Ideal S8192x2048 .bf16) (x1 : FVec Ideal S8192x2048 .f32) (x2 x3 : FVec Ideal S2048x5632 .bf16) (x4 : FVec Ideal S5632x2048 .bf16)

/-- Feature `f` of row `R`. -/
def feat (R : Fin 8192) (f : Fin 5632) : EReal :=
  act (fun k => x0 (ix2 R k)) (fun k => x2 (ix2 k f)) (fun k => x3 (ix2 k f))

/-- What feature `f` adds to the result at `R`, `D`; nothing past the last feature. -/
def part (R : Fin 8192) (D : Fin 2048) (f : ℕ) : EReal :=
  if h : f < 5632 then feat x0 x2 x3 R ⟨f, h⟩ * x4 (ix2 ⟨f, h⟩ D) else 0

theorem v2_eq (R : Fin 8192) (f : Fin 5632) :
    (val_main_v2 (F := Ideal) x0 x2 (ix2 R f) : EReal) = ∑ k : Fin 2048, (x0 (ix2 R k) : EReal) * x2 (ix2 k f) := by
  rw [val_main_v2_apply]
  refine Finset.sum_congr rfl fun k _ => congrArg₂ (fun u v : EReal => u * v) (congrArg x0 (funext fun a => ?_)) (congrArg x2 (funext fun a => ?_))
  · match a with
    | ⟨0, _⟩ => rfl
    | ⟨1, _⟩ => rfl
  · match a with
    | ⟨0, _⟩ => rfl
    | ⟨1, _⟩ => rfl

theorem v5_eq (R : Fin 8192) (f : Fin 5632) :
    (val_main_v5 (F := Ideal) x0 x3 (ix2 R f) : EReal) = ∑ k : Fin 2048, (x0 (ix2 R k) : EReal) * x3 (ix2 k f) := by
  rw [val_main_v5_apply]
  refine Finset.sum_congr rfl fun k _ => congrArg₂ (fun u v : EReal => u * v) (congrArg x0 (funext fun a => ?_)) (congrArg x3 (funext fun a => ?_))
  · match a with
    | ⟨0, _⟩ => rfl
    | ⟨1, _⟩ => rfl
  · match a with
    | ⟨0, _⟩ => rfl
    | ⟨1, _⟩ => rfl

theorem one_eq (i : S8192x5632.Idx) : (val_main_call0_v2 (F := Ideal) i : EReal) = 1 := by
  rw [val_main_call0_v2_apply]
  exact Cert.StickSpec.ofBits_one.trans EReal.coe_one

theorem one_eq' (i : S8192x5632.Idx) : (val_main_call0_v4 (F := Ideal) i : EReal) = 1 := by
  rw [val_main_call0_v4_apply]
  exact Cert.StickSpec.ofBits_one.trans EReal.coe_one

theorem logistic_eq (i : S8192x5632.Idx) :
    (val_main_call0_v5 (F := Ideal) x0 x2 i : EReal) = Ideal.logistic (val_main_v2 (F := Ideal) x0 x2 i) := by
  show Ideal.div (val_main_call0_v4 (F := Ideal) i) (val_main_call0_v2 (F := Ideal) i + Ideal.exp (-(val_main_v2 (F := Ideal) x0 x2 i : EReal))) = _
  rw [one_eq, one_eq']
  rfl

theorem v6_eq (R : Fin 8192) (f : Fin 5632) :
    (val_main_v6 (F := Ideal) x0 x2 x3 (ix2 R f) : EReal) = feat x0 x2 x3 R f := by
  show (val_main_v2 (F := Ideal) x0 x2 (ix2 R f) : EReal) * val_main_call0_v5 (F := Ideal) x0 x2 (ix2 R f)
    * val_main_v5 (F := Ideal) x0 x3 (ix2 R f) = _
  rw [logistic_eq, v2_eq, v5_eq]
  rfl

theorem v8_eq (R : Fin 8192) (D : Fin 2048) :
    (val_main_v8 (F := Ideal) x0 x2 x3 x4 (ix2 R D) : EReal) = ∑ f ∈ Finset.range 5632, part x0 x2 x3 x4 R D f := by
  rw [val_main_v8_apply, Finset.sum_range]
  refine Finset.sum_congr rfl fun f _ => ?_
  unfold part
  rw [dif_pos f.isLt, ← v6_eq]
  refine congrArg₂ (fun u v : EReal => u * v) (congrArg (val_main_v6 (F := Ideal) x0 x2 x3) (funext fun a => ?_)) (congrArg x4 (funext fun a => ?_))
  · match a with
    | ⟨0, _⟩ => rfl
    | ⟨1, _⟩ => rfl
  · match a with
    | ⟨0, _⟩ => rfl
    | ⟨1, _⟩ => rfl

/-- The reference at row `R`, column `D`. -/
theorem v9_eq (R : Fin 8192) (D : Fin 2048) :
    (val_main_v9 (F := Ideal) x0 x1 x2 x3 x4 (ix2 R D) : EReal)
      = x1 (ix2 R D) + ∑ f ∈ Finset.range 5632, part x0 x2 x3 x4 R D f := by
  rw [← v8_eq]
  exact val_main_v9_apply (F := Ideal) x0 x1 x2 x3 x4 (ix2 R D)

end Cert.Reference3Ideal.Dense

end
-- ==== Proof.DenseOut.lean ====
/- The dense feed-forward kernel's result at exact values: what each point leaves in the carried sum, the blocks it is given,
   and the whole result, which is the reference's. -/
module

public import proofs.«01_k».proof.Proof.Gen.Kernel3Ideal.Value
public import proofs.«01_k».proof.Proof.DenseRef
public import Idealize.ShloMosaic.Lib.VecWindow
public import Idealize.ShloMosaic.Lib.MatmulPlain
public import Idealize.ShloMosaic.Lib.Pipeline.ValueKit.Geometry

@[expose] public section

set_option maxRecDepth 16384

noncomputable section

namespace Cert.Kernel3Ideal.Dense

open Idealize.ShloMosaic Idealize.ShloMosaic.TcCoe
open Idealize.ShloMosaic.ValueIdx
open Idealize.ShloMosaic.Pipeline (Dat)
open Cert.Kernel3Ideal Cert.Kernel3Ideal.Gen
open Cert.Reference2Ideal.Moe (act)
open Cert.Reference3Ideal.Dense (feat part)

/-! ## One point's arithmetic -/

theorem product_apply (s : FVec Ideal S512x2048 .bf16) (w : FVec Ideal S2048x512 .bf16) (p : Fin 512) (t : Fin 512) :
    (matmul dot_S512x2048_S2048x512_S512x512_1_0_0_1_n_n none s w (constant S512x512 .f32 0x00000000#32) (ix2 p t) : EReal)
      = ∑ k : Fin 2048, (s (ix2 p k) : EReal) * w (ix2 k t) := by
  refine (Ideal.matmul_plain_apply (M := 512) (K := 2048) (N := 512) none s w _ p t).trans ?_
  rw [show (constant S512x512 .f32 0x00000000#32 : FVec Ideal S512x512 .f32) (ix2 p t) = (0 : EReal) from
    Cert.StickSpec.ofBits_zero.trans EReal.coe_zero, zero_add]

theorem pay1_apply (y : FVec Ideal S512x2048 .f32) (p : Fin 512) (d : Fin 2048) : (k0_pay1 (F := Ideal) y (ix2 p d) : EReal) = y (ix2 p d) :=
  shapeCast_apply y shapeCasts_S512x2048_S512x2048 (ix2 p d) (ix2 p d) rfl

/-- The carried sum after a point: what it held and the block's features through the last matrix. -/
theorem pay2_apply (y : FVec Ideal S512x2048 .f32) (s : FVec Ideal S512x2048 .bf16) (w1 w2 : FVec Ideal S2048x512 .bf16)
    (w3 : FVec Ideal S512x2048 .bf16) (p : Fin 512) (d : Fin 2048) :
    (k0_pay2 (F := Ideal) y s w1 w2 w3 (ix2 p d) : EReal) = y (ix2 p d) + ∑ t : Fin 512,
      act (fun k => s (ix2 p k)) (fun k => w1 (ix2 k t)) (fun k => w2 (ix2 k t)) * w3 (ix2 t d) := by
  let g : FVec Ideal S512x512 .f32 := matmul dot_S512x2048_S2048x512_S512x512_1_0_0_1_n_n none s w1 (constant S512x512 .f32 0x00000000#32)
  let u : FVec Ideal S512x512 .f32 := matmul dot_S512x2048_S2048x512_S512x512_1_0_0_1_n_n none s w2 (constant S512x512 .f32 0x00000000#32)
  refine (shapeCast_apply (addf y (matmul dot_S512x512_S512x2048_S512x2048_1_0_0_1_n_n none (truncf .bf16 (mulf (mulf g (logistic g)) u) bitsLt_bf16_f32)
    w3 (constant S512x2048 .f32 0x00000000#32)) : FVec Ideal S512x2048 .f32) shapeCasts_S512x2048_S512x2048 (ix2 p d) (ix2 p d) rfl).trans ?_
  refine congrArg (fun v : EReal => (y (ix2 p d) : EReal) + v) ?_
  refine (Ideal.matmul_plain_apply (M := 512) (K := 512) (N := 2048) none _ _ _ p d).trans ?_
  rw [show (constant S512x2048 .f32 0x00000000#32 : FVec Ideal S512x2048 .f32) (ix2 p d) = (0 : EReal) from
    Cert.StickSpec.ofBits_zero.trans EReal.coe_zero, zero_add]
  refine Finset.sum_congr rfl fun t _ => congrArg (fun v : EReal => v * (w3 (ix2 t d) : EReal)) ?_
  show (g (ix2 p t) : EReal) * Ideal.logistic (g (ix2 p t)) * u (ix2 p t) = _
  rw [show (g (ix2 p t) : EReal) = _ from product_apply s w1 p t, show (u (ix2 p t) : EReal) = _ from product_apply s w2 p t]
  rfl

/-! ## What the cases leave -/

section Cases

variable {F : FTy → Type} [FloatOps F]
variable (c : Dev nD) (i : grid0.Coords) (arg2 : Memref sig .tc .vmem S512x2048 .bf16) (harg2 : arg2.IsWhole)
  (arg3 : Memref sig .tc .vmem S2048x512 .bf16) (harg3 : arg3.IsWhole) (arg4 : Memref sig .tc .vmem S2048x512 .bf16) (harg4 : arg4.IsWhole)
  (arg5 : Memref sig .tc .vmem S512x2048 .bf16) (harg5 : arg5.IsWhole) (arg6 : Memref sig .tc .vmem S512x2048 .f32) (harg6 : arg6.IsWhole)
  (arg7 : Memref sig .tc .vmem S512x2048 .f32) (harg7 : arg7.IsWhole) (arg8 : Memref sig .tc .vmem S512x2048 .f32) (harg8 : arg8.IsWhole)
  (x0 : Vec F S512x2048 .bf16) (x1 x2 : Vec F S2048x512 .bf16) (x3 : Vec F S512x2048 .bf16) (x4 xs0 : Vec F S512x2048 .f32)

theorem pay2_congr {a a' : Vec F S512x2048 .f32} {b b' : Vec F S512x2048 .bf16} {p p' q q' : Vec F S2048x512 .bf16} {r r' : Vec F S512x2048 .bf16}
    (ha : a = a') (hb : b = b') (hp : p = p') (hq : q = q') (hr : r = r') : k0_pay2 a b p q r = k0_pay2 a' b' p' q' r' := by
  subst ha hb hp hq hr; rfl

include harg2 harg3 harg4 harg5 harg6 harg7 harg8

theorem first_eq (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = k0_pay2 (k0_pay1 x4) x0 x1 x2 x3 := by
  have e0 := (View.readAt_full arg2.view (harg2.unread x0) inb_S512x2048_S512x2048_0_0).trans (harg2.read_unread x0)
  have e1 := (View.readAt_full arg3.view (harg3.unread x1) inb_S2048x512_S2048x512_0_0).trans (harg3.read_unread x1)
  have e2 := (View.readAt_full arg4.view (harg4.unread x2) inb_S2048x512_S2048x512_0_0).trans (harg4.read_unread x2)
  have e3 := (View.readAt_full arg5.view (harg5.unread x3) inb_S512x2048_S512x2048_0_0).trans (harg5.read_unread x3)
  have e4 := (View.readAt_full arg6.view (harg6.unread x4) inb_S512x2048_S512x2048_0_0).trans (harg6.read_unread x4)
  unfold sout0_A_0 kernelRun0_A
  refine (View.read_writes_full _ _ inb_S512x2048_S512x2048_0_0 _ _).trans ?_
  refine pay2_congr ?_ e0 e1 e2 e3
  exact (View.readCov_full arg8.view inb_S512x2048_S512x2048_0_0 inb_S512x2048_S512x2048_0_0 _ _).trans (congrArg k0_pay1 e4)

theorem middle_eq (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0
      = k0_pay2 xs0 x0 x1 x2 x3 := by
  have e0 := (View.readAt_full arg2.view (harg2.unread x0) inb_S512x2048_S512x2048_0_0).trans (harg2.read_unread x0)
  have e1 := (View.readAt_full arg3.view (harg3.unread x1) inb_S2048x512_S2048x512_0_0).trans (harg3.read_unread x1)
  have e2 := (View.readAt_full arg4.view (harg4.unread x2) inb_S2048x512_S2048x512_0_0).trans (harg4.read_unread x2)
  have e3 := (View.readAt_full arg5.view (harg5.unread x3) inb_S512x2048_S512x2048_0_0).trans (harg5.read_unread x3)
  have e5 := (View.readAt_full arg8.view (harg8.unread xs0) inb_S512x2048_S512x2048_0_0).trans (harg8.read_unread xs0)
  unfold sout0_B_0 kernelRun0_B
  refine (View.read_writes_full _ _ inb_S512x2048_S512x2048_0_0 _ _).trans ?_
  exact pay2_congr e5 e0 e1 e2 e3

theorem last_eq (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0
      = k0_pay2 xs0 x0 x1 x2 x3 := by
  have e0 := (View.readAt_full arg2.view (harg2.unread x0) inb_S512x2048_S512x2048_0_0).trans (harg2.read_unread x0)
  have e1 := (View.readAt_full arg3.view (harg3.unread x1) inb_S2048x512_S2048x512_0_0).trans (harg3.read_unread x1)
  have e2 := (View.readAt_full arg4.view (harg4.unread x2) inb_S2048x512_S2048x512_0_0).trans (harg4.read_unread x2)
  have e3 := (View.readAt_full arg5.view (harg5.unread x3) inb_S512x2048_S512x2048_0_0).trans (harg5.read_unread x3)
  have e5 := (View.readAt_full arg8.view (harg8.unread xs0) inb_S512x2048_S512x2048_0_0).trans (harg8.read_unread xs0)
  unfold out0_C_5 kernelRun0_C
  refine (View.read_writes_full _ _ inb_S512x2048_S512x2048_0_0 _ _).trans ?_
  refine (View.readCov_full arg8.view inb_S512x2048_S512x2048_0_0 inb_S512x2048_S512x2048_0_0 _ _).trans ?_
  exact pay2_congr e5 e0 e1 e2 e3

end Cases

attribute [local irreducible] k0_pay1 k0_pay2 outsAt0 iblk sout0_A_0 sout0_B_0 out0_C_5

section Points

variable {F : FTy → Type} [FloatOps F] (m : (ℓ : Loc nD τ sig) → Buf (Elt F) ℓ) (c : Dev nD) (t : Fin cfg0.N)

theorem first_pt (h0 : t.val % 11 = 0) (h1 : ¬t.val % 11 = 10) : (outsAt0 m c t.val t.isLt).2
    = k0_pay2 (k0_pay1 (iblk m c 4 t)) (iblk m c 0 t) (iblk m c 1 t) (iblk m c 2 t) (iblk m c 3 t) := by
  refine (congrArg Prod.snd (outsAt0_A m c t h0 h1)).trans ?_
  dsimp only
  exact first_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) (fun h => h1 ((hcond0_1 t).mp h))

theorem middle_pt (h0 : ¬t.val % 11 = 0) (h1 : ¬t.val % 11 = 10) : (outsAt0 m c t.val t.isLt).2
    = k0_pay2 (outsAt0 m c (t.val - 1) (Nat.lt_of_le_of_lt (Nat.sub_le _ _) t.isLt)).2 (iblk m c 0 t) (iblk m c 1 t) (iblk m c 2 t) (iblk m c 3 t) := by
  refine (congrArg Prod.snd (outsAt0_B m c t h0 h1)).trans ?_
  dsimp only
  exact middle_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) (fun h => h1 ((hcond0_1 t).mp h))

theorem last_pt (h0 : ¬t.val % 11 = 0) (h1 : t.val % 11 = 10) : (outsAt0 m c t.val t.isLt).1
    = k0_pay2 (outsAt0 m c (t.val - 1) (Nat.lt_of_le_of_lt (Nat.sub_le _ _) t.isLt)).2 (iblk m c 0 t) (iblk m c 1 t) (iblk m c 2 t) (iblk m c 3 t) := by
  refine (congrArg Prod.fst (outsAt0_C m c t h0 h1)).trans ?_
  dsimp only
  exact last_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) ((hcond0_1 t).mpr h1)

/-- What is carried does not depend on how its point is written. -/
theorem carried_congr {n n' : ℕ} (h : n = n') (hn : n < cfg0.N) (hn' : n' < cfg0.N) : (outsAt0 m c n hn).2 = (outsAt0 m c n' hn').2 := by
  subst h; rfl

end Points

/-! ## Where each point's blocks lie -/

variable (m : (ℓ : Loc nD τ sig) → Buf (Elt Ideal) ℓ) (c : Dev nD)

abbrev xs : FVec Ideal S8192x2048 .bf16 := m ((c : Thread nD τ).loc main_arg0)
abbrev hs : FVec Ideal S8192x2048 .f32 := m ((c : Thread nD τ).loc main_arg1)
abbrev wg : FVec Ideal S2048x5632 .bf16 := m ((c : Thread nD τ).loc main_arg2)
abbrev wu : FVec Ideal S2048x5632 .bf16 := m ((c : Thread nD τ).loc main_arg3)
abbrev wd : FVec Ideal S5632x2048 .bf16 := m ((c : Thread nD τ).loc main_arg4)

theorem index0 : ∀ t : Fin cfg0.N, (cfg0.win 0).index t = ![t.val / 11, 0] := (by decide +kernel : ∀ t : Fin grid0.N, cc0_transform_0 (grid0.coords t) = ![t.val / 11, 0])
theorem index1 : ∀ t : Fin cfg0.N, (cfg0.win 1).index t = ![0, t.val % 11] := (by decide +kernel : ∀ t : Fin grid0.N, cc0_transform_1 (grid0.coords t) = ![0, t.val % 11])
theorem index2 : ∀ t : Fin cfg0.N, (cfg0.win 2).index t = ![0, t.val % 11] := (by decide +kernel : ∀ t : Fin grid0.N, cc0_transform_2 (grid0.coords t) = ![0, t.val % 11])
theorem index3 : ∀ t : Fin cfg0.N, (cfg0.win 3).index t = ![t.val % 11, 0] := (by decide +kernel : ∀ t : Fin grid0.N, cc0_transform_3 (grid0.coords t) = ![t.val % 11, 0])
theorem index4 : ∀ t : Fin cfg0.N, (cfg0.win 4).index t = ![t.val / 11, 0] := (by decide +kernel : ∀ t : Fin grid0.N, cc0_transform_4 (grid0.coords t) = ![t.val / 11, 0])
theorem index5 : ∀ t : Fin cfg0.N, (cfg0.win 5).index t = ![t.val / 11, 0] := (by decide +kernel : ∀ t : Fin grid0.N, cc0_transform_5 (grid0.coords t) = ![t.val / 11, 0])

/-- Point `j` of row block `b`. -/
abbrev pt (b : Fin 16) (j : Fin 11) : Fin cfg0.N := ⟨11 * b.val + j.val, lt_of_lt_of_eq (by omega) (show 176 = cfg0.N from N_0.symm)⟩

section Point

variable (b : Fin 16) (j : Fin 11)

theorem block0 (p : Fin 512) (k : Fin 2048) : (iblk m c 0 (pt b j) : FVec Ideal S512x2048 .bf16) (ix2 p k)
    = xs m c (ix2 ⟨512 * b.val + p.val, by omega⟩ k) := by
  have hi := index0 (pt b j)
  blk_simp [iblk]
  refine congrArg (xs m c) ?_
  funext a; apply Fin.ext
  match a with
  | ⟨0, _⟩ => blk_simp [hi]; show (11 * b.val + j.val) / 11 * 512 + p.val = 512 * b.val + p.val; omega
  | ⟨1, _⟩ => blk_simp [hi]

theorem block1 (k : Fin 2048) (f : Fin 512) : (iblk m c 1 (pt b j) : FVec Ideal S2048x512 .bf16) (ix2 k f)
    = wg m c (ix2 k ⟨512 * j.val + f.val, by omega⟩) := by
  have hi := index1 (pt b j)
  blk_simp [iblk]
  refine congrArg (wg m c) ?_
  funext a; apply Fin.ext
  match a with
  | ⟨0, _⟩ => blk_simp [hi]
  | ⟨1, _⟩ => blk_simp [hi]; show (11 * b.val + j.val) % 11 * 512 + f.val = 512 * j.val + f.val; omega

theorem block2 (k : Fin 2048) (f : Fin 512) : (iblk m c 2 (pt b j) : FVec Ideal S2048x512 .bf16) (ix2 k f)
    = wu m c (ix2 k ⟨512 * j.val + f.val, by omega⟩) := by
  have hi := index2 (pt b j)
  blk_simp [iblk]
  refine congrArg (wu m c) ?_
  funext a; apply Fin.ext
  match a with
  | ⟨0, _⟩ => blk_simp [hi]
  | ⟨1, _⟩ => blk_simp [hi]; show (11 * b.val + j.val) % 11 * 512 + f.val = 512 * j.val + f.val; omega

theorem block3 (f : Fin 512) (d : Fin 2048) : (iblk m c 3 (pt b j) : FVec Ideal S512x2048 .bf16) (ix2 f d)
    = wd m c (ix2 ⟨512 * j.val + f.val, by omega⟩ d) := by
  have hi := index3 (pt b j)
  blk_simp [iblk]
  refine congrArg (wd m c) ?_
  funext a; apply Fin.ext
  match a with
  | ⟨0, _⟩ => blk_simp [hi]; show (11 * b.val + j.val) % 11 * 512 + f.val = 512 * j.val + f.val; omega
  | ⟨1, _⟩ => blk_simp [hi]

theorem block4 (p : Fin 512) (d : Fin 2048) : (iblk m c 4 (pt b j) : FVec Ideal S512x2048 .f32) (ix2 p d)
    = hs m c (ix2 ⟨512 * b.val + p.val, by omega⟩ d) := by
  have hi := index4 (pt b j)
  blk_simp [iblk]
  refine congrArg (hs m c) ?_
  funext a; apply Fin.ext
  match a with
  | ⟨0, _⟩ => blk_simp [hi]; show (11 * b.val + j.val) / 11 * 512 + p.val = 512 * b.val + p.val; omega
  | ⟨1, _⟩ => blk_simp [hi]

end Point

/-! ## What the points of a row block leave -/

/-- The sum at row `p`, column `d` of row block `b` over the first `n` features. -/
def sumTo (b : Fin 16) (p : Fin 512) (d : Fin 2048) (n : ℕ) : EReal :=
  hs m c (ix2 ⟨512 * b.val + p.val, by omega⟩ d)
    + ∑ f ∈ Finset.range n, part (xs m c) (wg m c) (wu m c) (wd m c) ⟨512 * b.val + p.val, by omega⟩ d f

/-- One point: its block's features join the sum. -/
theorem point_sum (b : Fin 16) (j : Fin 11) (y : FVec Ideal S512x2048 .f32)
    (hy : ∀ (p : Fin 512) (d : Fin 2048), (y (ix2 p d) : EReal) = sumTo m c b p d (512 * j.val)) (p : Fin 512) (d : Fin 2048) :
    (k0_pay2 (F := Ideal) y (iblk m c 0 (pt b j)) (iblk m c 1 (pt b j)) (iblk m c 2 (pt b j)) (iblk m c 3 (pt b j)) (ix2 p d) : EReal)
      = sumTo m c b p d (512 * (j.val + 1)) := by
  refine (pay2_apply _ _ _ _ _ p d).trans ?_
  rw [hy]
  unfold sumTo
  rw [Nat.mul_add, Nat.mul_one, Finset.sum_range_add, ← add_assoc,
    ← Fin.sum_univ_eq_sum_range (fun f => part (xs m c) (wg m c) (wu m c) (wd m c) ⟨512 * b.val + p.val, by omega⟩ d (512 * j.val + f))]
  refine congrArg₂ (fun u v : EReal => u + v) rfl (Finset.sum_congr rfl fun f _ => ?_)
  unfold part
  rw [dif_pos (show 512 * j.val + f.val < 5632 by omega)]
  refine congrArg₂ (fun v v' : EReal => v * v') ?_ (block3 m c b j f d)
  unfold feat
  rw [show (fun k => ((iblk m c 0 (pt b j) : FVec Ideal S512x2048 .bf16) (ix2 p k) : EReal)) = _ from funext fun k => block0 m c b j p k,
    show (fun k => ((iblk m c 1 (pt b j) : FVec Ideal S2048x512 .bf16) (ix2 k f) : EReal)) = _ from funext fun k => block1 m c b j k f,
    show (fun k => ((iblk m c 2 (pt b j) : FVec Ideal S2048x512 .bf16) (ix2 k f) : EReal)) = _ from funext fun k => block2 m c b j k f]

/-- The carried sum after a row block's points before its last. -/
theorem carried (b : Fin 16) : ∀ (j : ℕ) (hj : j < 10) (p : Fin 512) (d : Fin 2048),
    ((outsAt0 m c (pt b ⟨j, by omega⟩).val (pt b ⟨j, by omega⟩).isLt).2 (ix2 p d) : EReal) = sumTo m c b p d (512 * (j + 1)) := by
  intro j
  induction j with
  | zero =>
    intro hj p d
    have h0 : (pt b ⟨0, by omega⟩).val % 11 = 0 := by show (11 * b.val + 0) % 11 = 0; omega
    rw [first_pt m c (pt b ⟨0, by omega⟩) h0 (by omega)]
    refine point_sum m c b ⟨0, by omega⟩ _ (fun p d => ?_) p d
    refine (pay1_apply _ p d).trans ((block4 m c b ⟨0, by omega⟩ p d).trans ?_)
    unfold sumTo
    rw [show 512 * (⟨0, by omega⟩ : Fin 11).val = 0 from rfl, Finset.sum_range_zero, add_zero]
  | succ j ih =>
    intro hj p d
    have e : (pt b ⟨j + 1, by omega⟩).val - 1 = (pt b ⟨j, by omega⟩).val := by show 11 * b.val + (j + 1) - 1 = 11 * b.val + j; omega
    have h0 : ¬(pt b ⟨j + 1, by omega⟩).val % 11 = 0 := by show ¬(11 * b.val + (j + 1)) % 11 = 0; omega
    have h1 : ¬(pt b ⟨j + 1, by omega⟩).val % 11 = 10 := by show ¬(11 * b.val + (j + 1)) % 11 = 10; omega
    rw [middle_pt m c (pt b ⟨j + 1, by omega⟩) h0 h1, carried_congr m c e _ (pt b ⟨j, by omega⟩).isLt]
    exact point_sum m c b ⟨j + 1, by omega⟩ _ (fun p d => ih (by omega) p d) p d

/-- What a row block's last point hands to the result. -/
theorem handed (b : Fin 16) (p : Fin 512) (d : Fin 2048) :
    ((outsAt0 m c (pt b ⟨10, by omega⟩).val (pt b ⟨10, by omega⟩).isLt).1 (ix2 p d) : EReal) = Cert.Reference3Ideal.Read.val_main_v9 (F := Ideal)
      (xs m c) (hs m c) (wg m c) (wu m c) (wd m c) (ix2 ⟨512 * b.val + p.val, by omega⟩ d) := by
  have e : (pt b ⟨10, by omega⟩).val - 1 = (pt b ⟨9, by omega⟩).val := by show 11 * b.val + 10 - 1 = 11 * b.val + 9; omega
  have h1 : (pt b ⟨10, by omega⟩).val % 11 = 10 := by show (11 * b.val + 10) % 11 = 10; omega
  rw [last_pt m c (pt b ⟨10, by omega⟩) (by omega) h1, carried_congr m c e _ (pt b ⟨9, by omega⟩).isLt]
  refine (point_sum m c b ⟨10, by omega⟩ _ (fun p d => carried m c b 9 (by omega) p d) p d).trans ?_
  exact (Cert.Reference3Ideal.Dense.v9_eq (xs m c) (hs m c) (wg m c) (wu m c) (wd m c) ⟨512 * b.val + p.val, by omega⟩ d).symm

/-! ## The result -/

/-- The row blocks' last points write every block of the result. -/
theorem covers5 : (cfg0.win 5).Covers := by
  refine ⟨fun a => ?_, fun β => ?_⟩
  · match a with
    | ⟨0, _⟩ => exact (by decide : 0 < 512)
    | ⟨1, _⟩ => exact (by decide : 0 < 2048)
  have h0 : (β ⟨0, Nat.two_pos⟩).val < (8192 + 512 - 1) / 512 := (β ⟨0, Nat.two_pos⟩).isLt
  have h1 : (β ⟨1, Nat.one_lt_two⟩).val < (2048 + 2048 - 1) / 2048 := (β ⟨1, Nat.one_lt_two⟩).isLt
  have hn : 11 * (β ⟨0, Nat.two_pos⟩).val + 10 < cfg0.N := lt_of_lt_of_eq (by omega) (show 176 = cfg0.N from N_0.symm)
  refine ⟨⟨11 * (β ⟨0, Nat.two_pos⟩).val + 10, hn⟩, ?_, fun a => ⟨?_, .inl rfl⟩⟩
  · exact (flush0_5 _).2 (by show (11 * (β ⟨0, Nat.two_pos⟩).val + 10) % 11 = 10; omega)
  · rw [index5]
    match a with
    | ⟨0, _⟩ => show (11 * (β ⟨0, Nat.two_pos⟩).val + 10) / 11 = (β ⟨0, Nat.two_pos⟩).val; omega
    | ⟨1, _⟩ => show 0 = (β ⟨1, Nat.one_lt_two⟩).val; omega

theorem final5 : (dats m 0 c).arrAt 5 cfg0.N
    = Cert.Reference3Ideal.Read.val_main_v9 (F := Ideal) (xs m c) (hs m c) (wg m c) (wu m c) (wd m c) := by
  refine (dats m 0 c).arrAt_eq_of_covers (5 : Fin 6) _ covers5 fun t hf y => ?_
  have hm := (flush0_5 t).1 hf
  have ht : t.val < 176 := lt_of_lt_of_eq t.isLt (show cfg0.N = 176 from N_0)
  have hi := index5 t
  blk_simp
  rw [after0_5]
  have hb : t.val / 11 < 16 := by omega
  have h0 : (y 0).val < 512 := (y 0).isLt
  have h1 : (y 1).val < 2048 := (y 1).isLt
  have ey : y = ix2 (⟨(y 0).val, h0⟩ : Fin 512) (⟨(y 1).val, h1⟩ : Fin 2048) := by
    funext a
    match a with
    | ⟨0, _⟩ => rfl
    | ⟨1, _⟩ => rfl
  have et : t = pt ⟨t.val / 11, hb⟩ ⟨10, by omega⟩ := Fin.ext (by show t.val = 11 * (t.val / 11) + 10; omega)
  refine Eq.trans (b := (outsAt0 m c (pt ⟨t.val / 11, hb⟩ ⟨10, by omega⟩).val (pt ⟨t.val / 11, hb⟩ ⟨10, by omega⟩).isLt).1
    (ix2 (⟨(y 0).val, h0⟩ : Fin 512) (⟨(y 1).val, h1⟩ : Fin 2048))) ?_ ?_
  · exact congr (congrArg (fun s : Fin cfg0.N => (outsAt0 m c s.val s.isLt).1) et) ey
  refine (handed m c ⟨t.val / 11, hb⟩ _ _).trans ?_
  refine congrArg (Cert.Reference3Ideal.Read.val_main_v9 (F := Ideal) (xs m c) (hs m c) (wg m c) (wu m c) (wd m c)) ?_
  funext a; apply Fin.ext
  match a with
  | ⟨0, _⟩ => blk_simp [hi]; show 512 * (t.val / 11) + (y 0).val = t.val / 11 * 512 + (y 0).val; omega
  | ⟨1, _⟩ => blk_simp [hi]; rfl

end Cert.Kernel3Ideal.Dense

end
-- ==== Proof.ProjSpec.lean ====
/- The projections' mathematics: rows laid side by side and a row divided by the root of its mean square. -/
module

public import proofs.«01_k».proof.Proof.StickSpec
public import Idealize.ShloMosaic.Lib.Pipeline.Value
public import Idealize.ShloMosaic.Lib.ValueIdx

@[expose] public section

set_option maxRecDepth 16384

noncomputable section

namespace Cert.ProjSpec

open Idealize.ShloMosaic Idealize.ShloMosaic.TcCoe
open Idealize.ShloMosaic.ValueIdx

/-- The three groups of heads side by side. -/
def joined (a : Fin 768 → EReal) (b d : Fin 640 → EReal) (k : Fin 2048) : EReal :=
  if h : k.val < 768 then a ⟨k.val, h⟩
  else if h' : k.val < 1408 then b ⟨k.val - 768, by omega⟩
  else d ⟨k.val - 1408, by omega⟩

theorem joined_apply {R : ℕ} (x0 : (⟨2, ![R, 768]⟩ : Shape).Idx → EReal) (x1 x2 : (⟨2, ![R, 640]⟩ : Shape).Idx → EReal)
    (h : Shape.Concatenates [⟨2, ![R, 768]⟩, ⟨2, ![R, 640]⟩, ⟨2, ![R, 640]⟩] (⟨2, ![R, 2048]⟩ : Shape) 1) (p : Fin R) (k : Fin 2048) :
    concatenate (⟨2, ![R, 2048]⟩ : Shape) 1 [⟨⟨2, ![R, 768]⟩, x0⟩, ⟨⟨2, ![R, 640]⟩, x1⟩, ⟨⟨2, ![R, 640]⟩, x2⟩] h (ix2 p k)
      = joined (fun e => x0 (ix2 p e)) (fun e => x1 (ix2 p e)) (fun e => x2 (ix2 p e)) k := by
  unfold joined
  split
  · rename_i hk
    exact concatenate_apply_piece (α := EReal) (t := ⟨2, ![R, 2048]⟩) (1 : Fin 2) [⟨⟨2, ![R, 768]⟩, x0⟩, ⟨⟨2, ![R, 640]⟩, x1⟩, ⟨⟨2, ![R, 640]⟩, x2⟩] h (ix2 p k) 0 (by simp) ⟨2, ![R, 768]⟩ x0 rfl rfl 0 rfl (ix2 p ⟨k.val, hk⟩)
      (fun b => match b with
        | ⟨0, _⟩ => fun _ => rfl
        | ⟨1, _⟩ => fun hb => absurd rfl hb)
      (by show 0 + k.val = k.val; omega)
  · split
    · exact concatenate_apply_piece (α := EReal) (t := ⟨2, ![R, 2048]⟩) (1 : Fin 2) [⟨⟨2, ![R, 768]⟩, x0⟩, ⟨⟨2, ![R, 640]⟩, x1⟩, ⟨⟨2, ![R, 640]⟩, x2⟩] h (ix2 p k) 1 (by simp) ⟨2, ![R, 640]⟩ x1 rfl rfl 768 rfl (ix2 p ⟨k.val - 768, by omega⟩)
        (fun b => match b with
          | ⟨0, _⟩ => fun _ => rfl
          | ⟨1, _⟩ => fun hb => absurd rfl hb)
        (by show 768 + (k.val - 768) = k.val; omega)
    · exact concatenate_apply_piece (α := EReal) (t := ⟨2, ![R, 2048]⟩) (1 : Fin 2) [⟨⟨2, ![R, 768]⟩, x0⟩, ⟨⟨2, ![R, 640]⟩, x1⟩, ⟨⟨2, ![R, 640]⟩, x2⟩] h (ix2 p k) 2 (by simp) ⟨2, ![R, 640]⟩ x2 rfl rfl 1408 rfl (ix2 p ⟨k.val - 1408, by omega⟩)
        (fun b => match b with
          | ⟨0, _⟩ => fun _ => rfl
          | ⟨1, _⟩ => fun hb => absurd rfl hb)
        (by show 1408 + (k.val - 1408) = k.val; omega)

/-- What a row is multiplied by: one over the root of its mean square, `n` being the row's length as the programs write it. -/
def root {w : ℕ} (n : BitVec 32) (a : Fin w → EReal) : EReal :=
  Ideal.rsqrt (Ideal.div (∑ e : Fin w, a e * a e) (Ideal.ofBits .f32 n) + Ideal.ofBits .f32 0x358637BD#32)

/-- A row of the stream after the attention: the old row and the heads through the output matrix. -/
def stream (a : Fin 768 → EReal) (b d : Fin 640 → EReal) (h : EReal) (w : Fin 2048 → EReal) : EReal :=
  h + ∑ k : Fin 2048, joined a b d k * w k

end Cert.ProjSpec

end
-- ==== Proof.OprojRef.lean ====
/- The output projection's reference at exact values, one element at a time. -/
module

public import proofs.«01_k».proof.Proof.Gen.Reference4Ideal.Read
public import proofs.«01_k».proof.Proof.ProjSpec

@[expose] public section

set_option maxRecDepth 16384

noncomputable section

namespace Cert.Reference4Ideal.Oproj

open Idealize.ShloMosaic Idealize.ShloMosaic.TcCoe
open Idealize.ShloMosaic.ValueIdx
open Cert.Reference4Ideal Cert.Reference4Ideal.Gen Cert.Reference4Ideal.Read
open Cert.ProjSpec

variable (x0 : FVec Ideal S8192x768 .bf16) (x1 x2 : FVec Ideal S8192x640 .bf16) (x3 : FVec Ideal S2x2048x2048 .bf16)
  (x4 : FVec Ideal S8192x2048 .f32) (x5 : FVec Ideal S2048 .f32)

/-- Row `R` of the stream after the attention. -/
def rowOf (R : Fin 8192) (D : Fin 2048) : EReal :=
  stream (fun e => x0 (ix2 R e)) (fun e => x1 (ix2 R e)) (fun e => x2 (ix2 R e)) (x4 (ix2 R D)) (fun k => x3 (ix3 0 k D))

theorem v4_eq (k D : Fin 2048) : (val_main_v4 (F := Ideal) x3 (ix2 k D) : EReal) = x3 (ix3 0 k D) := by
  refine (show _ = (val_main_v3 (F := Ideal) x3 (ix2 k D) : EReal) from rfl).trans ?_
  rw [val_main_v3_apply, val_main_v2_apply]
  refine congrArg x3 (funext fun a => Fin.ext ?_)
  have hk := k.isLt; have hD := D.isLt
  match a with
  | ⟨0, _⟩ => rfl
  | ⟨1, _⟩ => show (k.val * 2048 + D.val) / 2048 % 2048 = k.val; omega
  | ⟨2, _⟩ => show (k.val * 2048 + D.val) % 2048 = D.val; omega

theorem v1_eq (R : Fin 8192) (k : Fin 2048) : (val_main_v1 (F := Ideal) x0 x1 x2 (ix2 R k) : EReal)
    = joined (fun e => x0 (ix2 R e)) (fun e => x1 (ix2 R e)) (fun e => x2 (ix2 R e)) k :=
  joined_apply (R := 8192) x0 x1 x2 concatenates_S8192x768_S8192x640_S8192x640_S8192x2048_d1 R k

theorem v6_eq (R : Fin 8192) (D : Fin 2048) : (val_main_v6 (F := Ideal) x0 x1 x2 x3 x4 (ix2 R D) : EReal) = rowOf x0 x1 x2 x3 x4 R D := by
  refine (show _ = (x4 (ix2 R D) : EReal) + (val_main_v5 (F := Ideal) x0 x1 x2 x3 (ix2 R D) : EReal) from rfl).trans ?_
  unfold rowOf stream
  refine congrArg₂ (fun u v : EReal => u + v) rfl ?_
  rw [val_main_v5_apply]
  refine Finset.sum_congr rfl fun k _ => congrArg₂ (fun u v : EReal => u * v) ?_ ?_
  · refine (congrArg (val_main_v1 (F := Ideal) x0 x1 x2) (show _ = ix2 R k from ?_)).trans (v1_eq x0 x1 x2 R k)
    funext a
    match a with
    | ⟨0, _⟩ => rfl
    | ⟨1, _⟩ => rfl
  · refine (congrArg (val_main_v4 (F := Ideal) x3) (show _ = ix2 k D from ?_)).trans (v4_eq x3 k D)
    funext a
    match a with
    | ⟨0, _⟩ => rfl
    | ⟨1, _⟩ => rfl

theorem v20_eq (R : Fin 8192) (D : Fin 2048) : (val_main_v20 (F := Ideal) x0 x1 x2 x3 x4 x5 (ix2 R D) : EReal)
    = rowOf x0 x1 x2 x3 x4 R D * root 0x45000000#32 (rowOf x0 x1 x2 x3 x4 R) * x5 (ix1 D) := by
  have e8 : ∀ j, j = ix1 R → (val_main_v8 (F := Ideal) x0 x1 x2 x3 x4 j : EReal)
      = ∑ e : Fin 2048, rowOf x0 x1 x2 x3 x4 R e * rowOf x0 x1 x2 x3 x4 R e := by
    rintro _ rfl
    rw [val_main_v8_apply]
    refine (congrArg (· + _) (show (val_main_cst (F := Ideal) (Shape.Idx.first h_S_) : EReal) = 0 from Cert.StickSpec.ofBits_zero)).trans ?_
    rw [zero_add]
    refine Finset.sum_congr rfl fun e _ => ?_
    have ei : idx_main_v8 (ix1 R) e = ix2 R e := by
      funext a; apply Fin.ext
      match a with
      | ⟨0, _⟩ => rfl
      | ⟨1, _⟩ => rfl
    rw [ei]
    exact congrArg₂ (fun u v : EReal => u * v) (v6_eq x0 x1 x2 x3 x4 R e) (v6_eq x0 x1 x2 x3 x4 R e)
  have e15 : (val_main_v15 (F := Ideal) x0 x1 x2 x3 x4 (ix2 R D) : EReal) = root 0x45000000#32 (rowOf x0 x1 x2 x3 x4 R) := by
    rw [val_main_v15_apply, val_main_v14_apply, val_main_v13_apply, val_main_v11_apply, val_main_v9_apply, val_main_v10_apply, val_main_v12_apply,
      e8 _ (by
        funext a; apply Fin.ext
        match a with
        | ⟨0, _⟩ => rfl)]
    rfl
  have e18 : (val_main_v18 (F := Ideal) x5 (ix2 R D) : EReal) = x5 (ix1 D) := by
    rw [val_main_v18_apply, val_main_v17_apply]
    refine congrArg x5 (funext fun a => Fin.ext ?_)
    match a with
    | ⟨0, _⟩ => rfl
  refine (show _ = (val_main_v6 (F := Ideal) x0 x1 x2 x3 x4 (ix2 R D) : EReal)
    * (val_main_v15 (F := Ideal) x0 x1 x2 x3 x4 (ix2 R D) : EReal) * (val_main_v18 (F := Ideal) x5 (ix2 R D) : EReal) from rfl).trans ?_
  rw [e15, e18, v6_eq]

end Cert.Reference4Ideal.Oproj

end
-- ==== Proof.ProjOut.lean ====
/- The output projection's results at exact values: one point's arithmetic, the blocks it is given, and the whole results,
   which are the reference's. -/
module

public import proofs.«01_k».proof.Proof.Gen.Kernel4Ideal.Value
public import proofs.«01_k».proof.Proof.OprojRef
public import Idealize.ShloMosaic.Lib.VecWindow
public import Idealize.ShloMosaic.Lib.MatmulPlain
public import Idealize.ShloMosaic.Lib.Pipeline.ValueKit.Geometry

@[expose] public section

set_option maxRecDepth 16384

noncomputable section

namespace Cert.Kernel4Ideal.Oproj

open Idealize.ShloMosaic Idealize.ShloMosaic.TcCoe
open Idealize.ShloMosaic.ValueIdx
open Idealize.ShloMosaic.Pipeline (Dat)
open Idealize.ShloMosaic.StableHlo
open Cert.Kernel4Ideal Cert.Kernel4Ideal.Gen
open Cert.ProjSpec
open Cert.Reference4Ideal.Oproj (rowOf)

/-! ## One point's arithmetic -/

section Arithmetic

variable (a : FVec Ideal S512x768 .bf16) (b d : FVec Ideal S512x640 .bf16) (h : FVec Ideal S512x2048 .f32) (w : FVec Ideal S1x2048x2048 .bf16)

theorem pay1_apply (p : Fin 512) (D : Fin 2048) : (k0_pay1 (F := Ideal) a b d h w (ix2 p D) : EReal)
    = stream (fun e => a (ix2 p e)) (fun e => b (ix2 p e)) (fun e => d (ix2 p e)) (h (ix2 p D)) (fun k => w (ix3 0 k D)) := by
  unfold stream
  refine congrArg₂ (fun u v : EReal => u + v) rfl ?_
  refine (Ideal.matmul_plain_apply (M := 512) (K := 2048) (N := 2048) none _ _ _ p D).trans ?_
  rw [show (constant S512x2048 .f32 0x00000000#32 : FVec Ideal S512x2048 .f32) (ix2 p D) = (0 : EReal) from
    Cert.StickSpec.ofBits_zero.trans EReal.coe_zero, zero_add]
  refine Finset.sum_congr rfl fun k _ => congrArg₂ (fun u v : EReal => u * v) ?_ ?_
  · exact joined_apply (R := 512) a b d concatenates_S512x768_S512x640_S512x640_S512x2048_d1 p k
  · exact shapeCast_apply w shapeCasts_S1x2048x2048_S2048x2048 (ix2 k D) (ix3 0 k D) (by
      rw [Shape.rowMajor_val_three, Shape.rowMajor_val_two]
      show (0 * 2048 + k.val) * 2048 + D.val = k.val * 2048 + D.val; omega)

theorem pay2_apply (g : FVec Ideal S1x2048 .f32) (p : Fin 512) (D : Fin 2048) : (k0_pay2 (F := Ideal) a b d h w g (ix2 p D) : EReal)
    = k0_pay1 (F := Ideal) a b d h w (ix2 p D) * root 0x45000000#32 (fun e => k0_pay1 (F := Ideal) a b d h w (ix2 p e)) * g (ix2 0 D) := by
  let v : FVec Ideal S512x2048 .f32 := k0_pay1 (F := Ideal) a b d h w
  have hs : (shapeCast S512x1 (multiReduction .add [1] S512 (mulf v v) 0x00000000#32 reduces_S512x2048_S512 (.inl rfl) rfl)
      shapeCasts_S512_S512x1 (ix2 p 0) : EReal) = ∑ e : Fin 2048, (v (ix2 p e) : EReal) * v (ix2 p e) := by
    refine (shapeCast_apply _ _ _ (ix1 p) (by
      rw [Shape.rowMajor_val_one, Shape.rowMajor_val_two]; show p.val = p.val * 1 + 0; omega)).trans ?_
    refine (Ideal.multiReduction_add_single _ _ reduces_S512x2048_S512 _ _ (ix1 p)).trans ?_
    refine Finset.sum_congr rfl fun t _ => congrArg (fun i => (v i * v i : EReal)) ?_
    funext a; apply Fin.ext
    fin_cases a <;> rfl
  have hb1 : ∀ u : FVec Ideal S512x1 .f32, broadcastTo S512x2048 u broadcasts_S512x1_S512x2048 (ix2 p D) = u (ix2 p 0) :=
    fun u => broadcastTo_apply _ _ _ _ fun a => by fin_cases a <;> rfl
  have hb2 : ∀ u : FVec Ideal S1x2048 .f32, broadcastTo S512x2048 u broadcasts_S1x2048_S512x2048 (ix2 p D) = u (ix2 0 D) :=
    fun u => broadcastTo_apply _ _ _ _ fun a => by fin_cases a <;> rfl
  have e : (k0_pay2 (F := Ideal) a b d h w g (ix2 p D) : EReal) = (v (ix2 p D) : EReal)
      * (broadcastTo S512x2048 (rsqrt (addf (divf (shapeCast S512x1 (multiReduction .add [1] S512 (mulf v v) 0x00000000#32
          reduces_S512x2048_S512 (.inl rfl) rfl) shapeCasts_S512_S512x1) (broadcast S512x1 (Scalar.ofBits .f32 0x45000000#32)))
          (broadcast S512x1 (Scalar.ofBits .f32 0x358637BD#32)))) broadcasts_S512x1_S512x2048 (ix2 p D) : EReal)
      * (broadcastTo S512x2048 (shapeCast S1x2048 g shapeCasts_S1x2048_S1x2048) broadcasts_S1x2048_S512x2048 (ix2 p D) : EReal) := rfl
  rw [e, hb1, hb2, show (shapeCast S1x2048 g shapeCasts_S1x2048_S1x2048 (ix2 0 D) : EReal) = g (ix2 0 D) from
    shapeCast_apply g shapeCasts_S1x2048_S1x2048 (ix2 0 D) (ix2 0 D) rfl]
  unfold root
  rw [← hs]
  rfl

end Arithmetic

/-! ## What a point leaves -/

section Leaves

variable {F : FTy → Type} [FloatOps F] (x0 : Vec F S512x768 .bf16) (x1 x2 : Vec F S512x640 .bf16) (x3 : Vec F S1x2048x2048 .bf16)
  (x4 : Vec F S512x2048 .f32) (x5 : Vec F S1x2048 .f32)

theorem zero2 : ∀ a : Fin 2, (![0, 0] : Fin 2 → ℕ) a = 0 := by decide
theorem zero3 : ∀ a : Fin 3, (![0, 0, 0] : Fin 3 → ℕ) a = 0 := by decide

theorem pay1_congr {a a' : Vec F S512x768 .bf16} {b b' d d' : Vec F S512x640 .bf16} {h h' : Vec F S512x2048 .f32} {w w' : Vec F S1x2048x2048 .bf16}
    (ha : a = a') (hb : b = b') (hd : d = d') (hh : h = h') (hw : w = w') : k0_pay1 a b d h w = k0_pay1 a' b' d' h' w' := by
  subst ha hb hd hh hw; rfl

theorem pay2_congr {a a' : Vec F S512x768 .bf16} {b b' d d' : Vec F S512x640 .bf16} {h h' : Vec F S512x2048 .f32} {w w' : Vec F S1x2048x2048 .bf16}
    {g g' : Vec F S1x2048 .f32} (ha : a = a') (hb : b = b') (hd : d = d') (hh : h = h') (hw : w = w') (hg : g = g') :
    k0_pay2 a b d h w g = k0_pay2 a' b' d' h' w' g' := by
  subst ha hb hd hh hw hg; rfl

theorem out6_eq : out0_6 x0 x1 x2 x3 x4 x5 = k0_pay1 x0 x1 x2 x4 x3 := by
  unfold out0_6
  refine (View.canon_cons_unit_lit _ _ _ zero2).trans ?_
  exact pay1_congr (View.ld_unit_lit _ _ zero2) (View.ld_unit_lit _ _ zero2) (View.ld_unit_lit _ _ zero2) (View.ld_unit_lit _ _ zero2) (View.ld_unit_lit _ _ zero3)

theorem out7_eq : out0_7 x0 x1 x2 x3 x4 x5 = k0_pay2 x0 x1 x2 x4 x3 x5 := by
  unfold out0_7
  refine (View.canon_cons_unit_lit _ _ _ zero2).trans ?_
  exact pay2_congr (View.ld_unit_lit _ _ zero2) (View.ld_unit_lit _ _ zero2) (View.ld_unit_lit _ _ zero2) (View.ld_unit_lit _ _ zero2) (View.ld_unit_lit _ _ zero3)
    (View.ld_unit_lit _ _ zero2)

end Leaves

attribute [local irreducible] k0_pay1 k0_pay2 iblk out0_6 out0_7

/-! ## Where each point's blocks lie -/

variable (m : (ℓ : Loc nD τ sig) → Buf (Elt Ideal) ℓ) (c : Dev nD)

abbrev oa : FVec Ideal S8192x768 .bf16 := m ((c : Thread nD τ).loc main_arg0)
abbrev ob : FVec Ideal S8192x640 .bf16 := m ((c : Thread nD τ).loc main_arg1)
abbrev oc : FVec Ideal S8192x640 .bf16 := m ((c : Thread nD τ).loc main_arg2)
abbrev wo : FVec Ideal S2x2048x2048 .bf16 := m ((c : Thread nD τ).loc main_arg3)
abbrev hs : FVec Ideal S8192x2048 .f32 := m ((c : Thread nD τ).loc main_arg4)
abbrev gs : FVec Ideal S2048 .f32 := m ((c : Thread nD τ).loc main_arg5)

theorem index0 : ∀ t : Fin cfg0.N, (cfg0.win 0).index t = ![t.val, 0] := (by decide +kernel : ∀ t : Fin grid0.N, cc0_transform_0 (grid0.coords t) = ![t.val, 0])
theorem index1 : ∀ t : Fin cfg0.N, (cfg0.win 1).index t = ![t.val, 0] := (by decide +kernel : ∀ t : Fin grid0.N, cc0_transform_1 (grid0.coords t) = ![t.val, 0])
theorem index2 : ∀ t : Fin cfg0.N, (cfg0.win 2).index t = ![t.val, 0] := (by decide +kernel : ∀ t : Fin grid0.N, cc0_transform_2 (grid0.coords t) = ![t.val, 0])
theorem index3 : ∀ t : Fin cfg0.N, (cfg0.win 3).index t = ![0, 0, 0] := (by decide +kernel : ∀ t : Fin grid0.N, cc0_transform_3 (grid0.coords t) = ![0, 0, 0])
theorem index4 : ∀ t : Fin cfg0.N, (cfg0.win 4).index t = ![t.val, 0] := (by decide +kernel : ∀ t : Fin grid0.N, cc0_transform_4 (grid0.coords t) = ![t.val, 0])
theorem index5 : ∀ t : Fin cfg0.N, (cfg0.win 5).index t = ![0, 0] := (by decide +kernel : ∀ t : Fin grid0.N, cc0_transform_5 (grid0.coords t) = ![0, 0])
theorem index6 : ∀ t : Fin cfg0.N, (cfg0.win 6).index t = ![t.val, 0] := (by decide +kernel : ∀ t : Fin grid0.N, cc0_transform_6 (grid0.coords t) = ![t.val, 0])
theorem index7 : ∀ t : Fin cfg0.N, (cfg0.win 7).index t = ![t.val, 0] := (by decide +kernel : ∀ t : Fin grid0.N, cc0_transform_7 (grid0.coords t) = ![t.val, 0])

theorem lt16 (t : Fin cfg0.N) : t.val < 16 := lt_of_lt_of_eq t.isLt (show cfg0.N = 16 from N_0)

/-- Row `p` of point `t`. -/
abbrev row (t : Fin cfg0.N) (p : Fin 512) : Fin 8192 := ⟨512 * t.val + p.val, by have := lt16 t; omega⟩

section Point

variable (t : Fin cfg0.N) (p : Fin 512)

theorem block0 (k : Fin 768) : (iblk m c 0 t : FVec Ideal S512x768 .bf16) (ix2 p k) = oa m c (ix2 (row t p) k) := by
  have hi := index0 t
  blk_simp [iblk]
  refine congrArg (oa m c) ?_
  funext a; apply Fin.ext
  match a with
  | ⟨0, _⟩ => blk_simp [hi]; show t.val * 512 + p.val = 512 * t.val + p.val; omega
  | ⟨1, _⟩ => blk_simp [hi]

theorem block1 (k : Fin 640) : (iblk m c 1 t : FVec Ideal S512x640 .bf16) (ix2 p k) = ob m c (ix2 (row t p) k) := by
  have hi := index1 t
  blk_simp [iblk]
  refine congrArg (ob m c) ?_
  funext a; apply Fin.ext
  match a with
  | ⟨0, _⟩ => blk_simp [hi]; show t.val * 512 + p.val = 512 * t.val + p.val; omega
  | ⟨1, _⟩ => blk_simp [hi]

theorem block2 (k : Fin 640) : (iblk m c 2 t : FVec Ideal S512x640 .bf16) (ix2 p k) = oc m c (ix2 (row t p) k) := by
  have hi := index2 t
  blk_simp [iblk]
  refine congrArg (oc m c) ?_
  funext a; apply Fin.ext
  match a with
  | ⟨0, _⟩ => blk_simp [hi]; show t.val * 512 + p.val = 512 * t.val + p.val; omega
  | ⟨1, _⟩ => blk_simp [hi]

theorem block3 (k d : Fin 2048) : (iblk m c 3 t : FVec Ideal S1x2048x2048 .bf16) (ix3 0 k d) = wo m c (ix3 0 k d) := by
  have hi := index3 t
  blk_simp [iblk]
  refine congrArg (wo m c) ?_
  funext a; apply Fin.ext
  match a with
  | ⟨0, _⟩ => blk_simp [hi]; rfl
  | ⟨1, _⟩ => blk_simp [hi]
  | ⟨2, _⟩ => blk_simp [hi]

theorem block4 (d : Fin 2048) : (iblk m c 4 t : FVec Ideal S512x2048 .f32) (ix2 p d) = hs m c (ix2 (row t p) d) := by
  have hi := index4 t
  blk_simp [iblk]
  refine congrArg (hs m c) ?_
  funext a; apply Fin.ext
  match a with
  | ⟨0, _⟩ => blk_simp [hi]; show t.val * 512 + p.val = 512 * t.val + p.val; omega
  | ⟨1, _⟩ => blk_simp [hi]

/-- The gain as one row, as the launch prepares it. -/
theorem prepared : (V m c main_v0 : FVec Ideal S1x2048 .f32) = shapeCast S1x2048 (gs m c) shapeCasts_S2048_S1x2048 := by
  unfold V
  after_results
  rfl

theorem block5 (d : Fin 2048) : (iblk m c 5 t : FVec Ideal S1x2048 .f32) (ix2 0 d) = gs m c (ix1 d) := by
  have hi := index5 t
  have e : (V m c main_v0 : FVec Ideal S1x2048 .f32) (ix2 0 d) = gs m c (ix1 d) := by
    rw [prepared]
    exact shapeCast_apply _ _ _ (ix1 d) (by
      rw [Shape.rowMajor_val_one, Shape.rowMajor_val_two]; show d.val = 0 * 2048 + d.val; omega)
  refine Eq.trans ?_ e
  blk_simp [iblk]
  refine congrArg (V m c main_v0 : FVec Ideal S1x2048 .f32) ?_
  funext a; apply Fin.ext
  match a with
  | ⟨0, _⟩ => blk_simp [hi]
  | ⟨1, _⟩ => blk_simp [hi]

/-- A point's rows of the stream. -/
theorem first_apply (D : Fin 2048) : (k0_pay1 (F := Ideal) (iblk m c 0 t) (iblk m c 1 t) (iblk m c 2 t) (iblk m c 4 t) (iblk m c 3 t) (ix2 p D) : EReal)
    = rowOf (oa m c) (ob m c) (oc m c) (wo m c) (hs m c) (row t p) D := by
  refine (pay1_apply _ _ _ _ _ p D).trans ?_
  unfold rowOf
  rw [funext fun e => block0 m c t p e, funext fun e => block1 m c t p e, funext fun e => block2 m c t p e, block4 m c t p D,
    funext fun k => block3 m c t k D]

/-- A point's normed rows. -/
theorem second_apply (D : Fin 2048) :
    (k0_pay2 (F := Ideal) (iblk m c 0 t) (iblk m c 1 t) (iblk m c 2 t) (iblk m c 4 t) (iblk m c 3 t) (iblk m c 5 t) (ix2 p D) : EReal)
    = rowOf (oa m c) (ob m c) (oc m c) (wo m c) (hs m c) (row t p) D
      * root 0x45000000#32 (rowOf (oa m c) (ob m c) (oc m c) (wo m c) (hs m c) (row t p)) * gs m c (ix1 D) := by
  refine (pay2_apply _ _ _ _ _ _ p D).trans ?_
  rw [funext fun e => first_apply m c t p e, first_apply, block5]

end Point

/-! ## The results -/

theorem covers6 : (cfg0.win 6).Covers := by
  refine ⟨fun a => ?_, fun β => ?_⟩
  · match a with
    | ⟨0, _⟩ => exact (by decide : 0 < 512)
    | ⟨1, _⟩ => exact (by decide : 0 < 2048)
  have h0 : (β ⟨0, Nat.two_pos⟩).val < (8192 + 512 - 1) / 512 := (β ⟨0, Nat.two_pos⟩).isLt
  have h1 : (β ⟨1, Nat.one_lt_two⟩).val < (2048 + 2048 - 1) / 2048 := (β ⟨1, Nat.one_lt_two⟩).isLt
  refine ⟨⟨(β ⟨0, Nat.two_pos⟩).val, lt_of_lt_of_eq (by omega) (show 16 = cfg0.N from N_0.symm)⟩, flush0_6 _, fun a => ⟨?_, .inl rfl⟩⟩
  rw [index6]
  match a with
  | ⟨0, _⟩ => rfl
  | ⟨1, _⟩ => show 0 = (β ⟨1, Nat.one_lt_two⟩).val; omega

theorem covers7 : (cfg0.win 7).Covers := by
  refine ⟨fun a => ?_, fun β => ?_⟩
  · match a with
    | ⟨0, _⟩ => exact (by decide : 0 < 512)
    | ⟨1, _⟩ => exact (by decide : 0 < 2048)
  have h0 : (β ⟨0, Nat.two_pos⟩).val < (8192 + 512 - 1) / 512 := (β ⟨0, Nat.two_pos⟩).isLt
  have h1 : (β ⟨1, Nat.one_lt_two⟩).val < (2048 + 2048 - 1) / 2048 := (β ⟨1, Nat.one_lt_two⟩).isLt
  refine ⟨⟨(β ⟨0, Nat.two_pos⟩).val, lt_of_lt_of_eq (by omega) (show 16 = cfg0.N from N_0.symm)⟩, flush0_7 _, fun a => ⟨?_, .inl rfl⟩⟩
  rw [index7]
  match a with
  | ⟨0, _⟩ => rfl
  | ⟨1, _⟩ => show 0 = (β ⟨1, Nat.one_lt_two⟩).val; omega

theorem split2 (y : S512x2048.Idx) : y = ix2 (⟨(y 0).val, (y 0).isLt⟩ : Fin 512) (⟨(y 1).val, (y 1).isLt⟩ : Fin 2048) := by
  funext a
  match a with
  | ⟨0, _⟩ => rfl
  | ⟨1, _⟩ => rfl

theorem final6 : (dats m 0 c).arrAt 6 cfg0.N
    = Cert.Reference4Ideal.Read.val_main_v6 (F := Ideal) (oa m c) (ob m c) (oc m c) (wo m c) (hs m c) := by
  refine (dats m 0 c).arrAt_eq_of_covers (6 : Fin 8) _ covers6 fun t hf y => ?_
  have hi := index6 t
  blk_simp
  rw [after0_6, out6_eq]
  have h0 : (y 0).val < 512 := (y 0).isLt
  have h1 : (y 1).val < 2048 := (y 1).isLt
  refine (congrArg (k0_pay1 (F := Ideal) (iblk m c 0 t) (iblk m c 1 t) (iblk m c 2 t) (iblk m c 4 t) (iblk m c 3 t)) (split2 y)).trans ?_
  refine (first_apply m c t ⟨(y 0).val, h0⟩ ⟨(y 1).val, h1⟩).trans ?_
  refine (Cert.Reference4Ideal.Oproj.v6_eq (oa m c) (ob m c) (oc m c) (wo m c) (hs m c) (row t ⟨(y 0).val, h0⟩) ⟨(y 1).val, h1⟩).symm.trans ?_
  refine congrArg (Cert.Reference4Ideal.Read.val_main_v6 (F := Ideal) (oa m c) (ob m c) (oc m c) (wo m c) (hs m c)) ?_
  funext a; apply Fin.ext
  match a with
  | ⟨0, _⟩ => blk_simp [hi]; show 512 * t.val + (y 0).val = t.val * 512 + (y 0).val; omega
  | ⟨1, _⟩ => blk_simp [hi]; rfl

theorem final7 : (dats m 0 c).arrAt 7 cfg0.N
    = Cert.Reference4Ideal.Read.val_main_v20 (F := Ideal) (oa m c) (ob m c) (oc m c) (wo m c) (hs m c) (gs m c) := by
  refine (dats m 0 c).arrAt_eq_of_covers (7 : Fin 8) _ covers7 fun t hf y => ?_
  have hi := index7 t
  blk_simp
  rw [after0_7, out7_eq]
  have h0 : (y 0).val < 512 := (y 0).isLt
  have h1 : (y 1).val < 2048 := (y 1).isLt
  refine (congrArg (k0_pay2 (F := Ideal) (iblk m c 0 t) (iblk m c 1 t) (iblk m c 2 t) (iblk m c 4 t) (iblk m c 3 t) (iblk m c 5 t)) (split2 y)).trans ?_
  refine (second_apply m c t ⟨(y 0).val, h0⟩ ⟨(y 1).val, h1⟩).trans ?_
  refine (Cert.Reference4Ideal.Oproj.v20_eq (oa m c) (ob m c) (oc m c) (wo m c) (hs m c) (gs m c) (row t ⟨(y 0).val, h0⟩) ⟨(y 1).val, h1⟩).symm.trans ?_
  refine congrArg (Cert.Reference4Ideal.Read.val_main_v20 (F := Ideal) (oa m c) (ob m c) (oc m c) (wo m c) (hs m c) (gs m c)) ?_
  funext a; apply Fin.ext
  match a with
  | ⟨0, _⟩ => blk_simp [hi]; show 512 * t.val + (y 0).val = t.val * 512 + (y 0).val; omega
  | ⟨1, _⟩ => blk_simp [hi]; rfl

end Cert.Kernel4Ideal.Oproj

end
-- ==== Proof.QkvSpec.lean ====
/- The projection's mathematics: a normed row through the matrix, and a head of the result divided by the root of its mean square
   where its kind asks for it, times its gain. -/
module

public import proofs.«01_k».proof.Proof.ProjSpec

@[expose] public section

set_option maxRecDepth 16384

noncomputable section

namespace Cert.QkvSpec

open Idealize.ShloMosaic Idealize.ShloMosaic.TcCoe
open Idealize.ShloMosaic.ValueIdx
open Cert.ProjSpec

/-- A head's element as the programs leave it: divided by the root of the head's mean square where the flag is set, then times the gain. -/
def cell (f g : EReal) (v : Fin 128 → EReal) (d : Fin 128) : EReal :=
  (if 0 < f then v d * root 0x43000000#32 v else v d) * g

/-- One element of a normed row. -/
def normed (x g : Fin 2048 → EReal) (k : Fin 2048) : EReal := x k * root 0x45000000#32 x * g k

/-- One element of a projected row. -/
def pre (x g w : Fin 2048 → EReal) : EReal := ∑ k : Fin 2048, normed x g k * w k

/-- The scale of the queries. -/
def scale : EReal := Ideal.ofBits .f32 0x3E0293EE#32

/-- The gain of head `h`: the first six heads have one, the next five another, the others none. -/
def headGain (g : (⟨2, ![2, 128]⟩ : Shape).Idx → EReal) (h : ℕ) (d : Fin 128) : EReal :=
  if h < 6 then g (ix2 0 d) else if h < 11 then g (ix2 1 d) else 1

/-- The gain of head `h` of section `s` (queries, keys, values). -/
def gainAt (q k : (⟨2, ![2, 128]⟩ : Shape).Idx → EReal) (s h : ℕ) (d : Fin 128) : EReal :=
  if s = 0 then headGain q h d * scale else if s = 1 then headGain k h d else 1

/-- Whether head `h` of section `s` is normed. -/
def flagAt (s h : ℕ) : EReal := if s < 2 ∧ h < 11 then 1 else 0

theorem cell_one (g : EReal) (v : Fin 128 → EReal) (d : Fin 128) : cell 1 g v d = v d * root 0x43000000#32 v * g := by
  unfold cell
  rw [if_pos zero_lt_one]

theorem cell_zero (g : EReal) (v : Fin 128 → EReal) (d : Fin 128) : cell 0 g v d = v d * g := by
  unfold cell
  rw [if_neg (lt_irrefl _)]

theorem gainAt_zero (q k : (⟨2, ![2, 128]⟩ : Shape).Idx → EReal) (h : ℕ) (d : Fin 128) : gainAt q k 0 h d = headGain q h d * scale := if_pos rfl

theorem gainAt_one (q k : (⟨2, ![2, 128]⟩ : Shape).Idx → EReal) (h : ℕ) (d : Fin 128) : gainAt q k 1 h d = headGain k h d := by
  unfold gainAt
  rw [if_neg one_ne_zero, if_pos rfl]

theorem gainAt_two (q k : (⟨2, ![2, 128]⟩ : Shape).Idx → EReal) (h : ℕ) (d : Fin 128) : gainAt q k 2 h d = 1 := by
  unfold gainAt
  rw [if_neg (by decide), if_neg (by decide)]

theorem flagAt_zero (h : ℕ) : flagAt 0 h = if h < 11 then 1 else 0 := by
  unfold flagAt
  simp

theorem flagAt_one (h : ℕ) : flagAt 1 h = if h < 11 then 1 else 0 := by
  unfold flagAt
  simp

theorem flagAt_two (h : ℕ) : flagAt 2 h = 0 := if_neg fun q => absurd q.1 (by decide)

theorem cell_two (q k : (⟨2, ![2, 128]⟩ : Shape).Idx → EReal) (h : ℕ) (d : Fin 128) (v : Fin 128 → EReal) :
    cell (flagAt 2 h) (gainAt q k 2 h d) v d = v d := by
  rw [gainAt_two, flagAt_two, cell_zero, mul_one]

end Cert.QkvSpec

end
-- ==== Proof.QkvRun.lean ====
/- The projection of one point at exact values: the columns of heads a point stores, and what the point leaves in the block. -/
module

public import proofs.«01_k».proof.Proof.Gen.Kernel5Ideal.Value
public import proofs.«01_k».proof.Proof.QkvSpec
public import Idealize.ShloMosaic.Lib.VecWindow
public import Idealize.ShloMosaic.Lib.MatmulPlain
public import Idealize.ShloMosaic.Lib.Pipeline.ValueKit.Geometry
public import Idealize.ShloMosaic.Lib.Pipeline.ValueKit.Tiles

@[expose] public section

set_option maxRecDepth 16384

noncomputable section

namespace Cert.Kernel5Ideal.Qkv

open Idealize.ShloMosaic Idealize.ShloMosaic.TcCoe
open Idealize.ShloMosaic.ValueIdx
open Cert.Kernel5Ideal Cert.Kernel5Ideal.Gen
open Cert.ProjSpec
open Cert.QkvSpec (cell)

/-! ## One head -/

/-- The head of width 128 that column `C` lies in. -/
def headOf (u : Fin 2048 → EReal) (C : Fin 2048) (d : Fin 128) : EReal := u ⟨128 * (C.val / 128) + d.val, by omega⟩

/-- One head's stored columns. -/
def column {F : FTy → Type} [FloatOps F] (v : FVec F S1024x128 .f32) (flag gain : Vec F S1x128 .f32) : FVec F S1024x128 .bf16 :=
  truncf .bf16 (mulf (select (broadcastTo S1024x128 (shapeCast S1x128 (cmpf .ogt (shapeCast S1x128 flag shapeCasts_S1x128_S1x128)
      (broadcast S1x128 (Scalar.ofBits .f32 0x00000000#32))) shapeCasts_S1x128_S1x128) broadcasts_S1x128_S1024x128)
    (mulf v (broadcastTo S1024x128 (rsqrt (addf (divf (shapeCast S1024x1 (multiReduction .add [1] S1024 (mulf v v) 0x00000000#32
      reduces_S1024x128_S1024 (.inl rfl) rfl) shapeCasts_S1024_S1024x1) (broadcast S1024x1 (Scalar.ofBits .f32 0x43000000#32)))
      (broadcast S1024x1 (Scalar.ofBits .f32 0x358637BD#32)))) broadcasts_S1024x1_S1024x128)) v)
    (broadcastTo S1024x128 (shapeCast S1x128 gain shapeCasts_S1x128_S1x128) broadcasts_S1x128_S1024x128)) bitsLt_bf16_f32

theorem column_apply (v : FVec Ideal S1024x128 .f32) (flag gain : FVec Ideal S1x128 .f32) (p : Fin 1024) (d : Fin 128) :
    (column (F := Ideal) v flag gain (ix2 p d) : EReal) = cell (flag (ix2 0 d)) (gain (ix2 0 d)) (fun e => v (ix2 p e)) d := by
  have hs : (shapeCast S1024x1 (multiReduction .add [1] S1024 (mulf v v) 0x00000000#32 reduces_S1024x128_S1024 (.inl rfl) rfl)
      shapeCasts_S1024_S1024x1 (ix2 p 0) : EReal) = ∑ e : Fin 128, (v (ix2 p e) : EReal) * v (ix2 p e) := by
    refine (shapeCast_apply _ _ _ (ix1 p) (by
      rw [Shape.rowMajor_val_one, Shape.rowMajor_val_two]; show p.val = p.val * 1 + 0; omega)).trans ?_
    refine (Ideal.multiReduction_add_single _ _ reduces_S1024x128_S1024 _ _ (ix1 p)).trans ?_
    refine Finset.sum_congr rfl fun t _ => congrArg (fun i => (v i * v i : EReal)) ?_
    funext a; apply Fin.ext
    fin_cases a <;> rfl
  have hb1 : ∀ u : FVec Ideal S1024x1 .f32, broadcastTo S1024x128 u broadcasts_S1024x1_S1024x128 (ix2 p d) = u (ix2 p 0) :=
    fun u => broadcastTo_apply _ _ _ _ fun a => by fin_cases a <;> rfl
  have hb2 : ∀ u : FVec Ideal S1x128 .f32, broadcastTo S1024x128 u broadcasts_S1x128_S1024x128 (ix2 p d) = u (ix2 0 d) :=
    fun u => broadcastTo_apply _ _ _ _ fun a => by fin_cases a <;> rfl
  have hb3 : ∀ u : IVec S1x128 1, broadcastTo S1024x128 u broadcasts_S1x128_S1024x128 (ix2 p d) = u (ix2 0 d) :=
    fun u => broadcastTo_apply _ _ _ _ fun a => by fin_cases a <;> rfl
  have e : (column (F := Ideal) v flag gain (ix2 p d) : EReal) =
      (Scalar.select (broadcastTo S1024x128 (shapeCast S1x128 (cmpf .ogt (shapeCast S1x128 flag shapeCasts_S1x128_S1x128)
        (broadcast S1x128 (Scalar.ofBits .f32 0x00000000#32))) shapeCasts_S1x128_S1x128) broadcasts_S1x128_S1024x128 (ix2 p d))
        ((v (ix2 p d) : EReal) * (broadcastTo S1024x128 (rsqrt (addf (divf (shapeCast S1024x1 (multiReduction .add [1] S1024 (mulf v v) 0x00000000#32
      reduces_S1024x128_S1024 (.inl rfl) rfl) shapeCasts_S1024_S1024x1) (broadcast S1024x1 (Scalar.ofBits .f32 0x43000000#32)))
      (broadcast S1024x1 (Scalar.ofBits .f32 0x358637BD#32)))) broadcasts_S1024x1_S1024x128 (ix2 p d) : EReal)) (v (ix2 p d) : EReal))
      * (broadcastTo S1024x128 (shapeCast S1x128 gain shapeCasts_S1x128_S1x128) broadcasts_S1x128_S1024x128 (ix2 p d) : EReal) := rfl
  rw [e, hb1, hb2, hb3, show (shapeCast S1x128 gain shapeCasts_S1x128_S1x128 (ix2 0 d) : EReal) = gain (ix2 0 d) from
    shapeCast_apply gain shapeCasts_S1x128_S1x128 (ix2 0 d) (ix2 0 d) rfl,
    shapeCast_apply (cmpf .ogt (shapeCast S1x128 flag shapeCasts_S1x128_S1x128)
        (broadcast S1x128 (Scalar.ofBits .f32 0x00000000#32))) shapeCasts_S1x128_S1x128 (ix2 0 d) (ix2 0 d) rfl]
  unfold cell
  refine congrArg₂ (fun a b : EReal => a * b) ?_ rfl
  have hc : (cmpf (F := Ideal) .ogt (shapeCast S1x128 flag shapeCasts_S1x128_S1x128) (broadcast S1x128 (Scalar.ofBits .f32 0x00000000#32)) (ix2 0 d))
      = BitVec.ofBool (decide ((0 : EReal) < flag (ix2 0 d))) := by
    show Ideal.cmp .ogt (shapeCast S1x128 flag shapeCasts_S1x128_S1x128 (ix2 0 d)) (Ideal.ofBits .f32 0x00000000#32) = _
    rw [shapeCast_apply flag shapeCasts_S1x128_S1x128 (ix2 0 d) (ix2 0 d) rfl, Cert.StickSpec.ofBits_zero, EReal.coe_zero]
    rfl
  rw [hc]
  by_cases hf : (0 : EReal) < flag (ix2 0 d)
  · rw [if_pos hf, decide_eq_true hf]
    unfold root
    rw [← hs]
    rfl
  · rw [if_neg hf, decide_eq_false hf]
    rfl

/-! ## What a point leaves -/

/-- One element of a point's block, from the projected rows. -/
def outAt (Y : FVec Ideal S1024x2048 .f32) (gain flag : Vec Ideal S1x2048 .f32) (y : S1024x2048.Idx) : EReal :=
  cell (flag (ix2 0 (⟨(y 1).val, (y 1).isLt⟩ : Fin 2048))) (gain (ix2 0 (⟨(y 1).val, (y 1).isLt⟩ : Fin 2048)))
    (headOf (fun C => Y (ix2 (⟨(y 0).val, (y 0).isLt⟩ : Fin 1024) C)) ⟨(y 1).val, (y 1).isLt⟩) ⟨(y 1).val % 128, Nat.mod_lt _ (by decide)⟩

theorem tile (Y : FVec Ideal S1024x2048 .f32) (gain flag : Vec Ideal S1x2048 .f32) (y : S1024x2048.Idx) (n : ℕ)
    (hs : Shape.Slices S1024x2048 ![0, 128 * n] S1024x128) (inb : ∀ a, (![0, 128 * n] : Fin 2 → ℕ) a + (![1, 128] : Fin 2 → ℕ) a ≤ S1x2048.size a)
    (Y' : FVec Ideal S1024x2048 .f32) (flag' gain' : Vec Ideal S1x128 .f32) (hY : Y' = Y)
    (hflag : flag' = View.ld flag (Rect.unit ![0, 128 * n] ![1, 128] inb)) (hgain : gain' = View.ld gain (Rect.unit ![0, 128 * n] ![1, 128] inb)) :
    View.TileAt (Val := Elt Ideal) (S := S1024x2048) (e := .bf16) y ![0, 128 * n] ![1024, 128]
      (column (extractStridedSlice S1024x128 ![0, 128 * n] Y' hs) flag' gain') (outAt Y gain flag y) := by
  subst hY hflag hgain
  intro x hx
  have h0 : (y 0).val = 0 + (x 0).val := hx 0
  have h1 : (y 1).val = 128 * n + (x 1).val := hx 1
  have x0 : (x 0).val < 1024 := (x 0).isLt
  have x1 : (x 1).val < 128 := (x 1).isLt
  have ex : x = ix2 (⟨(x 0).val, x0⟩ : Fin 1024) (⟨(x 1).val, x1⟩ : Fin 128) := by
    funext a
    match a with
    | ⟨0, _⟩ => rfl
    | ⟨1, _⟩ => rfl
  refine (congrArg _ ex).trans ?_
  refine (column_apply _ _ _ _ _).trans ?_
  unfold outAt
  have hn : (y 1).val < 2048 := (y 1).isLt
  have ld : ∀ u : Vec Ideal S1x2048 .f32, (View.ld u (Rect.unit ![0, 128 * n] ![1, 128] inb) : FVec Ideal S1x128 .f32) (ix2 0 (⟨(x 1).val, x1⟩ : Fin 128))
      = u (ix2 0 (⟨(y 1).val, (y 1).isLt⟩ : Fin 2048)) := fun u =>
    View.ld_unit_apply_of u ![0, 128 * n] ![1, 128] inb _ _ fun a => by
      match a with
      | ⟨0, _⟩ => rfl
      | ⟨1, _⟩ => exact h1
  rw [ld, ld]
  have hd : (⟨(x 1).val, x1⟩ : Fin 128) = ⟨(y 1).val % 128, Nat.mod_lt _ (by decide)⟩ := Fin.ext (by show (x 1).val = (y 1).val % 128; omega)
  have hh : (fun e : Fin 128 => extractStridedSlice S1024x128 ![0, 128 * n] Y' hs (ix2 (⟨(x 0).val, x0⟩ : Fin 1024) e))
      = headOf (fun C => Y' (ix2 (⟨(y 0).val, (y 0).isLt⟩ : Fin 1024) C)) ⟨(y 1).val, (y 1).isLt⟩ := by
    funext e
    refine congrArg Y' ?_
    funext a; apply Fin.ext
    match a with
    | ⟨0, _⟩ => show 0 + (x 0).val = (y 0).val; omega
    | ⟨1, _⟩ => show 128 * n + e.val = 128 * ((y 1).val / 128) + e.val; omega
  rw [hh, hd]

theorem tile_of (Y : FVec Ideal S1024x2048 .f32) (gain flag : Vec Ideal S1x2048 .f32) (y : S1024x2048.Idx) (n : ℕ)
    (hs : Shape.Slices S1024x2048 ![0, 128 * n] S1024x128) (inb : ∀ a, (![0, 128 * n] : Fin 2 → ℕ) a + (![1, 128] : Fin 2 → ℕ) a ≤ S1x2048.size a)
    (w : FVec Ideal S1024x128 .bf16) (Y' : FVec Ideal S1024x2048 .f32) (flag' gain' : Vec Ideal S1x128 .f32)
    (hw : w = column (extractStridedSlice S1024x128 ![0, 128 * n] Y' hs) flag' gain') (hY : Y' = Y)
    (hflag : flag' = View.ld flag (Rect.unit ![0, 128 * n] ![1, 128] inb)) (hgain : gain' = View.ld gain (Rect.unit ![0, 128 * n] ![1, 128] inb)) :
    View.TileAt (Val := Elt Ideal) (S := S1024x2048) (e := .bf16) y ![0, 128 * n] ![1024, 128] w (outAt Y gain flag y) := by
  subst hw
  exact tile Y gain flag y n hs inb Y' flag' gain' hY hflag hgain

theorem head15 (v : FVec Ideal S1024x2048 .f32) (f g : Vec Ideal S1x128 .f32) :
    k0_pay1 (F := Ideal) v f g = column (extractStridedSlice S1024x128 ![0, 1920] v slices_S1024x2048_o0_1920_S1024x128) f g := rfl

theorem head14 (v : FVec Ideal S1024x2048 .f32) (f g : Vec Ideal S1x128 .f32) :
    k0_pay34 (F := Ideal) v f g = column (extractStridedSlice S1024x128 ![0, 1792] v slices_S1024x2048_o0_1792_S1024x128) f g := rfl

theorem head13 (v : FVec Ideal S1024x2048 .f32) (f g : Vec Ideal S1x128 .f32) :
    k0_pay33 (F := Ideal) (k0_pay30 v) (k0_pay31 v) k0_pay32 f g = column (extractStridedSlice S1024x128 ![0, 1664] v slices_S1024x2048_o0_1664_S1024x128) f g := rfl

theorem head12 (v : FVec Ideal S1024x2048 .f32) (f g : Vec Ideal S1x128 .f32) :
    k0_pay29 (F := Ideal) v f g = column (extractStridedSlice S1024x128 ![0, 1536] v slices_S1024x2048_o0_1536_S1024x128) f g := rfl

theorem head11 (v : FVec Ideal S1024x2048 .f32) (f g : Vec Ideal S1x128 .f32) :
    k0_pay28 (F := Ideal) (k0_pay26 v) (k0_pay27 v) f g = column (extractStridedSlice S1024x128 ![0, 1408] v slices_S1024x2048_o0_1408_S1024x128) f g := rfl

theorem head10 (v : FVec Ideal S1024x2048 .f32) (f g : Vec Ideal S1x128 .f32) :
    k0_pay25 (F := Ideal) v f g = column (extractStridedSlice S1024x128 ![0, 1280] v slices_S1024x2048_o0_1280_S1024x128) f g := rfl

theorem head9 (v : FVec Ideal S1024x2048 .f32) (f g : Vec Ideal S1x128 .f32) :
    k0_pay24 (F := Ideal) (k0_pay23 v f) g = column (extractStridedSlice S1024x128 ![0, 1152] v slices_S1024x2048_o0_1152_S1024x128) f g := rfl

theorem head8 (v : FVec Ideal S1024x2048 .f32) (f g : Vec Ideal S1x128 .f32) :
    k0_pay22 (F := Ideal) (k0_pay20 v) (k0_pay21 v) f g = column (extractStridedSlice S1024x128 ![0, 1024] v slices_S1024x2048_o0_1024_S1024x128) f g := rfl

theorem head7 (v : FVec Ideal S1024x2048 .f32) (f g : Vec Ideal S1x128 .f32) :
    k0_pay19 (F := Ideal) v f g = column (extractStridedSlice S1024x128 ![0, 896] v slices_S1024x2048_o0_896_S1024x128) f g := rfl

theorem head6 (v : FVec Ideal S1024x2048 .f32) (f g : Vec Ideal S1x128 .f32) :
    k0_pay18 (F := Ideal) (k0_pay16 v) (k0_pay17 v) f g = column (extractStridedSlice S1024x128 ![0, 768] v slices_S1024x2048_o0_768_S1024x128) f g := rfl

theorem head5 (v : FVec Ideal S1024x2048 .f32) (f g : Vec Ideal S1x128 .f32) :
    k0_pay15 (F := Ideal) v f g = column (extractStridedSlice S1024x128 ![0, 640] v slices_S1024x2048_o0_640_S1024x128) f g := rfl

theorem head4 (v : FVec Ideal S1024x2048 .f32) (f g : Vec Ideal S1x128 .f32) :
    k0_pay14 (F := Ideal) (k0_pay11 v) (k0_pay12 v) (k0_pay13 f) g = column (extractStridedSlice S1024x128 ![0, 512] v slices_S1024x2048_o0_512_S1024x128) f g := rfl

theorem head3 (v : FVec Ideal S1024x2048 .f32) (f g : Vec Ideal S1x128 .f32) :
    k0_pay10 (F := Ideal) v f g = column (extractStridedSlice S1024x128 ![0, 384] v slices_S1024x2048_o0_384_S1024x128) f g := rfl

theorem head2 (v : FVec Ideal S1024x2048 .f32) (f g : Vec Ideal S1x128 .f32) :
    k0_pay9 (F := Ideal) v f g = column (extractStridedSlice S1024x128 ![0, 256] v slices_S1024x2048_o0_256_S1024x128) f g := rfl

theorem head0 (a : Vec Ideal S1024x2048 .bf16) (b : Vec Ideal S1x2048x2048 .bf16) (f g : Vec Ideal S1x128 .f32) :
    k0_pay4 (F := Ideal) a b f g = column (extractStridedSlice S1024x128 ![0, 0] (k0_pay3 a b) slices_S1024x2048_o0_0_S1024x128) f g := rfl

theorem head1 (a : Vec Ideal S1024x2048 .bf16) (b : Vec Ideal S1x2048x2048 .bf16) (f g : Vec Ideal S1x128 .f32) :
    k0_pay8 (F := Ideal) (k0_pay5 a b) (k0_pay6 a b) k0_pay7 f g
      = column (extractStridedSlice S1024x128 ![0, 128] (k0_pay3 a b) slices_S1024x2048_o0_128_S1024x128) f g := rfl

attribute [local irreducible] outAt column k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34

section Leaves

variable (c : Dev nD) (i : grid0.Coords) (arg2 : Memref sig .tc .vmem S1024x2048 .f32) (harg2 : arg2.IsWhole) (arg3 : Memref sig .tc .vmem S1x2048 .f32)
  (harg3 : arg3.IsWhole) (arg4 : Memref sig .tc .vmem S1x2048x2048 .bf16) (harg4 : arg4.IsWhole) (arg5 : Memref sig .tc .vmem S1x2048 .f32)
  (harg5 : arg5.IsWhole) (arg6 : Memref sig .tc .vmem S1x2048 .f32) (harg6 : arg6.IsWhole) (arg7 : Memref sig .tc .vmem S1024x2048 .bf16)
  (harg7 : arg7.IsWhole) (arg8 : Memref sig .tc .vmem S1024x2048 .bf16) (harg8 : arg8.IsWhole)
  (x0 : Vec Ideal S1024x2048 .f32) (x1 : Vec Ideal S1x2048 .f32) (x2 : Vec Ideal S1x2048x2048 .bf16) (x3 x4 : Vec Ideal S1x2048 .f32)
  (xs0 : Vec Ideal S1024x2048 .bf16)

theorem zero2 : ∀ a : Fin 2, (![0, 0] : Fin 2 → ℕ) a = 0 := by decide
theorem zero3 : ∀ a : Fin 3, (![0, 0, 0] : Fin 3 → ℕ) a = 0 := by decide

theorem pay2_congr {a a' : Vec Ideal S1024x2048 .f32} {b b' : Vec Ideal S1x2048 .f32} (ha : a = a') (hb : b = b') :
    k0_pay2 (F := Ideal) a b = k0_pay2 a' b' := by
  subst ha hb; rfl

theorem pay3_congr {a a' : Vec Ideal S1024x2048 .bf16} {b b' : Vec Ideal S1x2048x2048 .bf16} (ha : a = a') (hb : b = b') :
    k0_pay3 (F := Ideal) a b = k0_pay3 a' b' := by
  subst ha hb; rfl

/-- A load of a whole buffer's contents. -/
theorem load {s : Shape} {e : EltTy} (arg : Memref sig .tc .vmem s e) (harg : arg.IsWhole) (x : Vec Ideal s e) (r : Rect s) :
    View.readAt (Elt Ideal) arg.view r.toLoadRect (harg.unread x) = View.ld x r :=
  (View.readAt_eq_ld _ _ _).trans (congrArg (fun u => View.ld u r) (harg.read_unread x))

theorem whole {s : Shape} {e : EltTy} (arg : Memref sig .tc .vmem s e) (harg : arg.IsWhole) (x : Vec Ideal s e) (off : Fin s.rank → ℕ)
    (inb : ∀ a, off a + s.size a ≤ s.size a) (h : ∀ a, off a = 0) :
    View.readAt (Elt Ideal) arg.view (Rect.unit off s.size inb).toLoadRect (harg.unread x) = x :=
  (load arg harg x _).trans (View.ld_unit_lit inb x h)

theorem hYB : k0_pay3 (F := Ideal) (View.readAt (Elt Ideal) arg8.view (Rect.unit (s := S1024x2048) ![0, 0] S1024x2048.size inb_S1024x2048_S1024x2048_0_0).toLoadRect (harg8.unread xs0))
    (View.readAt (Elt Ideal) arg4.view (Rect.unit (s := S1x2048x2048) ![0, 0, 0] S1x2048x2048.size inb_S1x2048x2048_S1x2048x2048_0_0_0).toLoadRect (harg4.unread x2)) = k0_pay3 xs0 x2 :=
  pay3_congr (whole _ _ _ _ _ zero2) (whole _ _ _ _ _ zero3)

theorem hYA : k0_pay3 (F := Ideal) (kernelRun0_A.sl.v3 c arg2 harg2 arg3 harg3 arg8 x0 x1)
    (View.readAt (Elt Ideal) arg4.view (Rect.unit (s := S1x2048x2048) ![0, 0, 0] S1x2048x2048.size inb_S1x2048x2048_S1x2048x2048_0_0_0).toLoadRect (harg4.unread x2)) = k0_pay3 (k0_pay2 x0 x1) x2 := by
  refine pay3_congr ?_ (whole _ _ _ _ _ zero3)
  unfold kernelRun0_A.sl.v3
  refine (View.readCov_full _ _ _ _ _).trans ?_
  exact pay2_congr (whole _ _ _ _ _ zero2) (whole _ _ _ _ _ zero2)

theorem soutA_eq (hc0 : cond0_0 i) :
    sout0_A_0 c i arg2 harg2 arg3 harg3 arg4 harg4 arg5 harg5 arg6 harg6 arg7 harg7 arg8 harg8 hc0 x0 x1 x2 x3 x4 = k0_pay2 x0 x1 := by
  refine (View.read_writes_junk_eq_canon _ _).trans ?_
  refine (View.canon_cons_unit_lit _ _ _ zero2).trans ?_
  exact pay2_congr (whole _ _ _ _ _ zero2) (whole _ _ _ _ _ zero2)

set_option maxHeartbeats 1000000 in
theorem outB_apply (hc0 : ¬cond0_0 i) (y : S1024x2048.Idx) :
    out0_B_5 c i arg2 harg2 arg3 harg3 arg4 harg4 arg5 harg5 arg6 harg6 arg7 harg7 arg8 harg8 hc0 x0 x1 x2 x3 x4 xs0 y = outAt (k0_pay3 xs0 x2) x3 x4 y := by
  have hY := hYB arg4 harg4 arg8 harg8 x2 xs0
  refine (congrFun (View.read_writes_junk_eq_canon _ _) y).trans ?_
  refine View.canon_eq_of_allAt _ y _ (cover0_B_5 c i arg2 harg2 arg3 harg3 arg4 harg4 arg5 harg5 arg6 harg6 arg7 harg7 arg8 harg8 hc0 x0 x1 x2 x3 x4 xs0 y) ?_
  refine View.allAt_cons_unit _ _ _ _ _ (tile_of (k0_pay3 xs0 x2) x3 x4 y 15 slices_S1024x2048_o0_1920_S1024x128 inb_S1x2048_S1x128_0_1920 _ _ _ _ (head15 _ _ _) hY (load arg6 harg6 x4 _) (load arg5 harg5 x3 _)) ?_
  refine View.allAt_cons_unit _ _ _ _ _ (tile_of (k0_pay3 xs0 x2) x3 x4 y 14 slices_S1024x2048_o0_1792_S1024x128 inb_S1x2048_S1x128_0_1792 _ _ _ _ (head14 _ _ _) hY (load arg6 harg6 x4 _) (load arg5 harg5 x3 _)) ?_
  refine View.allAt_cons_unit _ _ _ _ _ (tile_of (k0_pay3 xs0 x2) x3 x4 y 13 slices_S1024x2048_o0_1664_S1024x128 inb_S1x2048_S1x128_0_1664 _ _ _ _ (head13 _ _ _) hY (load arg6 harg6 x4 _) (load arg5 harg5 x3 _)) ?_
  refine View.allAt_cons_unit _ _ _ _ _ (tile_of (k0_pay3 xs0 x2) x3 x4 y 12 slices_S1024x2048_o0_1536_S1024x128 inb_S1x2048_S1x128_0_1536 _ _ _ _ (head12 _ _ _) hY (load arg6 harg6 x4 _) (load arg5 harg5 x3 _)) ?_
  refine View.allAt_cons_unit _ _ _ _ _ (tile_of (k0_pay3 xs0 x2) x3 x4 y 11 slices_S1024x2048_o0_1408_S1024x128 inb_S1x2048_S1x128_0_1408 _ _ _ _ (head11 _ _ _) hY (load arg6 harg6 x4 _) (load arg5 harg5 x3 _)) ?_
  refine View.allAt_cons_unit _ _ _ _ _ (tile_of (k0_pay3 xs0 x2) x3 x4 y 10 slices_S1024x2048_o0_1280_S1024x128 inb_S1x2048_S1x128_0_1280 _ _ _ _ (head10 _ _ _) hY (load arg6 harg6 x4 _) (load arg5 harg5 x3 _)) ?_
  refine View.allAt_cons_unit _ _ _ _ _ (tile_of (k0_pay3 xs0 x2) x3 x4 y 9 slices_S1024x2048_o0_1152_S1024x128 inb_S1x2048_S1x128_0_1152 _ _ _ _ (head9 _ _ _) hY (load arg6 harg6 x4 _) (load arg5 harg5 x3 _)) ?_
  refine View.allAt_cons_unit _ _ _ _ _ (tile_of (k0_pay3 xs0 x2) x3 x4 y 8 slices_S1024x2048_o0_1024_S1024x128 inb_S1x2048_S1x128_0_1024 _ _ _ _ (head8 _ _ _) hY (load arg6 harg6 x4 _) (load arg5 harg5 x3 _)) ?_
  refine View.allAt_cons_unit _ _ _ _ _ (tile_of (k0_pay3 xs0 x2) x3 x4 y 7 slices_S1024x2048_o0_896_S1024x128 inb_S1x2048_S1x128_0_896 _ _ _ _ (head7 _ _ _) hY (load arg6 harg6 x4 _) (load arg5 harg5 x3 _)) ?_
  refine View.allAt_cons_unit _ _ _ _ _ (tile_of (k0_pay3 xs0 x2) x3 x4 y 6 slices_S1024x2048_o0_768_S1024x128 inb_S1x2048_S1x128_0_768 _ _ _ _ (head6 _ _ _) hY (load arg6 harg6 x4 _) (load arg5 harg5 x3 _)) ?_
  refine View.allAt_cons_unit _ _ _ _ _ (tile_of (k0_pay3 xs0 x2) x3 x4 y 5 slices_S1024x2048_o0_640_S1024x128 inb_S1x2048_S1x128_0_640 _ _ _ _ (head5 _ _ _) hY (load arg6 harg6 x4 _) (load arg5 harg5 x3 _)) ?_
  refine View.allAt_cons_unit _ _ _ _ _ (tile_of (k0_pay3 xs0 x2) x3 x4 y 4 slices_S1024x2048_o0_512_S1024x128 inb_S1x2048_S1x128_0_512 _ _ _ _ (head4 _ _ _) hY (load arg6 harg6 x4 _) (load arg5 harg5 x3 _)) ?_
  refine View.allAt_cons_unit _ _ _ _ _ (tile_of (k0_pay3 xs0 x2) x3 x4 y 3 slices_S1024x2048_o0_384_S1024x128 inb_S1x2048_S1x128_0_384 _ _ _ _ (head3 _ _ _) hY (load arg6 harg6 x4 _) (load arg5 harg5 x3 _)) ?_
  refine View.allAt_cons_unit _ _ _ _ _ (tile_of (k0_pay3 xs0 x2) x3 x4 y 2 slices_S1024x2048_o0_256_S1024x128 inb_S1x2048_S1x128_0_256 _ _ _ _ (head2 _ _ _) hY (load arg6 harg6 x4 _) (load arg5 harg5 x3 _)) ?_
  refine View.allAt_cons_unit _ _ _ _ _ (tile_of (k0_pay3 xs0 x2) x3 x4 y 1 slices_S1024x2048_o0_128_S1024x128 inb_S1x2048_S1x128_0_128 _ _ _ _ (head1 _ _ _ _) hY (load arg6 harg6 x4 _) (load arg5 harg5 x3 _)) ?_
  refine View.allAt_cons_unit _ _ _ _ _ (tile_of (k0_pay3 xs0 x2) x3 x4 y 0 slices_S1024x2048_o0_0_S1024x128 inb_S1x2048_S1x128_0_0 _ _ _ _ (head0 _ _ _ _) hY (load arg6 harg6 x4 _) (load arg5 harg5 x3 _)) ?_
  exact View.allAt_nil _ _

set_option maxHeartbeats 1000000 in
theorem outA_apply (hc0 : cond0_0 i) (y : S1024x2048.Idx) :
    out0_A_5 c i arg2 harg2 arg3 harg3 arg4 harg4 arg5 harg5 arg6 harg6 arg7 harg7 arg8 harg8 hc0 x0 x1 x2 x3 x4 y = outAt (k0_pay3 (k0_pay2 x0 x1) x2) x3 x4 y := by
  have hY := hYA c arg2 harg2 arg3 harg3 arg4 harg4 arg8 x0 x1 x2
  refine (congrFun (View.read_writes_junk_eq_canon _ _) y).trans ?_
  refine View.canon_eq_of_allAt _ y _ (cover0_A_5 c i arg2 harg2 arg3 harg3 arg4 harg4 arg5 harg5 arg6 harg6 arg7 harg7 arg8 harg8 hc0 x0 x1 x2 x3 x4 y) ?_
  refine View.allAt_cons_unit _ _ _ _ _ (tile_of (k0_pay3 (k0_pay2 x0 x1) x2) x3 x4 y 15 slices_S1024x2048_o0_1920_S1024x128 inb_S1x2048_S1x128_0_1920 _ _ _ _ (head15 _ _ _) hY (load arg6 harg6 x4 _) (load arg5 harg5 x3 _)) ?_
  refine View.allAt_cons_unit _ _ _ _ _ (tile_of (k0_pay3 (k0_pay2 x0 x1) x2) x3 x4 y 14 slices_S1024x2048_o0_1792_S1024x128 inb_S1x2048_S1x128_0_1792 _ _ _ _ (head14 _ _ _) hY (load arg6 harg6 x4 _) (load arg5 harg5 x3 _)) ?_
  refine View.allAt_cons_unit _ _ _ _ _ (tile_of (k0_pay3 (k0_pay2 x0 x1) x2) x3 x4 y 13 slices_S1024x2048_o0_1664_S1024x128 inb_S1x2048_S1x128_0_1664 _ _ _ _ (head13 _ _ _) hY (load arg6 harg6 x4 _) (load arg5 harg5 x3 _)) ?_
  refine View.allAt_cons_unit _ _ _ _ _ (tile_of (k0_pay3 (k0_pay2 x0 x1) x2) x3 x4 y 12 slices_S1024x2048_o0_1536_S1024x128 inb_S1x2048_S1x128_0_1536 _ _ _ _ (head12 _ _ _) hY (load arg6 harg6 x4 _) (load arg5 harg5 x3 _)) ?_
  refine View.allAt_cons_unit _ _ _ _ _ (tile_of (k0_pay3 (k0_pay2 x0 x1) x2) x3 x4 y 11 slices_S1024x2048_o0_1408_S1024x128 inb_S1x2048_S1x128_0_1408 _ _ _ _ (head11 _ _ _) hY (load arg6 harg6 x4 _) (load arg5 harg5 x3 _)) ?_
  refine View.allAt_cons_unit _ _ _ _ _ (tile_of (k0_pay3 (k0_pay2 x0 x1) x2) x3 x4 y 10 slices_S1024x2048_o0_1280_S1024x128 inb_S1x2048_S1x128_0_1280 _ _ _ _ (head10 _ _ _) hY (load arg6 harg6 x4 _) (load arg5 harg5 x3 _)) ?_
  refine View.allAt_cons_unit _ _ _ _ _ (tile_of (k0_pay3 (k0_pay2 x0 x1) x2) x3 x4 y 9 slices_S1024x2048_o0_1152_S1024x128 inb_S1x2048_S1x128_0_1152 _ _ _ _ (head9 _ _ _) hY (load arg6 harg6 x4 _) (load arg5 harg5 x3 _)) ?_
  refine View.allAt_cons_unit _ _ _ _ _ (tile_of (k0_pay3 (k0_pay2 x0 x1) x2) x3 x4 y 8 slices_S1024x2048_o0_1024_S1024x128 inb_S1x2048_S1x128_0_1024 _ _ _ _ (head8 _ _ _) hY (load arg6 harg6 x4 _) (load arg5 harg5 x3 _)) ?_
  refine View.allAt_cons_unit _ _ _ _ _ (tile_of (k0_pay3 (k0_pay2 x0 x1) x2) x3 x4 y 7 slices_S1024x2048_o0_896_S1024x128 inb_S1x2048_S1x128_0_896 _ _ _ _ (head7 _ _ _) hY (load arg6 harg6 x4 _) (load arg5 harg5 x3 _)) ?_
  refine View.allAt_cons_unit _ _ _ _ _ (tile_of (k0_pay3 (k0_pay2 x0 x1) x2) x3 x4 y 6 slices_S1024x2048_o0_768_S1024x128 inb_S1x2048_S1x128_0_768 _ _ _ _ (head6 _ _ _) hY (load arg6 harg6 x4 _) (load arg5 harg5 x3 _)) ?_
  refine View.allAt_cons_unit _ _ _ _ _ (tile_of (k0_pay3 (k0_pay2 x0 x1) x2) x3 x4 y 5 slices_S1024x2048_o0_640_S1024x128 inb_S1x2048_S1x128_0_640 _ _ _ _ (head5 _ _ _) hY (load arg6 harg6 x4 _) (load arg5 harg5 x3 _)) ?_
  refine View.allAt_cons_unit _ _ _ _ _ (tile_of (k0_pay3 (k0_pay2 x0 x1) x2) x3 x4 y 4 slices_S1024x2048_o0_512_S1024x128 inb_S1x2048_S1x128_0_512 _ _ _ _ (head4 _ _ _) hY (load arg6 harg6 x4 _) (load arg5 harg5 x3 _)) ?_
  refine View.allAt_cons_unit _ _ _ _ _ (tile_of (k0_pay3 (k0_pay2 x0 x1) x2) x3 x4 y 3 slices_S1024x2048_o0_384_S1024x128 inb_S1x2048_S1x128_0_384 _ _ _ _ (head3 _ _ _) hY (load arg6 harg6 x4 _) (load arg5 harg5 x3 _)) ?_
  refine View.allAt_cons_unit _ _ _ _ _ (tile_of (k0_pay3 (k0_pay2 x0 x1) x2) x3 x4 y 2 slices_S1024x2048_o0_256_S1024x128 inb_S1x2048_S1x128_0_256 _ _ _ _ (head2 _ _ _) hY (load arg6 harg6 x4 _) (load arg5 harg5 x3 _)) ?_
  refine View.allAt_cons_unit _ _ _ _ _ (tile_of (k0_pay3 (k0_pay2 x0 x1) x2) x3 x4 y 1 slices_S1024x2048_o0_128_S1024x128 inb_S1x2048_S1x128_0_128 _ _ _ _ (head1 _ _ _ _) hY (load arg6 harg6 x4 _) (load arg5 harg5 x3 _)) ?_
  refine View.allAt_cons_unit _ _ _ _ _ (tile_of (k0_pay3 (k0_pay2 x0 x1) x2) x3 x4 y 0 slices_S1024x2048_o0_0_S1024x128 inb_S1x2048_S1x128_0_0 _ _ _ _ (head0 _ _ _ _) hY (load arg6 harg6 x4 _) (load arg5 harg5 x3 _)) ?_
  exact View.allAt_nil _ _

end Leaves

end Cert.Kernel5Ideal.Qkv

end
-- ==== Proof.QkvRows.lean ====
/- The rows of gains and flags that the launch prepares for the projection, at exact values. -/
module

public import proofs.«01_k».proof.Proof.Gen.Kernel5Ideal.Value
public import proofs.«01_k».proof.Proof.QkvSpec

@[expose] public section

set_option maxRecDepth 16384

noncomputable section

namespace Cert.Kernel5Ideal.Qkv

open Idealize.ShloMosaic Idealize.ShloMosaic.TcCoe
open Idealize.ShloMosaic.ValueIdx
open Idealize.ShloMosaic.StableHlo
open Cert.Kernel5Ideal Cert.Kernel5Ideal.Gen
open Cert.QkvSpec

/-- A section's gains: the first repeated for six heads, the second for five, and ones. -/
def gainsOf (g : FVec Ideal S2x128 .f32) : FVec Ideal S2048 .f32 :=
  concatenate S2048 0 [
    ⟨S768, (shapeCast S768 (broadcastInDim S6x128 ![0, 1] bcast_S1x128_S6x128_0_1 (shapeCast S1x128 (shapeCast S128
      (extractStridedSlice S1x128 ![0, 0] g slices_S2x128_S1x128_0_0) shapeCasts_S1x128_S128) shapeCasts_S128_S1x128)) shapeCasts_S6x128_S768 : FVec Ideal S768 .f32)⟩,
    ⟨S640, (shapeCast S640 (broadcastInDim S5x128 ![0, 1] bcast_S1x128_S5x128_0_1 (shapeCast S1x128 (shapeCast S128
      (extractStridedSlice S1x128 ![1, 0] g slices_S2x128_S1x128_1_0) shapeCasts_S1x128_S128) shapeCasts_S128_S1x128)) shapeCasts_S5x128_S640 : FVec Ideal S640 .f32)⟩,
    ⟨S640, (broadcastInDim S640 ![] bcast_S_S640 (constant S_ .f32 0x3F800000#32) : FVec Ideal S640 .f32)⟩] concatenates_S768_S640_S640_S2048_d0

/-- The flags of a section whose first eleven heads are normed. -/
def flags : FVec Ideal S2048 .f32 :=
  concatenate S2048 0 [⟨S1408, (broadcastInDim S1408 ![] bcast_S_S1408 (constant S_ .f32 0x3F800000#32) : FVec Ideal S1408 .f32)⟩,
    ⟨S640, (broadcastInDim S640 ![] bcast_S_S640 (constant S_ .f32 0x00000000#32) : FVec Ideal S640 .f32)⟩] concatenates_S1408_S640_S2048_d0

/-- Three sections one after the other, as one row. -/
def sections (a b e : FVec Ideal S2048 .f32) : FVec Ideal S1x6144 .f32 :=
  shapeCast S1x6144 (concatenate S6144 0 [⟨S2048, a⟩, ⟨S2048, b⟩, ⟨S2048, e⟩] concatenates_S2048_S2048_S2048_S6144_d0) shapeCasts_S6144_S1x6144

/-- A section with one value everywhere. -/
def all (b : BitVec 32) : FVec Ideal S2048 .f32 := broadcastInDim S2048 ![] bcast_S_S2048 (constant S_ .f32 b)

variable (m : (ℓ : Loc nD τ sig) → Buf (Elt Ideal) ℓ) (c : Dev nD)

abbrev hs : FVec Ideal S8192x2048 .f32 := m ((c : Thread nD τ).loc main_arg0)
abbrev ga : FVec Ideal S2048 .f32 := m ((c : Thread nD τ).loc main_arg1)
abbrev wi : FVec Ideal S2x2048x6144 .bf16 := m ((c : Thread nD τ).loc main_arg2)
abbrev qg : FVec Ideal S2x128 .f32 := m ((c : Thread nD τ).loc main_arg3)
abbrev kg : FVec Ideal S2x128 .f32 := m ((c : Thread nD τ).loc main_arg4)

set_option maxHeartbeats 1000000 in
theorem prepared_gain : (V m c main_v33 : FVec Ideal S1x6144 .f32)
    = sections (mulf (gainsOf (qg m c)) (all 0x3E0293EE#32)) (gainsOf (kg m c)) (all 0x3F800000#32) := by
  unfold V
  after_results
  rfl

set_option maxHeartbeats 1000000 in
theorem prepared_flag : (V m c main_v34 : FVec Ideal S1x6144 .f32) = sections flags flags (all 0x00000000#32) := by
  unfold V
  after_results
  rfl

set_option maxHeartbeats 1000000 in
theorem prepared_norm : (V m c main_v35 : FVec Ideal S1x2048 .f32) = shapeCast S1x2048 (ga m c) shapeCasts_S2048_S1x2048 := by
  unfold V
  after_results
  rfl

theorem all_apply (b : BitVec 32) (j : S2048.Idx) : (all b j : EReal) = Ideal.ofBits .f32 b := rfl

theorem repeat0_apply (g : FVec Ideal S2x128 .f32) (C : Fin 768) :
    (shapeCast S768 (broadcastInDim S6x128 ![0, 1] bcast_S1x128_S6x128_0_1 (shapeCast S1x128 (shapeCast S128
      (extractStridedSlice S1x128 ![0, 0] g slices_S2x128_S1x128_0_0) shapeCasts_S1x128_S128) shapeCasts_S128_S1x128)) shapeCasts_S6x128_S768 (ix1 C) : EReal)
    = g (ix2 0 ⟨C.val % 128, Nat.mod_lt _ (by decide)⟩) := by
  have hC := C.isLt
  let D : Fin 128 := ⟨C.val % 128, Nat.mod_lt _ (by decide)⟩
  refine (shapeCast_apply _ _ _ (ix2 (⟨C.val / 128, by omega⟩ : Fin 6) D) (by
    rw [Shape.rowMajor_val_one, Shape.rowMajor_val_two]; show C.val / 128 * 128 + C.val % 128 = C.val; omega)).trans ?_
  refine (broadcastInDim_apply _ bcast_S1x128_S6x128_0_1 _ _ (ix2 (0 : Fin 1) D) (fun a => match a with
    | ⟨0, _⟩ => rfl
    | ⟨1, _⟩ => rfl)).trans ?_
  refine (shapeCast_apply _ _ _ (ix1 D) (by
    rw [Shape.rowMajor_val_one, Shape.rowMajor_val_two]; show D.val = 0 * 128 + D.val; omega)).trans ?_
  refine (shapeCast_apply _ _ _ (ix2 (0 : Fin 1) D) (by
    rw [Shape.rowMajor_val_one, Shape.rowMajor_val_two]; show 0 * 128 + D.val = D.val; omega)).trans ?_
  exact extractStridedSlice_apply ![0, 0] g slices_S2x128_S1x128_0_0 _ (ix2 0 D) (fun a => match a with
    | ⟨0, _⟩ => rfl
    | ⟨1, _⟩ => by show D.val = 0 + D.val; omega)

theorem repeat1_apply (g : FVec Ideal S2x128 .f32) (C : Fin 640) :
    (shapeCast S640 (broadcastInDim S5x128 ![0, 1] bcast_S1x128_S5x128_0_1 (shapeCast S1x128 (shapeCast S128
      (extractStridedSlice S1x128 ![1, 0] g slices_S2x128_S1x128_1_0) shapeCasts_S1x128_S128) shapeCasts_S128_S1x128)) shapeCasts_S5x128_S640 (ix1 C) : EReal)
    = g (ix2 1 ⟨C.val % 128, Nat.mod_lt _ (by decide)⟩) := by
  have hC := C.isLt
  let D : Fin 128 := ⟨C.val % 128, Nat.mod_lt _ (by decide)⟩
  refine (shapeCast_apply _ _ _ (ix2 (⟨C.val / 128, by omega⟩ : Fin 5) D) (by
    rw [Shape.rowMajor_val_one, Shape.rowMajor_val_two]; show C.val / 128 * 128 + C.val % 128 = C.val; omega)).trans ?_
  refine (broadcastInDim_apply _ bcast_S1x128_S5x128_0_1 _ _ (ix2 (0 : Fin 1) D) (fun a => match a with
    | ⟨0, _⟩ => rfl
    | ⟨1, _⟩ => rfl)).trans ?_
  refine (shapeCast_apply _ _ _ (ix1 D) (by
    rw [Shape.rowMajor_val_one, Shape.rowMajor_val_two]; show D.val = 0 * 128 + D.val; omega)).trans ?_
  refine (shapeCast_apply _ _ _ (ix2 (0 : Fin 1) D) (by
    rw [Shape.rowMajor_val_one, Shape.rowMajor_val_two]; show 0 * 128 + D.val = D.val; omega)).trans ?_
  exact extractStridedSlice_apply ![1, 0] g slices_S2x128_S1x128_1_0 _ (ix2 1 D) (fun a => match a with
    | ⟨0, _⟩ => rfl
    | ⟨1, _⟩ => by show D.val = 0 + D.val; omega)

theorem joined3_apply (a : S768.Idx → EReal) (b e : S640.Idx → EReal) (hc : Shape.Concatenates [S768, S640, S640] S2048 0) (C : Fin 2048) :
    concatenate S2048 0 [⟨S768, a⟩, ⟨S640, b⟩, ⟨S640, e⟩] hc (ix1 C)
      = if h6 : C.val < 768 then a (ix1 ⟨C.val, h6⟩) else if h11 : C.val < 1408 then b (ix1 ⟨C.val - 768, by omega⟩) else e (ix1 ⟨C.val - 1408, by omega⟩) := by
  split
  · rename_i h6
    exact concatenate_apply_piece (α := EReal) (t := S2048) (0 : Fin 1) [⟨S768, a⟩, ⟨S640, b⟩, ⟨S640, e⟩] _ (ix1 C) 0 (by simp) S768 a rfl rfl 0 rfl (ix1 ⟨C.val, h6⟩)
        (fun b => match b with
          | ⟨0, _⟩ => fun hb => absurd rfl hb)
        (by show 0 + C.val = C.val; omega)
  · split
    · exact concatenate_apply_piece (α := EReal) (t := S2048) (0 : Fin 1) [⟨S768, a⟩, ⟨S640, b⟩, ⟨S640, e⟩] _ (ix1 C) 1 (by simp) S640 b rfl rfl 768 rfl (ix1 ⟨C.val - 768, by omega⟩)
        (fun b => match b with
          | ⟨0, _⟩ => fun hb => absurd rfl hb)
        (by show 768 + (C.val - 768) = C.val; omega)
    · exact concatenate_apply_piece (α := EReal) (t := S2048) (0 : Fin 1) [⟨S768, a⟩, ⟨S640, b⟩, ⟨S640, e⟩] _ (ix1 C) 2 (by simp) S640 e rfl rfl 1408 rfl (ix1 ⟨C.val - 1408, by omega⟩)
        (fun b => match b with
          | ⟨0, _⟩ => fun hb => absurd rfl hb)
        (by show 1408 + (C.val - 1408) = C.val; omega)

theorem joined2_apply (a : S1408.Idx → EReal) (b : S640.Idx → EReal) (hc : Shape.Concatenates [S1408, S640] S2048 0) (C : Fin 2048) :
    concatenate S2048 0 [⟨S1408, a⟩, ⟨S640, b⟩] hc (ix1 C) = if h : C.val < 1408 then a (ix1 ⟨C.val, h⟩) else b (ix1 ⟨C.val - 1408, by omega⟩) := by
  split
  · rename_i h
    exact concatenate_apply_piece (α := EReal) (t := S2048) (0 : Fin 1) [⟨S1408, a⟩, ⟨S640, b⟩] _ (ix1 C) 0 (by simp) S1408 a rfl rfl 0 rfl (ix1 ⟨C.val, h⟩)
        (fun b => match b with
          | ⟨0, _⟩ => fun hb => absurd rfl hb)
        (by show 0 + C.val = C.val; omega)
  · exact concatenate_apply_piece (α := EReal) (t := S2048) (0 : Fin 1) [⟨S1408, a⟩, ⟨S640, b⟩] _ (ix1 C) 1 (by simp) S640 b rfl rfl 1408 rfl (ix1 ⟨C.val - 1408, by omega⟩)
        (fun b => match b with
          | ⟨0, _⟩ => fun hb => absurd rfl hb)
        (by show 1408 + (C.val - 1408) = C.val; omega)

theorem gainsOf_apply (g : FVec Ideal S2x128 .f32) (C : Fin 2048) :
    (gainsOf g (ix1 C) : EReal) = headGain g (C.val / 128) ⟨C.val % 128, Nat.mod_lt _ (by decide)⟩ := by
  refine (joined3_apply _ _ _ concatenates_S768_S640_S640_S2048_d0 C).trans ?_
  unfold headGain
  by_cases h6 : C.val < 768
  · rw [dif_pos h6, if_pos (show C.val / 128 < 6 by omega)]
    exact repeat0_apply g ⟨C.val, h6⟩
  · rw [dif_neg h6, if_neg (show ¬C.val / 128 < 6 by omega)]
    by_cases h11 : C.val < 1408
    · rw [dif_pos h11, if_pos (show C.val / 128 < 11 by omega)]
      refine (repeat1_apply g ⟨C.val - 768, by omega⟩).trans (congrArg (fun d => (g (ix2 1 d) : EReal)) (Fin.ext ?_))
      show (C.val - 768) % 128 = C.val % 128
      omega
    · rw [dif_neg h11, if_neg (show ¬C.val / 128 < 11 by omega)]
      exact Cert.StickSpec.ofBits_one

theorem flags_apply (C : Fin 2048) : (flags (ix1 C) : EReal) = if C.val / 128 < 11 then 1 else 0 := by
  refine (joined2_apply _ _ concatenates_S1408_S640_S2048_d0 C).trans ?_
  by_cases h11 : C.val < 1408
  · rw [dif_pos h11, if_pos (show C.val / 128 < 11 by omega)]
    exact Cert.StickSpec.ofBits_one
  · rw [dif_neg h11, if_neg (show ¬C.val / 128 < 11 by omega)]
    exact Cert.StickSpec.ofBits_zero.trans EReal.coe_zero

theorem sections0_apply (a b e : FVec Ideal S2048 .f32) (C : Fin 2048) : (sections a b e (ix2 (0 : Fin 1) (⟨0 + C.val, by omega⟩ : Fin 6144)) : EReal) = a (ix1 C) := by
  refine (shapeCast_apply _ _ _ (ix1 (⟨0 + C.val, by omega⟩ : Fin 6144)) (by
    rw [Shape.rowMajor_val_one, Shape.rowMajor_val_two]; show 0 + C.val = 0 * 6144 + (0 + C.val); omega)).trans ?_
  exact concatenate_apply_piece (α := EReal) (t := S6144) (0 : Fin 1) [⟨S2048, a⟩, ⟨S2048, b⟩, ⟨S2048, e⟩] _ (ix1 (⟨0 + C.val, by omega⟩ : Fin 6144)) 0 (by simp) S2048 a rfl rfl 0 rfl (ix1 C)
        (fun b => match b with
          | ⟨0, _⟩ => fun hb => absurd rfl hb)
        (by show 0 + C.val = 0 + C.val; omega)

theorem sections1_apply (a b e : FVec Ideal S2048 .f32) (C : Fin 2048) : (sections a b e (ix2 (0 : Fin 1) (⟨2048 + C.val, by omega⟩ : Fin 6144)) : EReal) = b (ix1 C) := by
  refine (shapeCast_apply _ _ _ (ix1 (⟨2048 + C.val, by omega⟩ : Fin 6144)) (by
    rw [Shape.rowMajor_val_one, Shape.rowMajor_val_two]; show 2048 + C.val = 0 * 6144 + (2048 + C.val); omega)).trans ?_
  exact concatenate_apply_piece (α := EReal) (t := S6144) (0 : Fin 1) [⟨S2048, a⟩, ⟨S2048, b⟩, ⟨S2048, e⟩] _ (ix1 (⟨2048 + C.val, by omega⟩ : Fin 6144)) 1 (by simp) S2048 b rfl rfl 2048 rfl (ix1 C)
        (fun b => match b with
          | ⟨0, _⟩ => fun hb => absurd rfl hb)
        (by show 2048 + C.val = 2048 + C.val; omega)

theorem sections2_apply (a b e : FVec Ideal S2048 .f32) (C : Fin 2048) : (sections a b e (ix2 (0 : Fin 1) (⟨4096 + C.val, by omega⟩ : Fin 6144)) : EReal) = e (ix1 C) := by
  refine (shapeCast_apply _ _ _ (ix1 (⟨4096 + C.val, by omega⟩ : Fin 6144)) (by
    rw [Shape.rowMajor_val_one, Shape.rowMajor_val_two]; show 4096 + C.val = 0 * 6144 + (4096 + C.val); omega)).trans ?_
  exact concatenate_apply_piece (α := EReal) (t := S6144) (0 : Fin 1) [⟨S2048, a⟩, ⟨S2048, b⟩, ⟨S2048, e⟩] _ (ix1 (⟨4096 + C.val, by omega⟩ : Fin 6144)) 2 (by simp) S2048 e rfl rfl 4096 rfl (ix1 C)
        (fun b => match b with
          | ⟨0, _⟩ => fun hb => absurd rfl hb)
        (by show 4096 + C.val = 4096 + C.val; omega)

/-- The prepared gain of a section's column. -/
theorem gain_apply (s : Fin 3) (C : Fin 2048) (D : Fin 6144) (hD : D.val = 2048 * s.val + C.val) : ((V m c main_v33 : FVec Ideal S1x6144 .f32) (ix2 0 D) : EReal)
    = gainAt (qg m c) (kg m c) s.val (C.val / 128) ⟨C.val % 128, Nat.mod_lt _ (by decide)⟩ := by
  rw [prepared_gain]
  match s with
  | ⟨0, _⟩ =>
    have e : D = ⟨0 + C.val, by have := C.isLt; omega⟩ := Fin.ext (hD.trans (by show 2048 * 0 + C.val = 0 + C.val; omega))
    rw [e]
    refine (sections0_apply _ _ _ C).trans ?_
    refine (congrArg₂ (fun a b : EReal => a * b) (gainsOf_apply (qg m c) C) rfl).trans ?_
    exact (gainAt_zero (qg m c) (kg m c) _ _).symm
  | ⟨1, _⟩ =>
    have e : D = ⟨2048 + C.val, by have := C.isLt; omega⟩ := Fin.ext (hD.trans (by show 2048 * 1 + C.val = 2048 + C.val; omega))
    rw [e]
    refine (sections1_apply _ _ _ C).trans ?_
    refine (gainsOf_apply (kg m c) C).trans ?_
    exact (gainAt_one (qg m c) (kg m c) _ _).symm
  | ⟨2, _⟩ =>
    have e : D = ⟨4096 + C.val, by have := C.isLt; omega⟩ := Fin.ext (hD.trans (by show 2048 * 2 + C.val = 4096 + C.val; omega))
    rw [e]
    refine (sections2_apply _ _ _ C).trans ?_
    exact Cert.StickSpec.ofBits_one.trans (gainAt_two (qg m c) (kg m c) _ _).symm

/-- The prepared flag of a section's column. -/
theorem flag_apply (s : Fin 3) (C : Fin 2048) (D : Fin 6144) (hD : D.val = 2048 * s.val + C.val) : ((V m c main_v34 : FVec Ideal S1x6144 .f32) (ix2 0 D) : EReal)
    = flagAt s.val (C.val / 128) := by
  rw [prepared_flag]
  match s with
  | ⟨0, _⟩ =>
    have e : D = ⟨0 + C.val, by have := C.isLt; omega⟩ := Fin.ext (hD.trans (by show 2048 * 0 + C.val = 0 + C.val; omega))
    rw [e]
    refine (sections0_apply _ _ _ C).trans ((flags_apply C).trans ?_)
    exact (flagAt_zero _).symm
  | ⟨1, _⟩ =>
    have e : D = ⟨2048 + C.val, by have := C.isLt; omega⟩ := Fin.ext (hD.trans (by show 2048 * 1 + C.val = 2048 + C.val; omega))
    rw [e]
    refine (sections1_apply _ _ _ C).trans ((flags_apply C).trans ?_)
    exact (flagAt_one _).symm
  | ⟨2, _⟩ =>
    have e : D = ⟨4096 + C.val, by have := C.isLt; omega⟩ := Fin.ext (hD.trans (by show 2048 * 2 + C.val = 4096 + C.val; omega))
    rw [e]
    refine (sections2_apply _ _ _ C).trans ?_
    exact (Cert.StickSpec.ofBits_zero.trans EReal.coe_zero).trans (flagAt_two _).symm

/-- The prepared gain of the rows. -/
theorem norm_apply (k : Fin 2048) : ((V m c main_v35 : FVec Ideal S1x2048 .f32) (ix2 0 k) : EReal) = ga m c (ix1 k) := by
  rw [prepared_norm]
  exact shapeCast_apply _ _ _ (ix1 k) (by
    rw [Shape.rowMajor_val_one, Shape.rowMajor_val_two]; show k.val = 0 * 2048 + k.val; omega)

end Cert.Kernel5Ideal.Qkv

end
-- ==== Proof.QkvRef.lean ====
/- The projection's reference at exact values, one element at a time. -/
module

public import proofs.«01_k».proof.Proof.Gen.Reference5Ideal.Read
public import proofs.«01_k».proof.Proof.QkvSpec

@[expose] public section

set_option maxRecDepth 16384

noncomputable section

namespace Cert.Reference5Ideal.Qkv

open Idealize.ShloMosaic Idealize.ShloMosaic.TcCoe
open Idealize.ShloMosaic.ValueIdx
open Cert.Reference5Ideal Cert.Reference5Ideal.Gen Cert.Reference5Ideal.Read
open Cert.ProjSpec Cert.QkvSpec

variable (x0 : FVec Ideal S8192x2048 .f32) (x1 : FVec Ideal S2048 .f32) (x2 : FVec Ideal S2x2048x6144 .bf16) (x3 x4 : FVec Ideal S2x128 .f32)

/-- Row `R` projected. -/
def preOf (R : Fin 8192) (C : Fin 6144) : EReal := pre (fun e => x0 (ix2 R e)) (fun e => x1 (ix1 e)) (fun k => x2 (ix3 0 k C))

/-- Head `h` of section `s` of row `R`. -/
def headOf (R : Fin 8192) (s : Fin 3) (h : Fin 16) (d : Fin 128) : EReal := preOf x0 x1 x2 R ⟨2048 * s.val + 128 * h.val + d.val, by omega⟩

theorem v12_eq (R : Fin 8192) (k : Fin 2048) : (val_main_v12 (F := Ideal) x0 x1 (ix2 R k) : EReal)
    = normed (fun e => x0 (ix2 R e)) (fun e => x1 (ix1 e)) k := by
  have e1 : ∀ j, j = ix1 R → (val_main_v1 (F := Ideal) x0 j : EReal) = ∑ e : Fin 2048, (x0 (ix2 R e) : EReal) * x0 (ix2 R e) := by
    rintro _ rfl
    rw [val_main_v1_apply]
    refine (congrArg (· + _) (show (val_main_cst (F := Ideal) (Shape.Idx.first h_S_) : EReal) = 0 from Cert.StickSpec.ofBits_zero)).trans ?_
    rw [zero_add]
    refine Finset.sum_congr rfl fun e _ => ?_
    have ei : idx_main_v1 (ix1 R) e = ix2 R e := by
      funext a; apply Fin.ext
      match a with
      | ⟨0, _⟩ => rfl
      | ⟨1, _⟩ => rfl
    rw [ei]
    rfl
  have e8 : (val_main_v8 (F := Ideal) x0 (ix2 R k) : EReal) = root 0x45000000#32 (fun e : Fin 2048 => (x0 (ix2 R e) : EReal)) := by
    rw [val_main_v8_apply, val_main_v7_apply, val_main_v6_apply, val_main_v4_apply, val_main_v2_apply, val_main_v3_apply, val_main_v5_apply,
      e1 _ (by
        funext a; apply Fin.ext
        match a with
        | ⟨0, _⟩ => rfl)]
    rfl
  have e11 : (val_main_v11 (F := Ideal) x1 (ix2 R k) : EReal) = x1 (ix1 k) := by
    rw [val_main_v11_apply, val_main_v10_apply]
    refine congrArg x1 (funext fun a => Fin.ext ?_)
    match a with
    | ⟨0, _⟩ => rfl
  refine (show _ = (x0 (ix2 R k) : EReal)
    * (val_main_v8 (F := Ideal) x0 (ix2 R k) : EReal) * (val_main_v11 (F := Ideal) x1 (ix2 R k) : EReal) from rfl).trans ?_
  rw [e8, e11]
  rfl

theorem v15_eq (k : Fin 2048) (C : Fin 6144) : (val_main_v15 (F := Ideal) x2 (ix2 k C) : EReal) = x2 (ix3 0 k C) := by
  refine (show _ = (val_main_v14 (F := Ideal) x2 (ix2 k C) : EReal) from rfl).trans ?_
  rw [val_main_v14_apply, val_main_v13_apply]
  refine congrArg x2 (funext fun a => Fin.ext ?_)
  have hk := k.isLt; have hD := C.isLt
  match a with
  | ⟨0, _⟩ => rfl
  | ⟨1, _⟩ => show (k.val * 6144 + C.val) / 6144 % 2048 = k.val; omega
  | ⟨2, _⟩ => show (k.val * 6144 + C.val) % 6144 = C.val; omega

theorem v16_eq (R : Fin 8192) (C : Fin 6144) : (val_main_v16 (F := Ideal) x0 x1 x2 (ix2 R C) : EReal) = preOf x0 x1 x2 R C := by
  rw [val_main_v16_apply]
  unfold preOf pre
  refine Finset.sum_congr rfl fun k _ => congrArg₂ (fun u v : EReal => u * v) ?_ ?_
  · refine (congrArg (val_main_v12 (F := Ideal) x0 x1) (show _ = ix2 R k from ?_)).trans (v12_eq x0 x1 R k)
    funext a
    match a with
    | ⟨0, _⟩ => rfl
    | ⟨1, _⟩ => rfl
  · refine (congrArg (val_main_v15 (F := Ideal) x2) (show _ = ix2 k C from ?_)).trans (v15_eq x2 k C)
    funext a
    match a with
    | ⟨0, _⟩ => rfl
    | ⟨1, _⟩ => rfl

theorem v17_eq (R : Fin 8192) (s : Fin 3) (h : Fin 16) (d : Fin 128) : (val_main_v17 (F := Ideal) x0 x1 x2 (ix4 R s h d) : EReal)
    = headOf x0 x1 x2 R s h d := by
  rw [val_main_v17_apply]
  refine (congrArg (val_main_v16 (F := Ideal) x0 x1 x2) (show _ = ix2 R ⟨2048 * s.val + 128 * h.val + d.val, by omega⟩ from ?_)).trans (v16_eq x0 x1 x2 R _)
  have := R.isLt; have := s.isLt; have := h.isLt; have := d.isLt
  funext a; apply Fin.ext
  match a with
  | ⟨0, _⟩ => show (((R.val * 3 + s.val) * 16 + h.val) * 128 + d.val) / 6144 = R.val; omega
  | ⟨1, _⟩ => show (((R.val * 3 + s.val) * 16 + h.val) * 128 + d.val) % 6144 = 2048 * s.val + 128 * h.val + d.val; omega

theorem v19_eq (R : Fin 8192) (h : Fin 16) (d : Fin 128) : (val_main_v19 (F := Ideal) x0 x1 x2 (ix3 R h d) : EReal)
    = headOf x0 x1 x2 R 0 h d := by
  rw [val_main_v19_apply, val_main_v18_apply]
  refine (congrArg (val_main_v17 (F := Ideal) x0 x1 x2) (show _ = ix4 R 0 h d from ?_)).trans (v17_eq x0 x1 x2 R 0 h d)
  have := R.isLt; have := h.isLt; have := d.isLt
  funext a; apply Fin.ext
  match a with
  | ⟨0, _⟩ => show ((R.val * 16 + h.val) * 128 + d.val) / 2048 = R.val; omega
  | ⟨1, _⟩ => rfl
  | ⟨2, _⟩ => show ((R.val * 16 + h.val) * 128 + d.val) / 128 % 16 = h.val; omega
  | ⟨3, _⟩ => show ((R.val * 16 + h.val) * 128 + d.val) % 128 = d.val; omega

theorem v57_eq (R : Fin 8192) (h : Fin 16) (d : Fin 128) : (val_main_v57 (F := Ideal) x0 x1 x2 (ix3 R h d) : EReal)
    = headOf x0 x1 x2 R 1 h d := by
  rw [val_main_v57_apply, val_main_v56_apply]
  refine (congrArg (val_main_v17 (F := Ideal) x0 x1 x2) (show _ = ix4 R 1 h d from ?_)).trans (v17_eq x0 x1 x2 R 1 h d)
  have := R.isLt; have := h.isLt; have := d.isLt
  funext a; apply Fin.ext
  match a with
  | ⟨0, _⟩ => show ((R.val * 16 + h.val) * 128 + d.val) / 2048 = R.val; omega
  | ⟨1, _⟩ => rfl
  | ⟨2, _⟩ => show ((R.val * 16 + h.val) * 128 + d.val) / 128 % 16 = h.val; omega
  | ⟨3, _⟩ => show ((R.val * 16 + h.val) * 128 + d.val) % 128 = d.val; omega

theorem v93_eq (R : Fin 8192) (h : Fin 16) (d : Fin 128) : (val_main_v93 (F := Ideal) x0 x1 x2 (ix3 R h d) : EReal)
    = headOf x0 x1 x2 R 2 h d := by
  rw [val_main_v93_apply, val_main_v92_apply]
  refine (congrArg (val_main_v17 (F := Ideal) x0 x1 x2) (show _ = ix4 R 2 h d from ?_)).trans (v17_eq x0 x1 x2 R 2 h d)
  have := R.isLt; have := h.isLt; have := d.isLt
  funext a; apply Fin.ext
  match a with
  | ⟨0, _⟩ => show ((R.val * 16 + h.val) * 128 + d.val) / 2048 = R.val; omega
  | ⟨1, _⟩ => rfl
  | ⟨2, _⟩ => show ((R.val * 16 + h.val) * 128 + d.val) / 128 % 16 = h.val; omega
  | ⟨3, _⟩ => show ((R.val * 16 + h.val) * 128 + d.val) % 128 = d.val; omega

theorem v20_eq (R : Fin 8192) (j : Fin 6) (d : Fin 128) : (val_main_v20 (F := Ideal) x0 x1 x2 (ix3 R j d) : EReal)
    = headOf x0 x1 x2 R 0 ⟨0 + j.val, by omega⟩ d := by
  rw [val_main_v20_apply]
  refine (congrArg (val_main_v19 (F := Ideal) x0 x1 x2) (show _ = ix3 R ⟨0 + j.val, by omega⟩ d from ?_)).trans (v19_eq x0 x1 x2 R _ d)
  funext a; apply Fin.ext
  match a with
  | ⟨0, _⟩ => rfl
  | ⟨1, _⟩ => show j.val = 0 + j.val; omega
  | ⟨2, _⟩ => rfl

theorem v35_eq (R : Fin 8192) (j : Fin 6) (d : Fin 128) : (val_main_v35 (F := Ideal) x0 x1 x2 x3 (ix3 R j d) : EReal)
    = headOf x0 x1 x2 R 0 ⟨0 + j.val, by omega⟩ d * root 0x43000000#32 (headOf x0 x1 x2 R 0 ⟨0 + j.val, by omega⟩) * x3 (ix2 0 d) := by
  have e4 : ∀ i, i = ix2 R j → (val_main_v24 (F := Ideal) x0 x1 x2 i : EReal)
      = ∑ e : Fin 128, headOf x0 x1 x2 R 0 ⟨0 + j.val, by omega⟩ e * headOf x0 x1 x2 R 0 ⟨0 + j.val, by omega⟩ e := by
    rintro _ rfl
    rw [val_main_v24_apply]
    refine (congrArg (· + _) (show (val_main_cst_2 (F := Ideal) (Shape.Idx.first h_S_) : EReal) = 0 from Cert.StickSpec.ofBits_zero)).trans ?_
    rw [zero_add]
    refine Finset.sum_congr rfl fun e _ => ?_
    have ei : idx_main_v24 (ix2 R j) e = ix3 R j e := by
      funext a; apply Fin.ext
      match a with
      | ⟨0, _⟩ => rfl
      | ⟨1, _⟩ => rfl
      | ⟨2, _⟩ => rfl
    rw [ei]
    exact congrArg₂ (fun u v : EReal => u * v) (v20_eq x0 x1 x2 R j e) (v20_eq x0 x1 x2 R j e)
  have e11 : (val_main_v31 (F := Ideal) x0 x1 x2 (ix3 R j d) : EReal) = root 0x43000000#32 (headOf x0 x1 x2 R 0 ⟨0 + j.val, by omega⟩) := by
    rw [val_main_v31_apply, val_main_v30_apply, val_main_v29_apply, val_main_v27_apply, val_main_v25_apply, val_main_v26_apply, val_main_v28_apply,
      e4 _ (by
        funext a; apply Fin.ext
        match a with
        | ⟨0, _⟩ => rfl
        | ⟨1, _⟩ => rfl)]
    rfl
  have e14 : (val_main_v34 (F := Ideal) x3 (ix3 R j d) : EReal) = x3 (ix2 0 d) := by
    rw [val_main_v34_apply, val_main_v33_apply, val_main_v22_apply, val_main_v21_apply]
    have := d.isLt
    refine congrArg x3 (funext fun a => Fin.ext ?_)
    match a with
    | ⟨0, _⟩ => rfl
    | ⟨1, _⟩ => show d.val % 128 = d.val; omega
  refine (show _ = (val_main_v20 (F := Ideal) x0 x1 x2 (ix3 R j d) : EReal)
    * (val_main_v31 (F := Ideal) x0 x1 x2 (ix3 R j d) : EReal) * (val_main_v34 (F := Ideal) x3 (ix3 R j d) : EReal) from rfl).trans ?_
  rw [e11, e14, v20_eq]

theorem v36_eq (R : Fin 8192) (j : Fin 5) (d : Fin 128) : (val_main_v36 (F := Ideal) x0 x1 x2 (ix3 R j d) : EReal)
    = headOf x0 x1 x2 R 0 ⟨6 + j.val, by omega⟩ d := by
  rw [val_main_v36_apply]
  refine (congrArg (val_main_v19 (F := Ideal) x0 x1 x2) (show _ = ix3 R ⟨6 + j.val, by omega⟩ d from ?_)).trans (v19_eq x0 x1 x2 R _ d)
  funext a; apply Fin.ext
  match a with
  | ⟨0, _⟩ => rfl
  | ⟨1, _⟩ => rfl
  | ⟨2, _⟩ => rfl

theorem v51_eq (R : Fin 8192) (j : Fin 5) (d : Fin 128) : (val_main_v51 (F := Ideal) x0 x1 x2 x3 (ix3 R j d) : EReal)
    = headOf x0 x1 x2 R 0 ⟨6 + j.val, by omega⟩ d * root 0x43000000#32 (headOf x0 x1 x2 R 0 ⟨6 + j.val, by omega⟩) * x3 (ix2 1 d) := by
  have e4 : ∀ i, i = ix2 R j → (val_main_v40 (F := Ideal) x0 x1 x2 i : EReal)
      = ∑ e : Fin 128, headOf x0 x1 x2 R 0 ⟨6 + j.val, by omega⟩ e * headOf x0 x1 x2 R 0 ⟨6 + j.val, by omega⟩ e := by
    rintro _ rfl
    rw [val_main_v40_apply]
    refine (congrArg (· + _) (show (val_main_cst_5 (F := Ideal) (Shape.Idx.first h_S_) : EReal) = 0 from Cert.StickSpec.ofBits_zero)).trans ?_
    rw [zero_add]
    refine Finset.sum_congr rfl fun e _ => ?_
    have ei : idx_main_v40 (ix2 R j) e = ix3 R j e := by
      funext a; apply Fin.ext
      match a with
      | ⟨0, _⟩ => rfl
      | ⟨1, _⟩ => rfl
      | ⟨2, _⟩ => rfl
    rw [ei]
    exact congrArg₂ (fun u v : EReal => u * v) (v36_eq x0 x1 x2 R j e) (v36_eq x0 x1 x2 R j e)
  have e11 : (val_main_v47 (F := Ideal) x0 x1 x2 (ix3 R j d) : EReal) = root 0x43000000#32 (headOf x0 x1 x2 R 0 ⟨6 + j.val, by omega⟩) := by
    rw [val_main_v47_apply, val_main_v46_apply, val_main_v45_apply, val_main_v43_apply, val_main_v41_apply, val_main_v42_apply, val_main_v44_apply,
      e4 _ (by
        funext a; apply Fin.ext
        match a with
        | ⟨0, _⟩ => rfl
        | ⟨1, _⟩ => rfl)]
    rfl
  have e14 : (val_main_v50 (F := Ideal) x3 (ix3 R j d) : EReal) = x3 (ix2 1 d) := by
    rw [val_main_v50_apply, val_main_v49_apply, val_main_v38_apply, val_main_v37_apply]
    have := d.isLt
    refine congrArg x3 (funext fun a => Fin.ext ?_)
    match a with
    | ⟨0, _⟩ => rfl
    | ⟨1, _⟩ => show d.val % 128 = d.val; omega
  refine (show _ = (val_main_v36 (F := Ideal) x0 x1 x2 (ix3 R j d) : EReal)
    * (val_main_v47 (F := Ideal) x0 x1 x2 (ix3 R j d) : EReal) * (val_main_v50 (F := Ideal) x3 (ix3 R j d) : EReal) from rfl).trans ?_
  rw [e11, e14, v36_eq]

theorem v58_eq (R : Fin 8192) (j : Fin 6) (d : Fin 128) : (val_main_v58 (F := Ideal) x0 x1 x2 (ix3 R j d) : EReal)
    = headOf x0 x1 x2 R 1 ⟨0 + j.val, by omega⟩ d := by
  rw [val_main_v58_apply]
  refine (congrArg (val_main_v57 (F := Ideal) x0 x1 x2) (show _ = ix3 R ⟨0 + j.val, by omega⟩ d from ?_)).trans (v57_eq x0 x1 x2 R _ d)
  funext a; apply Fin.ext
  match a with
  | ⟨0, _⟩ => rfl
  | ⟨1, _⟩ => show j.val = 0 + j.val; omega
  | ⟨2, _⟩ => rfl

theorem v73_eq (R : Fin 8192) (j : Fin 6) (d : Fin 128) : (val_main_v73 (F := Ideal) x0 x1 x2 x4 (ix3 R j d) : EReal)
    = headOf x0 x1 x2 R 1 ⟨0 + j.val, by omega⟩ d * root 0x43000000#32 (headOf x0 x1 x2 R 1 ⟨0 + j.val, by omega⟩) * x4 (ix2 0 d) := by
  have e4 : ∀ i, i = ix2 R j → (val_main_v62 (F := Ideal) x0 x1 x2 i : EReal)
      = ∑ e : Fin 128, headOf x0 x1 x2 R 1 ⟨0 + j.val, by omega⟩ e * headOf x0 x1 x2 R 1 ⟨0 + j.val, by omega⟩ e := by
    rintro _ rfl
    rw [val_main_v62_apply]
    refine (congrArg (· + _) (show (val_main_cst_9 (F := Ideal) (Shape.Idx.first h_S_) : EReal) = 0 from Cert.StickSpec.ofBits_zero)).trans ?_
    rw [zero_add]
    refine Finset.sum_congr rfl fun e _ => ?_
    have ei : idx_main_v62 (ix2 R j) e = ix3 R j e := by
      funext a; apply Fin.ext
      match a with
      | ⟨0, _⟩ => rfl
      | ⟨1, _⟩ => rfl
      | ⟨2, _⟩ => rfl
    rw [ei]
    exact congrArg₂ (fun u v : EReal => u * v) (v58_eq x0 x1 x2 R j e) (v58_eq x0 x1 x2 R j e)
  have e11 : (val_main_v69 (F := Ideal) x0 x1 x2 (ix3 R j d) : EReal) = root 0x43000000#32 (headOf x0 x1 x2 R 1 ⟨0 + j.val, by omega⟩) := by
    rw [val_main_v69_apply, val_main_v68_apply, val_main_v67_apply, val_main_v65_apply, val_main_v63_apply, val_main_v64_apply, val_main_v66_apply,
      e4 _ (by
        funext a; apply Fin.ext
        match a with
        | ⟨0, _⟩ => rfl
        | ⟨1, _⟩ => rfl)]
    rfl
  have e14 : (val_main_v72 (F := Ideal) x4 (ix3 R j d) : EReal) = x4 (ix2 0 d) := by
    rw [val_main_v72_apply, val_main_v71_apply, val_main_v60_apply, val_main_v59_apply]
    have := d.isLt
    refine congrArg x4 (funext fun a => Fin.ext ?_)
    match a with
    | ⟨0, _⟩ => rfl
    | ⟨1, _⟩ => show d.val % 128 = d.val; omega
  refine (show _ = (val_main_v58 (F := Ideal) x0 x1 x2 (ix3 R j d) : EReal)
    * (val_main_v69 (F := Ideal) x0 x1 x2 (ix3 R j d) : EReal) * (val_main_v72 (F := Ideal) x4 (ix3 R j d) : EReal) from rfl).trans ?_
  rw [e11, e14, v58_eq]

theorem v74_eq (R : Fin 8192) (j : Fin 5) (d : Fin 128) : (val_main_v74 (F := Ideal) x0 x1 x2 (ix3 R j d) : EReal)
    = headOf x0 x1 x2 R 1 ⟨6 + j.val, by omega⟩ d := by
  rw [val_main_v74_apply]
  refine (congrArg (val_main_v57 (F := Ideal) x0 x1 x2) (show _ = ix3 R ⟨6 + j.val, by omega⟩ d from ?_)).trans (v57_eq x0 x1 x2 R _ d)
  funext a; apply Fin.ext
  match a with
  | ⟨0, _⟩ => rfl
  | ⟨1, _⟩ => rfl
  | ⟨2, _⟩ => rfl

theorem v89_eq (R : Fin 8192) (j : Fin 5) (d : Fin 128) : (val_main_v89 (F := Ideal) x0 x1 x2 x4 (ix3 R j d) : EReal)
    = headOf x0 x1 x2 R 1 ⟨6 + j.val, by omega⟩ d * root 0x43000000#32 (headOf x0 x1 x2 R 1 ⟨6 + j.val, by omega⟩) * x4 (ix2 1 d) := by
  have e4 : ∀ i, i = ix2 R j → (val_main_v78 (F := Ideal) x0 x1 x2 i : EReal)
      = ∑ e : Fin 128, headOf x0 x1 x2 R 1 ⟨6 + j.val, by omega⟩ e * headOf x0 x1 x2 R 1 ⟨6 + j.val, by omega⟩ e := by
    rintro _ rfl
    rw [val_main_v78_apply]
    refine (congrArg (· + _) (show (val_main_cst_12 (F := Ideal) (Shape.Idx.first h_S_) : EReal) = 0 from Cert.StickSpec.ofBits_zero)).trans ?_
    rw [zero_add]
    refine Finset.sum_congr rfl fun e _ => ?_
    have ei : idx_main_v78 (ix2 R j) e = ix3 R j e := by
      funext a; apply Fin.ext
      match a with
      | ⟨0, _⟩ => rfl
      | ⟨1, _⟩ => rfl
      | ⟨2, _⟩ => rfl
    rw [ei]
    exact congrArg₂ (fun u v : EReal => u * v) (v74_eq x0 x1 x2 R j e) (v74_eq x0 x1 x2 R j e)
  have e11 : (val_main_v85 (F := Ideal) x0 x1 x2 (ix3 R j d) : EReal) = root 0x43000000#32 (headOf x0 x1 x2 R 1 ⟨6 + j.val, by omega⟩) := by
    rw [val_main_v85_apply, val_main_v84_apply, val_main_v83_apply, val_main_v81_apply, val_main_v79_apply, val_main_v80_apply, val_main_v82_apply,
      e4 _ (by
        funext a; apply Fin.ext
        match a with
        | ⟨0, _⟩ => rfl
        | ⟨1, _⟩ => rfl)]
    rfl
  have e14 : (val_main_v88 (F := Ideal) x4 (ix3 R j d) : EReal) = x4 (ix2 1 d) := by
    rw [val_main_v88_apply, val_main_v87_apply, val_main_v76_apply, val_main_v75_apply]
    have := d.isLt
    refine congrArg x4 (funext fun a => Fin.ext ?_)
    match a with
    | ⟨0, _⟩ => rfl
    | ⟨1, _⟩ => show d.val % 128 = d.val; omega
  refine (show _ = (val_main_v74 (F := Ideal) x0 x1 x2 (ix3 R j d) : EReal)
    * (val_main_v85 (F := Ideal) x0 x1 x2 (ix3 R j d) : EReal) * (val_main_v88 (F := Ideal) x4 (ix3 R j d) : EReal) from rfl).trans ?_
  rw [e11, e14, v74_eq]

theorem v52_eq (R : Fin 8192) (j : Fin 5) (d : Fin 128) : (val_main_v52 (F := Ideal) x0 x1 x2 (ix3 R j d) : EReal)
    = headOf x0 x1 x2 R 0 ⟨11 + j.val, by omega⟩ d := by
  rw [val_main_v52_apply]
  refine (congrArg (val_main_v19 (F := Ideal) x0 x1 x2) (show _ = ix3 R ⟨11 + j.val, by omega⟩ d from ?_)).trans (v19_eq x0 x1 x2 R _ d)
  funext a; apply Fin.ext
  match a with
  | ⟨0, _⟩ => rfl
  | ⟨1, _⟩ => rfl
  | ⟨2, _⟩ => rfl

theorem v90_eq (R : Fin 8192) (j : Fin 5) (d : Fin 128) : (val_main_v90 (F := Ideal) x0 x1 x2 (ix3 R j d) : EReal)
    = headOf x0 x1 x2 R 1 ⟨11 + j.val, by omega⟩ d := by
  rw [val_main_v90_apply]
  refine (congrArg (val_main_v57 (F := Ideal) x0 x1 x2) (show _ = ix3 R ⟨11 + j.val, by omega⟩ d from ?_)).trans (v57_eq x0 x1 x2 R _ d)
  funext a; apply Fin.ext
  match a with
  | ⟨0, _⟩ => rfl
  | ⟨1, _⟩ => rfl
  | ⟨2, _⟩ => rfl

/-- The three groups of heads one after the other. -/
theorem stacked_apply (a : S8192x6x128.Idx → EReal) (b e : S8192x5x128.Idx → EReal)
    (hc : Shape.Concatenates [S8192x6x128, S8192x5x128, S8192x5x128] S8192x16x128 1) (R : Fin 8192) (h : Fin 16) (d : Fin 128) :
    concatenate S8192x16x128 1 [⟨S8192x6x128, a⟩, ⟨S8192x5x128, b⟩, ⟨S8192x5x128, e⟩] hc (ix3 R h d)
      = if h6 : h.val < 6 then a (ix3 R ⟨h.val, h6⟩ d) else if h11 : h.val < 11 then b (ix3 R ⟨h.val - 6, by omega⟩ d) else e (ix3 R ⟨h.val - 11, by omega⟩ d) := by
  split
  · rename_i h6
    exact concatenate_apply_piece (α := EReal) (t := S8192x16x128) (1 : Fin 3) [⟨S8192x6x128, a⟩, ⟨S8192x5x128, b⟩, ⟨S8192x5x128, e⟩] hc (ix3 R h d) 0 (by simp) S8192x6x128 a rfl rfl 0 rfl (ix3 R ⟨h.val, h6⟩ d)
        (fun b => match b with
          | ⟨0, _⟩ => fun _ => rfl
          | ⟨1, _⟩ => fun hb => absurd rfl hb
          | ⟨2, _⟩ => fun _ => rfl)
        (by show 0 + h.val = h.val; omega)
  · split
    · exact concatenate_apply_piece (α := EReal) (t := S8192x16x128) (1 : Fin 3) [⟨S8192x6x128, a⟩, ⟨S8192x5x128, b⟩, ⟨S8192x5x128, e⟩] hc (ix3 R h d) 1 (by simp) S8192x5x128 b rfl rfl 6 rfl (ix3 R ⟨h.val - 6, by omega⟩ d)
        (fun b => match b with
          | ⟨0, _⟩ => fun _ => rfl
          | ⟨1, _⟩ => fun hb => absurd rfl hb
          | ⟨2, _⟩ => fun _ => rfl)
        (by show 6 + (h.val - 6) = h.val; omega)
    · exact concatenate_apply_piece (α := EReal) (t := S8192x16x128) (1 : Fin 3) [⟨S8192x6x128, a⟩, ⟨S8192x5x128, b⟩, ⟨S8192x5x128, e⟩] hc (ix3 R h d) 2 (by simp) S8192x5x128 e rfl rfl 11 rfl (ix3 R ⟨h.val - 11, by omega⟩ d)
        (fun b => match b with
          | ⟨0, _⟩ => fun _ => rfl
          | ⟨1, _⟩ => fun hb => absurd rfl hb
          | ⟨2, _⟩ => fun _ => rfl)
        (by show 11 + (h.val - 11) = h.val; omega)

theorem section0_apply (a b e : S8192x1x16x128.Idx → EReal) (hc : Shape.Concatenates [S8192x1x16x128, S8192x1x16x128, S8192x1x16x128] S8192x3x16x128 1) (R : Fin 8192) (h : Fin 16) (d : Fin 128) :
    concatenate S8192x3x16x128 1 [⟨S8192x1x16x128, a⟩, ⟨S8192x1x16x128, b⟩, ⟨S8192x1x16x128, e⟩] hc (ix4 R 0 h d) = a (ix4 R 0 h d) :=
  concatenate_apply_piece (α := EReal) (t := S8192x3x16x128) (1 : Fin 4) [⟨S8192x1x16x128, a⟩, ⟨S8192x1x16x128, b⟩, ⟨S8192x1x16x128, e⟩] hc (ix4 R 0 h d) 0 (by simp) S8192x1x16x128 a rfl rfl 0 rfl (ix4 R 0 h d)
        (fun b => match b with
          | ⟨0, _⟩ => fun _ => rfl
          | ⟨1, _⟩ => fun hb => absurd rfl hb
          | ⟨2, _⟩ => fun _ => rfl
          | ⟨3, _⟩ => fun _ => rfl)
        (by show 0 + 0 = 0; omega)

theorem section1_apply (a b e : S8192x1x16x128.Idx → EReal) (hc : Shape.Concatenates [S8192x1x16x128, S8192x1x16x128, S8192x1x16x128] S8192x3x16x128 1) (R : Fin 8192) (h : Fin 16) (d : Fin 128) :
    concatenate S8192x3x16x128 1 [⟨S8192x1x16x128, a⟩, ⟨S8192x1x16x128, b⟩, ⟨S8192x1x16x128, e⟩] hc (ix4 R 1 h d) = b (ix4 R 0 h d) :=
  concatenate_apply_piece (α := EReal) (t := S8192x3x16x128) (1 : Fin 4) [⟨S8192x1x16x128, a⟩, ⟨S8192x1x16x128, b⟩, ⟨S8192x1x16x128, e⟩] hc (ix4 R 1 h d) 1 (by simp) S8192x1x16x128 b rfl rfl 1 rfl (ix4 R 0 h d)
        (fun b => match b with
          | ⟨0, _⟩ => fun _ => rfl
          | ⟨1, _⟩ => fun hb => absurd rfl hb
          | ⟨2, _⟩ => fun _ => rfl
          | ⟨3, _⟩ => fun _ => rfl)
        (by show 1 + 0 = 1; omega)

theorem section2_apply (a b e : S8192x1x16x128.Idx → EReal) (hc : Shape.Concatenates [S8192x1x16x128, S8192x1x16x128, S8192x1x16x128] S8192x3x16x128 1) (R : Fin 8192) (h : Fin 16) (d : Fin 128) :
    concatenate S8192x3x16x128 1 [⟨S8192x1x16x128, a⟩, ⟨S8192x1x16x128, b⟩, ⟨S8192x1x16x128, e⟩] hc (ix4 R 2 h d) = e (ix4 R 0 h d) :=
  concatenate_apply_piece (α := EReal) (t := S8192x3x16x128) (1 : Fin 4) [⟨S8192x1x16x128, a⟩, ⟨S8192x1x16x128, b⟩, ⟨S8192x1x16x128, e⟩] hc (ix4 R 2 h d) 2 (by simp) S8192x1x16x128 e rfl rfl 2 rfl (ix4 R 0 h d)
        (fun b => match b with
          | ⟨0, _⟩ => fun _ => rfl
          | ⟨1, _⟩ => fun hb => absurd rfl hb
          | ⟨2, _⟩ => fun _ => rfl
          | ⟨3, _⟩ => fun _ => rfl)
        (by show 2 + 0 = 2; omega)

/-- A head of section 0, normed where its kind asks for it, with its gain. -/
theorem v53_eq (R : Fin 8192) (h : Fin 16) (d : Fin 128) : (val_main_v53 (F := Ideal) x0 x1 x2 x3 (ix3 R h d) : EReal)
    = cell (flagAt 0 h.val) (headGain x3 h.val d) (headOf x0 x1 x2 R 0 h) d := by
  refine (stacked_apply _ _ _ concatenates_S8192x6x128_S8192x5x128_S8192x5x128_S8192x16x128_d1 R h d).trans ?_
  unfold headGain
  split
  · rename_i h6
    have hh : (⟨0 + h.val, by omega⟩ : Fin 16) = h := Fin.ext (Nat.zero_add _)
    rw [show flagAt 0 h.val = 1 from if_pos ⟨by decide, by omega⟩, cell_one]
    refine (v35_eq x0 x1 x2 x3 R ⟨h.val, h6⟩ d).trans ?_
    rw [hh]
  · rename_i h6
    split
    · rename_i h11
      have hh : (⟨6 + (h.val - 6), by omega⟩ : Fin 16) = h := Fin.ext (by show 6 + (h.val - 6) = h.val; omega)
      rw [show flagAt 0 h.val = 1 from if_pos ⟨by decide, by omega⟩, cell_one]
      refine (v51_eq x0 x1 x2 x3 R ⟨h.val - 6, by omega⟩ d).trans ?_
      rw [hh]
    · rename_i h11
      have hh : (⟨11 + (h.val - 11), by omega⟩ : Fin 16) = h := Fin.ext (by show 11 + (h.val - 11) = h.val; omega)
      rw [show flagAt 0 h.val = 0 from if_neg (fun q => h11 q.2), cell_zero, mul_one]
      refine (v52_eq x0 x1 x2 R ⟨h.val - 11, by omega⟩ d).trans ?_
      rw [hh]

/-- A head of section 1, normed where its kind asks for it, with its gain. -/
theorem v91_eq (R : Fin 8192) (h : Fin 16) (d : Fin 128) : (val_main_v91 (F := Ideal) x0 x1 x2 x4 (ix3 R h d) : EReal)
    = cell (flagAt 1 h.val) (headGain x4 h.val d) (headOf x0 x1 x2 R 1 h) d := by
  refine (stacked_apply _ _ _ concatenates_S8192x6x128_S8192x5x128_S8192x5x128_S8192x16x128_d1 R h d).trans ?_
  unfold headGain
  split
  · rename_i h6
    have hh : (⟨0 + h.val, by omega⟩ : Fin 16) = h := Fin.ext (Nat.zero_add _)
    rw [show flagAt 1 h.val = 1 from if_pos ⟨by decide, by omega⟩, cell_one]
    refine (v73_eq x0 x1 x2 x4 R ⟨h.val, h6⟩ d).trans ?_
    rw [hh]
  · rename_i h6
    split
    · rename_i h11
      have hh : (⟨6 + (h.val - 6), by omega⟩ : Fin 16) = h := Fin.ext (by show 6 + (h.val - 6) = h.val; omega)
      rw [show flagAt 1 h.val = 1 from if_pos ⟨by decide, by omega⟩, cell_one]
      refine (v89_eq x0 x1 x2 x4 R ⟨h.val - 6, by omega⟩ d).trans ?_
      rw [hh]
    · rename_i h11
      have hh : (⟨11 + (h.val - 11), by omega⟩ : Fin 16) = h := Fin.ext (by show 11 + (h.val - 11) = h.val; omega)
      rw [show flagAt 1 h.val = 0 from if_neg (fun q => h11 q.2), cell_zero, mul_one]
      refine (v90_eq x0 x1 x2 R ⟨h.val - 11, by omega⟩ d).trans ?_
      rw [hh]

theorem v55_eq (R : Fin 8192) (h : Fin 16) (d : Fin 128) : (val_main_v55 (F := Ideal) x0 x1 x2 x3 (ix3 R h d) : EReal)
    = cell (flagAt 0 h.val) (headGain x3 h.val d * scale) (headOf x0 x1 x2 R 0 h) d := by
  refine (show _ = (val_main_v53 (F := Ideal) x0 x1 x2 x3 (ix3 R h d) : EReal) * (val_main_v54 (F := Ideal) (ix3 R h d) : EReal) from rfl).trans ?_
  rw [v53_eq, show (val_main_v54 (F := Ideal) (ix3 R h d) : EReal) = scale from val_main_v54_apply _]
  unfold cell
  rw [mul_assoc]

/-- The reference's result. -/
theorem result_eq (R : Fin 8192) (s : Fin 3) (h : Fin 16) (d : Fin 128) (C : Fin 6144) (hC : C.val = 2048 * s.val + 128 * h.val + d.val) :
    (val_main_v99 (F := Ideal) x0 x1 x2 x3 x4 (ix2 R C) : EReal)
    = cell (flagAt s.val h.val) (gainAt x3 x4 s.val h.val d) (headOf x0 x1 x2 R s h) d := by
  refine (show _ = (val_main_v98 (F := Ideal) x0 x1 x2 x3 x4 (ix2 R C) : EReal) from rfl).trans ?_
  rw [val_main_v98_apply]
  refine (congrArg (val_main_v97 (F := Ideal) x0 x1 x2 x3 x4) (show _ = ix4 R s h d from ?_)).trans ?_
  · have := R.isLt; have := s.isLt; have := h.isLt; have := d.isLt
    funext a; apply Fin.ext
    match a with
    | ⟨0, _⟩ => show (R.val * 6144 + C.val) / 6144 = R.val; omega
    | ⟨1, _⟩ => show (R.val * 6144 + C.val) / 2048 % 3 = s.val; omega
    | ⟨2, _⟩ => show (R.val * 6144 + C.val) / 128 % 16 = h.val; omega
    | ⟨3, _⟩ => show (R.val * 6144 + C.val) % 128 = d.val; omega
  match s with
  | ⟨0, _⟩ =>
    refine (section0_apply _ _ _ concatenates_S8192x1x16x128_S8192x1x16x128_S8192x1x16x128_S8192x3x16x128_d1 R h d).trans ?_
    rw [val_main_v94_apply]
    refine (congrArg (val_main_v55 (F := Ideal) x0 x1 x2 x3) (show _ = ix3 R h d from ?_)).trans ((v55_eq x0 x1 x2 x3 R h d).trans ?_)
    · funext a; apply Fin.ext
      match a with
      | ⟨0, _⟩ => rfl
      | ⟨1, _⟩ => rfl
      | ⟨2, _⟩ => rfl
    · exact congrArg (fun g => cell (flagAt 0 h.val) g (headOf x0 x1 x2 R 0 h) d) (gainAt_zero x3 x4 h.val d).symm
  | ⟨1, _⟩ =>
    refine (section1_apply _ _ _ concatenates_S8192x1x16x128_S8192x1x16x128_S8192x1x16x128_S8192x3x16x128_d1 R h d).trans ?_
    rw [val_main_v95_apply]
    refine (congrArg (val_main_v91 (F := Ideal) x0 x1 x2 x4) (show _ = ix3 R h d from ?_)).trans ((v91_eq x0 x1 x2 x4 R h d).trans ?_)
    · funext a; apply Fin.ext
      match a with
      | ⟨0, _⟩ => rfl
      | ⟨1, _⟩ => rfl
      | ⟨2, _⟩ => rfl
    · exact congrArg (fun g => cell (flagAt 1 h.val) g (headOf x0 x1 x2 R 1 h) d) (gainAt_one x3 x4 h.val d).symm
  | ⟨2, _⟩ =>
    refine (section2_apply _ _ _ concatenates_S8192x1x16x128_S8192x1x16x128_S8192x1x16x128_S8192x3x16x128_d1 R h d).trans ?_
    rw [val_main_v96_apply]
    refine (congrArg (val_main_v93 (F := Ideal) x0 x1 x2) (show _ = ix3 R h d from ?_)).trans ((v93_eq x0 x1 x2 R h d).trans ?_)
    · funext a; apply Fin.ext
      match a with
      | ⟨0, _⟩ => rfl
      | ⟨1, _⟩ => rfl
      | ⟨2, _⟩ => rfl
    · exact (cell_two x3 x4 h.val d _).symm

end Cert.Reference5Ideal.Qkv

end
-- ==== Proof.QkvOut.lean ====
/- The projection's result at exact values: one point's arithmetic, the blocks it is given, the normed rows it carries from
   section to section, and the whole result, which is the reference's. -/
module

public import proofs.«01_k».proof.Proof.QkvRun
public import proofs.«01_k».proof.Proof.QkvRows
public import proofs.«01_k».proof.Proof.QkvRef

@[expose] public section

set_option maxRecDepth 16384

noncomputable section

namespace Cert.Kernel5Ideal.Qkv

open Idealize.ShloMosaic Idealize.ShloMosaic.TcCoe
open Idealize.ShloMosaic.ValueIdx
open Idealize.ShloMosaic.Pipeline (Dat)
open Idealize.ShloMosaic.StableHlo
open Cert.Kernel5Ideal Cert.Kernel5Ideal.Gen
open Cert.ProjSpec Cert.QkvSpec

/-! ## One point's arithmetic -/

theorem pay2_apply (v : FVec Ideal S1024x2048 .f32) (g : FVec Ideal S1x2048 .f32) (p : Fin 1024) (D : Fin 2048) : (k0_pay2 (F := Ideal) v g (ix2 p D) : EReal)
    = normed (fun e => v (ix2 p e)) (fun e => g (ix2 0 e)) D := by
  have hs : (shapeCast S1024x1 (multiReduction .add [1] S1024 (mulf v v) 0x00000000#32 reduces_S1024x2048_S1024 (.inl rfl) rfl)
      shapeCasts_S1024_S1024x1 (ix2 p 0) : EReal) = ∑ e : Fin 2048, (v (ix2 p e) : EReal) * v (ix2 p e) := by
    refine (shapeCast_apply _ _ _ (ix1 p) (by
      rw [Shape.rowMajor_val_one, Shape.rowMajor_val_two]; show p.val = p.val * 1 + 0; omega)).trans ?_
    refine (Ideal.multiReduction_add_single _ _ reduces_S1024x2048_S1024 _ _ (ix1 p)).trans ?_
    refine Finset.sum_congr rfl fun t _ => congrArg (fun i => (v i * v i : EReal)) ?_
    funext a; apply Fin.ext
    fin_cases a <;> rfl
  have hb1 : ∀ u : FVec Ideal S1024x1 .f32, broadcastTo S1024x2048 u broadcasts_S1024x1_S1024x2048 (ix2 p D) = u (ix2 p 0) :=
    fun u => broadcastTo_apply _ _ _ _ fun a => by fin_cases a <;> rfl
  have hb2 : ∀ u : FVec Ideal S1x2048 .f32, broadcastTo S1024x2048 u broadcasts_S1x2048_S1024x2048 (ix2 p D) = u (ix2 0 D) :=
    fun u => broadcastTo_apply _ _ _ _ fun a => by fin_cases a <;> rfl
  have e : (k0_pay2 (F := Ideal) v g (ix2 p D) : EReal) = (v (ix2 p D) : EReal)
      * (broadcastTo S1024x2048 (rsqrt (addf (divf (shapeCast S1024x1 (multiReduction .add [1] S1024 (mulf v v) 0x00000000#32
          reduces_S1024x2048_S1024 (.inl rfl) rfl) shapeCasts_S1024_S1024x1) (broadcast S1024x1 (Scalar.ofBits .f32 0x45000000#32)))
          (broadcast S1024x1 (Scalar.ofBits .f32 0x358637BD#32)))) broadcasts_S1024x1_S1024x2048 (ix2 p D) : EReal)
      * (broadcastTo S1024x2048 (shapeCast S1x2048 g shapeCasts_S1x2048_S1x2048) broadcasts_S1x2048_S1024x2048 (ix2 p D) : EReal) := by
    unfold k0_pay2
    exact shapeCast_apply _ _ (ix2 p D) (ix2 p D) rfl
  rw [e, hb1, hb2, show (shapeCast S1x2048 g shapeCasts_S1x2048_S1x2048 (ix2 0 D) : EReal) = g (ix2 0 D) from
    shapeCast_apply g shapeCasts_S1x2048_S1x2048 (ix2 0 D) (ix2 0 D) rfl]
  unfold normed root
  rw [← hs]
  rfl

theorem pay3_apply (v : FVec Ideal S1024x2048 .bf16) (w : FVec Ideal S1x2048x2048 .bf16) (p : Fin 1024) (D : Fin 2048) :
    (k0_pay3 (F := Ideal) v w (ix2 p D) : EReal) = ∑ k : Fin 2048, (v (ix2 p k) : EReal) * w (ix3 0 k D) := by
  refine (Ideal.matmul_plain_apply (M := 1024) (K := 2048) (N := 2048) none _ _ _ p D).trans ?_
  rw [show (constant S1024x2048 .f32 0x00000000#32 : FVec Ideal S1024x2048 .f32) (ix2 p D) = (0 : EReal) from
    Cert.StickSpec.ofBits_zero.trans EReal.coe_zero, zero_add]
  refine Finset.sum_congr rfl fun k _ => congrArg₂ (fun u v : EReal => u * v) rfl ?_
  exact shapeCast_apply w shapeCasts_S1x2048x2048_S2048x2048 (ix2 k D) (ix3 0 k D) (by
    rw [Shape.rowMajor_val_three, Shape.rowMajor_val_two]
    show (0 * 2048 + k.val) * 2048 + D.val = k.val * 2048 + D.val; omega)

attribute [local irreducible] k0_pay2 k0_pay3 iblk out0_A_5 out0_B_5 sout0_A_0

/-! ## Where each point's blocks lie -/

variable (m : (ℓ : Loc nD τ sig) → Buf (Elt Ideal) ℓ) (c : Dev nD)

theorem index0 : ∀ t : Fin cfg0.N, (cfg0.win 0).index t = ![t.val / 3, 0] := (by decide +kernel : ∀ t : Fin grid0.N, cc0_transform_0 (grid0.coords t) = ![t.val / 3, 0])
theorem index1 : ∀ t : Fin cfg0.N, (cfg0.win 1).index t = ![0, 0] := (by decide +kernel : ∀ t : Fin grid0.N, cc0_transform_1 (grid0.coords t) = ![0, 0])
theorem index2 : ∀ t : Fin cfg0.N, (cfg0.win 2).index t = ![0, 0, t.val % 3] := (by decide +kernel : ∀ t : Fin grid0.N, cc0_transform_2 (grid0.coords t) = ![0, 0, t.val % 3])
theorem index3 : ∀ t : Fin cfg0.N, (cfg0.win 3).index t = ![0, t.val % 3] := (by decide +kernel : ∀ t : Fin grid0.N, cc0_transform_3 (grid0.coords t) = ![0, t.val % 3])
theorem index4 : ∀ t : Fin cfg0.N, (cfg0.win 4).index t = ![0, t.val % 3] := (by decide +kernel : ∀ t : Fin grid0.N, cc0_transform_4 (grid0.coords t) = ![0, t.val % 3])
theorem index5 : ∀ t : Fin cfg0.N, (cfg0.win 5).index t = ![t.val / 3, t.val % 3] := (by decide +kernel : ∀ t : Fin grid0.N, cc0_transform_5 (grid0.coords t) = ![t.val / 3, t.val % 3])

theorem lt24 (t : Fin cfg0.N) : t.val < 24 := lt_of_lt_of_eq t.isLt (show cfg0.N = 24 from N_0)

/-- Row `p` of point `n`. -/
abbrev row (n : ℕ) (h : n < 24) (p : Fin 1024) : Fin 8192 := ⟨1024 * (n / 3) + p.val, by omega⟩

/-- Column `D` of point `n`'s section. -/
abbrev col (n : ℕ) (D : Fin 2048) : Fin 6144 := ⟨2048 * (n % 3) + D.val, by omega⟩

section Point

variable (t : Fin cfg0.N) (p : Fin 1024)

theorem block0 (k : Fin 2048) : (iblk m c 0 t : FVec Ideal S1024x2048 .f32) (ix2 p k) = hs m c (ix2 (row t.val (lt24 t) p) k) := by
  have hi := index0 t
  blk_simp [iblk]
  refine congrArg (hs m c) ?_
  funext a; apply Fin.ext
  match a with
  | ⟨0, _⟩ => blk_simp [hi]; show t.val / 3 * 1024 + p.val = 1024 * (t.val / 3) + p.val; omega
  | ⟨1, _⟩ => blk_simp [hi]

theorem block1 (k : Fin 2048) : (iblk m c 1 t : FVec Ideal S1x2048 .f32) (ix2 0 k) = ga m c (ix1 k) := by
  have hi := index1 t
  refine Eq.trans ?_ (norm_apply m c k)
  blk_simp [iblk]
  refine congrArg (V m c main_v35 : FVec Ideal S1x2048 .f32) ?_
  funext a; apply Fin.ext
  match a with
  | ⟨0, _⟩ => blk_simp [hi]
  | ⟨1, _⟩ => blk_simp [hi]

theorem block2 (k D : Fin 2048) : (iblk m c 2 t : FVec Ideal S1x2048x2048 .bf16) (ix3 0 k D) = wi m c (ix3 0 k (col t.val D)) := by
  have hi := index2 t
  blk_simp [iblk]
  refine congrArg (wi m c) ?_
  funext a; apply Fin.ext
  match a with
  | ⟨0, _⟩ => blk_simp [hi]; rfl
  | ⟨1, _⟩ => blk_simp [hi]
  | ⟨2, _⟩ => blk_simp [hi]; show t.val % 3 * 2048 + D.val = 2048 * (t.val % 3) + D.val; omega

theorem block3 (D : Fin 2048) : (iblk m c 3 t : FVec Ideal S1x2048 .f32) (ix2 0 D)
    = gainAt (qg m c) (kg m c) (t.val % 3) (D.val / 128) ⟨D.val % 128, Nat.mod_lt _ (by decide)⟩ := by
  have hi := index3 t
  refine Eq.trans ?_ (gain_apply m c ⟨t.val % 3, Nat.mod_lt _ (by decide)⟩ D (col t.val D) rfl)
  blk_simp [iblk]
  refine congrArg (V m c main_v33 : FVec Ideal S1x6144 .f32) ?_
  funext a; apply Fin.ext
  match a with
  | ⟨0, _⟩ => blk_simp [hi]
  | ⟨1, _⟩ => blk_simp [hi]; show t.val % 3 * 2048 + D.val = 2048 * (t.val % 3) + D.val; omega

theorem block4 (D : Fin 2048) : (iblk m c 4 t : FVec Ideal S1x2048 .f32) (ix2 0 D) = flagAt (t.val % 3) (D.val / 128) := by
  have hi := index4 t
  refine Eq.trans ?_ (flag_apply m c ⟨t.val % 3, Nat.mod_lt _ (by decide)⟩ D (col t.val D) rfl)
  blk_simp [iblk]
  refine congrArg (V m c main_v34 : FVec Ideal S1x6144 .f32) ?_
  funext a; apply Fin.ext
  match a with
  | ⟨0, _⟩ => blk_simp [hi]
  | ⟨1, _⟩ => blk_simp [hi]; show t.val % 3 * 2048 + D.val = 2048 * (t.val % 3) + D.val; omega

end Point

/-! ## The normed rows a point leaves for the next -/

/-- A normed row of the argument. -/
abbrev nrow (R : Fin 8192) (k : Fin 2048) : EReal := normed (fun e => hs m c (ix2 R e)) (fun e => ga m c (ix1 e)) k

theorem fresh_apply (t : Fin cfg0.N) (p : Fin 1024) (k : Fin 2048) :
    (k0_pay2 (F := Ideal) (iblk m c 0 t) (iblk m c 1 t) (ix2 p k) : EReal) = nrow m c (row t.val (lt24 t) p) k := by
  refine (pay2_apply _ _ p k).trans ?_
  rw [funext fun e => block0 m c t p e, funext fun e => block1 m c t e]

theorem carried_apply : ∀ (n : ℕ) (h : n < cfg0.N) (p : Fin 1024) (k : Fin 2048),
    ((outsAt0 m c n h).2 (ix2 p k) : EReal) = nrow m c (row n (lt24 ⟨n, h⟩) p) k
  | n, h, p, k => by
    by_cases h0 : n % 3 = 0
    · refine (congrArg (fun o => (o.2 (ix2 p k) : EReal)) (outsAt0_A m c ⟨n, h⟩ h0)).trans ?_
      refine (congrFun (soutA_eq ..) (ix2 p k)).trans ?_
      exact fresh_apply m c ⟨n, h⟩ p k
    · refine (congrArg (fun o => (o.2 (ix2 p k) : EReal)) (outsAt0_B m c ⟨n, h⟩ h0)).trans ?_
      refine (carried_apply (n - 1) _ p k).trans ?_
      refine congrArg (fun R => nrow m c R k) (Fin.ext ?_)
      show 1024 * ((n - 1) / 3) + p.val = 1024 * (n / 3) + p.val
      omega
  termination_by n => n
  decreasing_by omega

/-! ## The result -/

/-- One stored element, from the normed rows the point reads. -/
theorem stored_apply (t : Fin cfg0.N) (v : FVec Ideal S1024x2048 .bf16) (hv : ∀ p k, (v (ix2 p k) : EReal) = nrow m c (row t.val (lt24 t) p) k)
    (p : Fin 1024) (D : Fin 2048) :
    outAt (k0_pay3 (F := Ideal) v (iblk m c 2 t)) (iblk m c 3 t) (iblk m c 4 t) (ix2 p D)
    = cell (flagAt (t.val % 3) (D.val / 128)) (gainAt (qg m c) (kg m c) (t.val % 3) (D.val / 128) ⟨D.val % 128, Nat.mod_lt _ (by decide)⟩)
      (Cert.Reference5Ideal.Qkv.headOf (hs m c) (ga m c) (wi m c) (row t.val (lt24 t) p) ⟨t.val % 3, Nat.mod_lt _ (by decide)⟩ ⟨D.val / 128, by omega⟩)
      ⟨D.val % 128, Nat.mod_lt _ (by decide)⟩ := by
  have hh : headOf (fun C => (k0_pay3 (F := Ideal) v (iblk m c 2 t) (ix2 p C) : EReal)) D
      = Cert.Reference5Ideal.Qkv.headOf (hs m c) (ga m c) (wi m c) (row t.val (lt24 t) p) ⟨t.val % 3, Nat.mod_lt _ (by decide)⟩ ⟨D.val / 128, by omega⟩ := by
    funext d
    refine (pay3_apply v (iblk m c 2 t) p ⟨128 * (D.val / 128) + d.val, by omega⟩).trans ?_
    unfold Cert.Reference5Ideal.Qkv.headOf Cert.Reference5Ideal.Qkv.preOf pre
    refine Finset.sum_congr rfl fun k _ => congrArg₂ (fun u v : EReal => u * v) (hv p k) ?_
    refine (block2 m c t k ⟨128 * (D.val / 128) + d.val, by omega⟩).trans ?_
    refine congrArg (fun C => (wi m c (ix3 0 k C) : EReal)) (Fin.ext ?_)
    show 2048 * (t.val % 3) + (128 * (D.val / 128) + d.val) = 2048 * (t.val % 3) + 128 * (D.val / 128) + d.val
    omega
  refine (show _ = cell ((iblk m c 4 t : FVec Ideal S1x2048 .f32) (ix2 0 D)) ((iblk m c 3 t : FVec Ideal S1x2048 .f32) (ix2 0 D))
    (headOf (fun C => (k0_pay3 (F := Ideal) v (iblk m c 2 t) (ix2 p C) : EReal)) D) ⟨D.val % 128, Nat.mod_lt _ (by decide)⟩ from rfl).trans ?_
  rw [block4, block3, hh]

/-- What a point leaves in its block of the result. -/
theorem point_apply (t : Fin cfg0.N) (p : Fin 1024) (D : Fin 2048) : ((outsAt0 m c t.val t.isLt).1 (ix2 p D) : EReal)
    = Cert.Reference5Ideal.Read.val_main_v99 (F := Ideal) (hs m c) (ga m c) (wi m c) (qg m c) (kg m c) (ix2 (row t.val (lt24 t) p) (col t.val D)) := by
  refine Eq.trans ?_ (Cert.Reference5Ideal.Qkv.result_eq (hs m c) (ga m c) (wi m c) (qg m c) (kg m c) (row t.val (lt24 t) p)
    ⟨t.val % 3, Nat.mod_lt _ (by decide)⟩ ⟨D.val / 128, by omega⟩ ⟨D.val % 128, Nat.mod_lt _ (by decide)⟩ (col t.val D) (by
      show 2048 * (t.val % 3) + D.val = 2048 * (t.val % 3) + 128 * (D.val / 128) + D.val % 128; omega)).symm
  by_cases h0 : t.val % 3 = 0
  · refine (congrArg (fun o => (o.1 (ix2 p D) : EReal)) (outsAt0_A m c t h0)).trans ?_
    refine (outA_apply ..).trans ?_
    exact stored_apply m c t _ (fun p k => fresh_apply m c t p k) p D
  · refine (congrArg (fun o => (o.1 (ix2 p D) : EReal)) (outsAt0_B m c t h0)).trans ?_
    refine (outB_apply ..).trans ?_
    refine stored_apply m c t _ (fun p k => ?_) p D
    refine (carried_apply m c (t.val - 1) _ p k).trans ?_
    refine congrArg (fun R => nrow m c R k) (Fin.ext ?_)
    show 1024 * ((t.val - 1) / 3) + p.val = 1024 * (t.val / 3) + p.val
    omega

theorem covers5 : (cfg0.win 5).Covers := by
  refine ⟨fun a => ?_, fun β => ?_⟩
  · match a with
    | ⟨0, _⟩ => exact (by decide : 0 < 1024)
    | ⟨1, _⟩ => exact (by decide : 0 < 2048)
  have h0 : (β ⟨0, Nat.two_pos⟩).val < (8192 + 1024 - 1) / 1024 := (β ⟨0, Nat.two_pos⟩).isLt
  have h1 : (β ⟨1, Nat.one_lt_two⟩).val < (6144 + 2048 - 1) / 2048 := (β ⟨1, Nat.one_lt_two⟩).isLt
  refine ⟨⟨3 * (β ⟨0, Nat.two_pos⟩).val + (β ⟨1, Nat.one_lt_two⟩).val, lt_of_lt_of_eq (by omega) (show 24 = cfg0.N from N_0.symm)⟩, flush0_5 _, fun a => ⟨?_, .inl rfl⟩⟩
  rw [index5]
  match a with
  | ⟨0, _⟩ => show (3 * (β ⟨0, Nat.two_pos⟩).val + (β ⟨1, Nat.one_lt_two⟩).val) / 3 = (β ⟨0, Nat.two_pos⟩).val; omega
  | ⟨1, _⟩ => show (3 * (β ⟨0, Nat.two_pos⟩).val + (β ⟨1, Nat.one_lt_two⟩).val) % 3 = (β ⟨1, Nat.one_lt_two⟩).val; omega

theorem split2 (y : S1024x2048.Idx) : y = ix2 (⟨(y 0).val, (y 0).isLt⟩ : Fin 1024) (⟨(y 1).val, (y 1).isLt⟩ : Fin 2048) := by
  funext a
  match a with
  | ⟨0, _⟩ => rfl
  | ⟨1, _⟩ => rfl

/-- The result is the reference's. -/
theorem final5 : (dats m 0 c).arrAt 5 cfg0.N
    = Cert.Reference5Ideal.Read.val_main_v99 (F := Ideal) (hs m c) (ga m c) (wi m c) (qg m c) (kg m c) := by
  refine (dats m 0 c).arrAt_eq_of_covers (5 : Fin 6) _ covers5 fun t hf y => ?_
  have hi := index5 t
  blk_simp
  rw [after0_5]
  have h0 : (y 0).val < 1024 := (y 0).isLt
  have h1 : (y 1).val < 2048 := (y 1).isLt
  refine (congrArg (outsAt0 m c t.val t.isLt).1 (split2 y)).trans ?_
  refine (point_apply m c t ⟨(y 0).val, h0⟩ ⟨(y 1).val, h1⟩).trans ?_
  refine congrArg (Cert.Reference5Ideal.Read.val_main_v99 (F := Ideal) (hs m c) (ga m c) (wi m c) (qg m c) (kg m c)) ?_
  funext a; apply Fin.ext
  match a with
  | ⟨0, _⟩ => blk_simp [hi]; show 1024 * (t.val / 3) + (y 0).val = t.val / 3 * 1024 + (y 0).val; omega
  | ⟨1, _⟩ => blk_simp [hi]; show 2048 * (t.val % 3) + (y 1).val = t.val % 3 * 2048 + (y 1).val; omega

end Cert.Kernel5Ideal.Qkv

end
-- ==== Proof.lean ====
/- The stick-breaking attention kernel, its idealization and the plain reference: all three run and leave their arguments
   and semaphores as they were, the idealization is the kernel with one constant named, and at exact values the kernel's
   two results are the reference's. The same for the experts' kernel, whose result
   is its reference's whenever every tile names an expert and some tile is in use, for the dense feed-forward's, and for the two projections'. -/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Pre_tables_ok
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.StickFrame
public import proofs.«01_k».proof.Proof.StickOut
public import proofs.«01_k».proof.Proof.MoeBitsFrame
public import proofs.«01_k».proof.Proof.MoeOut
public import proofs.«01_k».proof.Proof.DenseOut
public import proofs.«01_k».proof.Proof.ProjOut
public import proofs.«01_k».proof.Proof.QkvOut
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Idealize.ShloMosaic.ValueIdx

/-! ## The frames -/

theorem frame_kernel : Cert.quiescent_Kernel (hKernel := Cert.Kernel.Gen.facts) := fun m g _ => Cert.Kernel.Stick.frame m g

theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.KernelIdeal.Stick.run m g)

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun _ h => ⟨fun c => (h c).2.2, sem_eq_zero_of_no_sems (by decide) _⟩) (Cert.ReferenceIdeal.Value.run m g)

/-! ## The value claim -/

theorem value : Cert.algebraic_KernelIdeal_ReferenceIdeal (hKernelIdeal := Cert.KernelIdeal.Gen.facts)
    (hReferenceIdeal := Cert.ReferenceIdeal.Gen.facts) := fun m g m' g' _ harg =>
  ⟨fun c => Cert.ReferenceIdeal.Read.val_main_v52 (F := Ideal) (Cert.KernelIdeal.Stick.rows0 m c) (Cert.KernelIdeal.Stick.gains m c),
    fun c => Cert.ReferenceIdeal.Read.val_main_v53 (F := Ideal) (m ((c.tc : Thread Cert.KernelIdeal.nD Cert.KernelIdeal.τ).loc Cert.KernelIdeal.main_arg2)),
    (θ_run Cert.KernelIdeal.defs _ _).mono (fun _ h c => ⟨(h.1 c).1.1.trans (Cert.KernelIdeal.Stick.final5 m c), (h.1 c).1.2.trans (Cert.KernelIdeal.Stick.final6 m c), (h.1 c).2⟩) (Cert.KernelIdeal.Stick.run m g),
    (θ_run Cert.ReferenceIdeal.defs _ _).mono (fun _ h c => ⟨(h c).1.trans ((Cert.ReferenceIdeal.Read.val_main_v52_eq m' c).trans
        (congrArg₂ (Cert.ReferenceIdeal.Read.val_main_v52 (F := Ideal)) (harg c).1 (harg c).2.1)),
      (h c).2.1.trans (congrArg (Cert.ReferenceIdeal.Read.val_main_v53 (F := Ideal)) (harg c).2.2), (h c).2.2⟩) (Cert.ReferenceIdeal.Value.run m' g')⟩

/-! ## The experts -/

theorem frame_experts : Cert.quiescent_Kernel2 (hKernel2 := Cert.Kernel2.Gen.facts) (hPre_tables_ok := Cert.Pre_tables_ok.Gen.facts) :=
  fun m g h => Cert.Kernel2.Moe.frame m g (letI := Cert.Pre_tables_ok.Gen.facts; Cert.Kernel2.Moe.good_of_pre _ _ _ _ _ _ (h 0))

theorem good_ideal (m : (ℓ : Loc Cert.Kernel2Ideal.nD Cert.Kernel2Ideal.τ Cert.Kernel2Ideal.sig) → Buf (Elt Ideal) ℓ)
    (h : Cert.Pre_Kernel2Ideal (hPre_tables_ok := Cert.Pre_tables_ok.Gen.facts) m) : Cert.Kernel2Ideal.Moe.GoodAt m :=
  letI := Cert.Pre_tables_ok.Gen.facts; Cert.Kernel2Ideal.Moe.good_of_pre _ _ _ _ _ _ (h 0)

theorem frame_experts_ideal : Cert.quiescent_Kernel2Ideal (hKernel2Ideal := Cert.Kernel2Ideal.Gen.facts) (hPre_tables_ok := Cert.Pre_tables_ok.Gen.facts) :=
  fun m g h => Cert.Kernel2Ideal.Moe.frame m g (good_ideal m h)

theorem frame_experts_reference (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun _ h => ⟨fun c => (h c).2, sem_eq_zero_of_no_sems (by decide) _⟩) (Cert.Reference2Ideal.Value.run m g)

theorem congr6 {A0 A1 A2 A3 A4 A5 B : Type} (f : A0 → A1 → A2 → A3 → A4 → A5 → B) {a0 b0 : A0} {a1 b1 : A1} {a2 b2 : A2} {a3 b3 : A3}
    {a4 b4 : A4} {a5 b5 : A5} (h0 : a0 = b0) (h1 : a1 = b1) (h2 : a2 = b2) (h3 : a3 = b3) (h4 : a4 = b4) (h5 : a5 = b5) :
    f a0 a1 a2 a3 a4 a5 = f b0 b1 b2 b3 b4 b5 := by
  subst h0 h1 h2 h3 h4 h5; rfl

theorem value_experts : Cert.algebraic_Kernel2Ideal_Reference2Ideal (hKernel2Ideal := Cert.Kernel2Ideal.Gen.facts)
    (hReference2Ideal := Cert.Reference2Ideal.Gen.facts) (hPre_tables_ok := Cert.Pre_tables_ok.Gen.facts) := fun m g m' g' hpre harg =>
  ⟨fun c => Cert.Reference2Ideal.Read.val_main_v28 (F := Ideal) (Cert.Kernel2Ideal.Moe.tabs m 0) (Cert.Kernel2Ideal.Moe.tabs m 1) (Cert.Kernel2Ideal.Moe.xs m c)
      (Cert.Kernel2Ideal.Moe.wg m c) (Cert.Kernel2Ideal.Moe.wu m c) (Cert.Kernel2Ideal.Moe.wd m c),
    (θ_run Cert.Kernel2Ideal.defs _ _).mono (fun _ h c => ⟨(h.1 c).1.trans (Cert.Kernel2Ideal.Moe.final4 m (good_ideal m hpre) c), (h.1 c).2⟩)
      (Cert.Kernel2Ideal.Moe.run (Cert.Kernel2Ideal.Moe.adm m (good_ideal m hpre)) m g (Cert.Kernel2Ideal.Moe.holds m (good_ideal m hpre))),
    (θ_run Cert.Reference2Ideal.defs _ _).mono (fun _ h c => ⟨(h c).1.trans ((Cert.Reference2Ideal.Read.val_main_v28_eq _ _ _ _ _ _).trans
        (congr6 (Cert.Reference2Ideal.Read.val_main_v28 (F := Ideal))
          ((harg c).1.trans (Cert.Kernel2Ideal.Moe.holds m (good_ideal m hpre) c).1) ((harg c).2.1.trans (Cert.Kernel2Ideal.Moe.holds m (good_ideal m hpre) c).2)
          (harg c).2.2.1 (harg c).2.2.2.1 (harg c).2.2.2.2.1 (harg c).2.2.2.2.2)), (h c).2⟩) (Cert.Reference2Ideal.Value.run m' g')⟩

/-! ## The dense feed-forward -/

theorem frame_dense_reference (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun _ h => ⟨fun c => (h c).2, sem_eq_zero_of_no_sems (by decide) _⟩) (Cert.Reference3Ideal.Value.run m g)

theorem congr5 {A0 A1 A2 A3 A4 B : Type} (f : A0 → A1 → A2 → A3 → A4 → B) {a0 b0 : A0} {a1 b1 : A1} {a2 b2 : A2} {a3 b3 : A3}
    {a4 b4 : A4} (h0 : a0 = b0) (h1 : a1 = b1) (h2 : a2 = b2) (h3 : a3 = b3) (h4 : a4 = b4) :
    f a0 a1 a2 a3 a4 = f b0 b1 b2 b3 b4 := by
  subst h0 h1 h2 h3 h4; rfl

theorem value_dense : Cert.algebraic_Kernel3Ideal_Reference3Ideal (hKernel3Ideal := Cert.Kernel3Ideal.Gen.facts)
    (hReference3Ideal := Cert.Reference3Ideal.Gen.facts) := fun m g m' g' _ harg =>
  ⟨fun c => Cert.Reference3Ideal.Read.val_main_v9 (F := Ideal) (Cert.Kernel3Ideal.Dense.xs m c) (Cert.Kernel3Ideal.Dense.hs m c)
      (Cert.Kernel3Ideal.Dense.wg m c) (Cert.Kernel3Ideal.Dense.wu m c) (Cert.Kernel3Ideal.Dense.wd m c),
    (θ_run Cert.Kernel3Ideal.defs _ _).mono (fun _ h c => ⟨(h c).1.trans (Cert.Kernel3Ideal.Dense.final5 m c), (h c).2⟩) (Cert.Kernel3Ideal.Value.run_blocks m g),
    (θ_run Cert.Reference3Ideal.defs _ _).mono (fun _ h c => ⟨(h c).1.trans ((Cert.Reference3Ideal.Read.val_main_v9_eq _ _ _ _ _).trans
        (congr5 (Cert.Reference3Ideal.Read.val_main_v9 (F := Ideal)) (harg c).1 (harg c).2.1 (harg c).2.2.1 (harg c).2.2.2.1 (harg c).2.2.2.2)), (h c).2⟩)
      (Cert.Reference3Ideal.Value.run m' g')⟩

/-! ## The output projection -/

theorem frame_proj_reference (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono (fun _ h => ⟨fun c => (h c).2.2, sem_eq_zero_of_no_sems (by decide) _⟩) (Cert.Reference4Ideal.Value.run m g)

theorem value_proj : Cert.algebraic_Kernel4Ideal_Reference4Ideal (hKernel4Ideal := Cert.Kernel4Ideal.Gen.facts)
    (hReference4Ideal := Cert.Reference4Ideal.Gen.facts) := fun m g m' g' _ harg =>
  ⟨fun c => Cert.Reference4Ideal.Read.val_main_v6 (F := Ideal) (Cert.Kernel4Ideal.Oproj.oa m c) (Cert.Kernel4Ideal.Oproj.ob m c)
      (Cert.Kernel4Ideal.Oproj.oc m c) (Cert.Kernel4Ideal.Oproj.wo m c) (Cert.Kernel4Ideal.Oproj.hs m c),
    fun c => Cert.Reference4Ideal.Read.val_main_v20 (F := Ideal) (Cert.Kernel4Ideal.Oproj.oa m c) (Cert.Kernel4Ideal.Oproj.ob m c)
      (Cert.Kernel4Ideal.Oproj.oc m c) (Cert.Kernel4Ideal.Oproj.wo m c) (Cert.Kernel4Ideal.Oproj.hs m c) (Cert.Kernel4Ideal.Oproj.gs m c),
    (θ_run Cert.Kernel4Ideal.defs _ _).mono (fun _ h c => ⟨(h c).1.trans (Cert.Kernel4Ideal.Oproj.final6 m c),
      (h c).2.1.trans (Cert.Kernel4Ideal.Oproj.final7 m c), (h c).2.2⟩) (Cert.Kernel4Ideal.Value.run_blocks m g),
    (θ_run Cert.Reference4Ideal.defs _ _).mono (fun _ h c => ⟨(h c).1.trans ((Cert.Reference4Ideal.Read.val_main_v6_eq _ _ _ _ _).trans
        (congr5 (Cert.Reference4Ideal.Read.val_main_v6 (F := Ideal)) (harg c).1 (harg c).2.1 (harg c).2.2.1 (harg c).2.2.2.1 (harg c).2.2.2.2.1)),
      (h c).2.1.trans ((Cert.Reference4Ideal.Read.val_main_v20_eq _ _ _ _ _ _).trans
        (congr6 (Cert.Reference4Ideal.Read.val_main_v20 (F := Ideal)) (harg c).1 (harg c).2.1 (harg c).2.2.1 (harg c).2.2.2.1 (harg c).2.2.2.2.1
          (harg c).2.2.2.2.2)), (h c).2.2⟩) (Cert.Reference4Ideal.Value.run m' g')⟩

/-! ## The input projection -/

theorem frame_qkv_reference (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run Cert.Reference5Ideal.defs _ _).mono (fun _ h => ⟨fun c => (h c).2, sem_eq_zero_of_no_sems (by decide) _⟩) (Cert.Reference5Ideal.Value.run m g)

theorem value_qkv : Cert.algebraic_Kernel5Ideal_Reference5Ideal (hKernel5Ideal := Cert.Kernel5Ideal.Gen.facts)
    (hReference5Ideal := Cert.Reference5Ideal.Gen.facts) := fun m g m' g' _ harg =>
  ⟨fun c => Cert.Reference5Ideal.Read.val_main_v99 (F := Ideal) (Cert.Kernel5Ideal.Qkv.hs m c) (Cert.Kernel5Ideal.Qkv.ga m c)
      (Cert.Kernel5Ideal.Qkv.wi m c) (Cert.Kernel5Ideal.Qkv.qg m c) (Cert.Kernel5Ideal.Qkv.kg m c),
    (θ_run Cert.Kernel5Ideal.defs _ _).mono (fun _ h c => ⟨(h c).1.trans (Cert.Kernel5Ideal.Qkv.final5 m c), (h c).2⟩) (Cert.Kernel5Ideal.Value.run_blocks m g),
    (θ_run Cert.Reference5Ideal.defs _ _).mono (fun _ h c => ⟨(h c).1.trans ((Cert.Reference5Ideal.Read.val_main_v99_eq m' c).trans
        (congr5 (Cert.Reference5Ideal.Read.val_main_v99 (F := Ideal)) (harg c).1 (harg c).2.1 (harg c).2.2.1 (harg c).2.2.2.1 (harg c).2.2.2.2)), (h c).2⟩)
      (Cert.Reference5Ideal.Value.run m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_ok.Gen.facts,
  frame_kernel, fun m g _ => frame_ideal m g, fun m g _ => frame_reference m g,
  frame_experts, frame_experts_ideal, fun m g _ => frame_experts_reference m g,
  fun m g _ => frame_experts_reference m g,
  fun m g _ => Cert.Kernel3.Gen.frame m g, fun m g _ => Cert.Kernel3Ideal.Gen.frame m g, fun m g _ => frame_dense_reference m g,
  fun m g _ => Cert.Kernel4.Gen.frame m g, fun m g _ => Cert.Kernel4Ideal.Gen.frame m g, fun m g _ => frame_proj_reference m g,
  fun m g _ => Cert.Kernel5.Gen.frame m g, fun m g _ => Cert.Kernel5Ideal.Gen.frame m g, fun m g _ => frame_qkv_reference m g,
  IdealRules.named_const.statement Cert.KernelIdeal.κ "log2e" .f32 0x3FB8AA3B#32 _ rfl, value,
  trivial, value_experts, trivial, value_dense, trivial, value_proj, trivial, value_qkv⟩

end Cert.Proof

end
